-- ==== Defs.lean ====
def Pre_Attn (m : (ℓ : Loc Cert.Attn.nD Cert.Attn.τ Cert.Attn.sig) → Buf (Elt Bits) ℓ) : Prop :=
  True

def Pre_AttnIdeal (m : (ℓ : Loc Cert.AttnIdeal.nD Cert.AttnIdeal.τ Cert.AttnIdeal.sig) → Buf (Elt Ideal) ℓ) : Prop :=
  True

def Pre_AttnIdeal_finite_queries_keys [hPre_finite_queries_keys : Cert.Pre_finite_queries_keys.Facts] (m : (ℓ : Loc Cert.AttnIdeal.nD Cert.AttnIdeal.τ Cert.AttnIdeal.sig) → Buf (Elt Ideal) ℓ) : Prop :=
  ∀ c : Dev Cert.AttnIdeal.nD,
    (Cert.Pre_finite_queries_keys.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3))).1 = (fun _ => 1#1)
    ∧ (Cert.Pre_finite_queries_keys.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3))).2 = (fun _ => 1#1)

def Pre_AttnRefIdeal (m : (ℓ : Loc Cert.AttnRefIdeal.nD Cert.AttnRefIdeal.τ Cert.AttnRefIdeal.sig) → Buf (Elt Ideal) ℓ) : Prop :=
  True

def Pre_AttnRefIdeal_finite_queries_keys [hPre_finite_queries_keys : Cert.Pre_finite_queries_keys.Facts] (m : (ℓ : Loc Cert.AttnRefIdeal.nD Cert.AttnRefIdeal.τ Cert.AttnRefIdeal.sig) → Buf (Elt Ideal) ℓ) : Prop :=
  ∀ c : Dev Cert.AttnRefIdeal.nD,
    (Cert.Pre_finite_queries_keys.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2)) (m ((c.tc : Thread Cert.AttnRefIdeal.nD Cert.AttnRefIdeal.τ).loc Cert.AttnRefIdeal.main_arg3))).1 = (fun _ => 1#1)
    ∧ (Cert.Pre_finite_queries_keys.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2)) (m ((c.tc : Thread Cert.AttnRefIdeal.nD Cert.AttnRefIdeal.τ).loc Cert.AttnRefIdeal.main_arg3))).2 = (fun _ => 1#1)

def Pre_ProjA (m : (ℓ : Loc Cert.ProjA.nD Cert.ProjA.τ Cert.ProjA.sig) → Buf (Elt Bits) ℓ) : Prop :=
  True

def Pre_ProjAIdeal (m : (ℓ : Loc Cert.ProjAIdeal.nD Cert.ProjAIdeal.τ Cert.ProjAIdeal.sig) → Buf (Elt Ideal) ℓ) : Prop :=
  True

def Pre_ProjARefIdeal (m : (ℓ : Loc Cert.ProjARefIdeal.nD Cert.ProjARefIdeal.τ Cert.ProjARefIdeal.sig) → Buf (Elt Ideal) ℓ) : Prop :=
  True

def Pre_ProjC (m : (ℓ : Loc Cert.ProjC.nD Cert.ProjC.τ Cert.ProjC.sig) → Buf (Elt Bits) ℓ) : Prop :=
  True

def Pre_ProjCIdeal (m : (ℓ : Loc Cert.ProjCIdeal.nD Cert.ProjCIdeal.τ Cert.ProjCIdeal.sig) → Buf (Elt Ideal) ℓ) : Prop :=
  True

def Pre_ProjCRefIdeal (m : (ℓ : Loc Cert.ProjCRefIdeal.nD Cert.ProjCRefIdeal.τ Cert.ProjCRefIdeal.sig) → Buf (Elt Ideal) ℓ) : Prop :=
  True

def Pre_ProjD (m : (ℓ : Loc Cert.ProjD.nD Cert.ProjD.τ Cert.ProjD.sig) → Buf (Elt Bits) ℓ) : Prop :=
  True

def Pre_ProjDIdeal (m : (ℓ : Loc Cert.ProjDIdeal.nD Cert.ProjDIdeal.τ Cert.ProjDIdeal.sig) → Buf (Elt Ideal) ℓ) : Prop :=
  True

def Pre_ProjDRefIdeal (m : (ℓ : Loc Cert.ProjDRefIdeal.nD Cert.ProjDRefIdeal.τ Cert.ProjDRefIdeal.sig) → Buf (Elt Ideal) ℓ) : Prop :=
  True

def Pre_OutA (m : (ℓ : Loc Cert.OutA.nD Cert.OutA.τ Cert.OutA.sig) → Buf (Elt Bits) ℓ) : Prop :=
  True

def Pre_OutAIdeal (m : (ℓ : Loc Cert.OutAIdeal.nD Cert.OutAIdeal.τ Cert.OutAIdeal.sig) → Buf (Elt Ideal) ℓ) : Prop :=
  True

def Pre_OutARefIdeal (m : (ℓ : Loc Cert.OutARefIdeal.nD Cert.OutARefIdeal.τ Cert.OutARefIdeal.sig) → Buf (Elt Ideal) ℓ) : Prop :=
  True

def Pre_OutD (m : (ℓ : Loc Cert.OutD.nD Cert.OutD.τ Cert.OutD.sig) → Buf (Elt Bits) ℓ) : Prop :=
  True

def Pre_OutDIdeal (m : (ℓ : Loc Cert.OutDIdeal.nD Cert.OutDIdeal.τ Cert.OutDIdeal.sig) → Buf (Elt Ideal) ℓ) : Prop :=
  True

def Pre_OutDRefIdeal (m : (ℓ : Loc Cert.OutDRefIdeal.nD Cert.OutDRefIdeal.τ Cert.OutDRefIdeal.sig) → Buf (Elt Ideal) ℓ) : Prop :=
  True

def Pre_Conv (m : (ℓ : Loc Cert.Conv.nD Cert.Conv.τ Cert.Conv.sig) → Buf (Elt Bits) ℓ) : Prop :=
  True

def Pre_ConvIdeal (m : (ℓ : Loc Cert.ConvIdeal.nD Cert.ConvIdeal.τ Cert.ConvIdeal.sig) → Buf (Elt Ideal) ℓ) : Prop :=
  True

def Pre_ConvRefIdeal (m : (ℓ : Loc Cert.ConvRefIdeal.nD Cert.ConvRefIdeal.τ Cert.ConvRefIdeal.sig) → Buf (Elt Ideal) ℓ) : Prop :=
  True

def Pre_Sb (m : (ℓ : Loc Cert.Sb.nD Cert.Sb.τ Cert.Sb.sig) → Buf (Elt Bits) ℓ) : Prop :=
  True

def Pre_SbIdeal (m : (ℓ : Loc Cert.SbIdeal.nD Cert.SbIdeal.τ Cert.SbIdeal.sig) → Buf (Elt Ideal) ℓ) : Prop :=
  True

def Pre_SbIdeal_finite_h [hPre_finite_h : Cert.Pre_finite_h.Facts] (m : (ℓ : Loc Cert.SbIdeal.nD Cert.SbIdeal.τ Cert.SbIdeal.sig) → Buf (Elt Ideal) ℓ) : Prop :=
  ∀ c : Dev Cert.SbIdeal.nD,
    (Cert.Pre_finite_h.fn (F := Ideal) (m ((c.tc : Thread Cert.SbIdeal.nD Cert.SbIdeal.τ).loc Cert.SbIdeal.main_arg0))) = (fun _ => 1#1)

def Pre_SbRefIdeal (m : (ℓ : Loc Cert.SbRefIdeal.nD Cert.SbRefIdeal.τ Cert.SbRefIdeal.sig) → Buf (Elt Ideal) ℓ) : Prop :=
  True

def Pre_SbRefIdeal_finite_h [hPre_finite_h : Cert.Pre_finite_h.Facts] (m : (ℓ : Loc Cert.SbRefIdeal.nD Cert.SbRefIdeal.τ Cert.SbRefIdeal.sig) → Buf (Elt Ideal) ℓ) : Prop :=
  ∀ c : Dev Cert.SbRefIdeal.nD,
    (Cert.Pre_finite_h.fn (F := Ideal) (m ((c.tc : Thread Cert.SbRefIdeal.nD Cert.SbRefIdeal.τ).loc Cert.SbRefIdeal.main_arg0))) = (fun _ => 1#1)

def Pre_RopeC (m : (ℓ : Loc Cert.RopeC.nD Cert.RopeC.τ Cert.RopeC.sig) → Buf (Elt Bits) ℓ) : Prop :=
  True

def Pre_RopeCIdeal (m : (ℓ : Loc Cert.RopeCIdeal.nD Cert.RopeCIdeal.τ Cert.RopeCIdeal.sig) → Buf (Elt Ideal) ℓ) : Prop :=
  True

def Pre_RopeCRefIdeal (m : (ℓ : Loc Cert.RopeCRefIdeal.nD Cert.RopeCRefIdeal.τ Cert.RopeCRefIdeal.sig) → Buf (Elt Ideal) ℓ) : Prop :=
  True

def Pre_RopeD (m : (ℓ : Loc Cert.RopeD.nD Cert.RopeD.τ Cert.RopeD.sig) → Buf (Elt Bits) ℓ) : Prop :=
  True

def Pre_RopeDIdeal (m : (ℓ : Loc Cert.RopeDIdeal.nD Cert.RopeDIdeal.τ Cert.RopeDIdeal.sig) → Buf (Elt Ideal) ℓ) : Prop :=
  True

def Pre_RopeDRefIdeal (m : (ℓ : Loc Cert.RopeDRefIdeal.nD Cert.RopeDRefIdeal.τ Cert.RopeDRefIdeal.sig) → Buf (Elt Ideal) ℓ) : Prop :=
  True

def quiescent_Attn [hAttn : Cert.Attn.Facts] : Prop :=
  ∀ (m : (ℓ : Loc Cert.Attn.nD Cert.Attn.τ Cert.Attn.sig) → Buf (Elt Bits) ℓ) (g : Dev Cert.Attn.nD → PrngReg), Pre_Attn m →
    θ_run (Cert.Attn.defs (F := Bits)) (onTc (τ := Cert.Attn.τ) (Cert.Attn.main (F := Bits))) ⟨m, fun _ => 0, g⟩ (fun r => (∀ c : Dev Cert.Attn.nD,
      r.2.mem ((c.tc : Thread Cert.Attn.nD Cert.Attn.τ).loc Cert.Attn.main_arg0) = m ((c.tc : Thread Cert.Attn.nD Cert.Attn.τ).loc Cert.Attn.main_arg0)
      ∧ r.2.mem ((c.tc : Thread Cert.Attn.nD Cert.Attn.τ).loc Cert.Attn.main_arg1) = m ((c.tc : Thread Cert.Attn.nD Cert.Attn.τ).loc Cert.Attn.main_arg1)
      ∧ r.2.mem ((c.tc : Thread Cert.Attn.nD Cert.Attn.τ).loc Cert.Attn.main_arg2) = m ((c.tc : Thread Cert.Attn.nD Cert.Attn.τ).loc Cert.Attn.main_arg2)
      ∧ r.2.mem ((c.tc : Thread Cert.Attn.nD Cert.Attn.τ).loc Cert.Attn.main_arg3) = m ((c.tc : Thread Cert.Attn.nD Cert.Attn.τ).loc Cert.Attn.main_arg3))
      ∧ r.2.sem = fun _ => 0)

def quiescent_AttnIdeal [hAttnIdeal : Cert.AttnIdeal.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
      ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3))
      ∧ r.2.sem = fun _ => 0)

def quiescent_AttnIdeal_pre_finite_queries_keys [hAttnIdeal : Cert.AttnIdeal.Facts] [hPre_finite_queries_keys : Cert.Pre_finite_queries_keys.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal_finite_queries_keys m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
      ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3))
      ∧ r.2.sem = fun _ => 0)

def quiescent_AttnRefIdeal [hAttnRefIdeal : Cert.AttnRefIdeal.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2)
      ∧ r.2.mem ((c.tc : Thread Cert.AttnRefIdeal.nD Cert.AttnRefIdeal.τ).loc Cert.AttnRefIdeal.main_arg3) = m ((c.tc : Thread Cert.AttnRefIdeal.nD Cert.AttnRefIdeal.τ).loc Cert.AttnRefIdeal.main_arg3))
      ∧ r.2.sem = fun _ => 0)

def quiescent_AttnRefIdeal_pre_finite_queries_keys [hAttnRefIdeal : Cert.AttnRefIdeal.Facts] [hPre_finite_queries_keys : Cert.Pre_finite_queries_keys.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal_finite_queries_keys m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2)
      ∧ r.2.mem ((c.tc : Thread Cert.AttnRefIdeal.nD Cert.AttnRefIdeal.τ).loc Cert.AttnRefIdeal.main_arg3) = m ((c.tc : Thread Cert.AttnRefIdeal.nD Cert.AttnRefIdeal.τ).loc Cert.AttnRefIdeal.main_arg3))
      ∧ r.2.sem = fun _ => 0)

def quiescent_ProjA [hProjA : Cert.ProjA.Facts] : Prop :=
  ∀ (m : (ℓ : Loc Cert.ProjA.nD Cert.ProjA.τ Cert.ProjA.sig) → Buf (Elt Bits) ℓ) (g : Dev Cert.ProjA.nD → PrngReg), Pre_ProjA m →
    θ_run (Cert.ProjA.defs (F := Bits)) (onTc (τ := Cert.ProjA.τ) (Cert.ProjA.main (F := Bits))) ⟨m, fun _ => 0, g⟩ (fun r => (∀ c : Dev Cert.ProjA.nD,
      r.2.mem ((c.tc : Thread Cert.ProjA.nD Cert.ProjA.τ).loc Cert.ProjA.main_arg0) = m ((c.tc : Thread Cert.ProjA.nD Cert.ProjA.τ).loc Cert.ProjA.main_arg0)
      ∧ r.2.mem ((c.tc : Thread Cert.ProjA.nD Cert.ProjA.τ).loc Cert.ProjA.main_arg1) = m ((c.tc : Thread Cert.ProjA.nD Cert.ProjA.τ).loc Cert.ProjA.main_arg1)
      ∧ r.2.mem ((c.tc : Thread Cert.ProjA.nD Cert.ProjA.τ).loc Cert.ProjA.main_arg2) = m ((c.tc : Thread Cert.ProjA.nD Cert.ProjA.τ).loc Cert.ProjA.main_arg2))
      ∧ r.2.sem = fun _ => 0)

def quiescent_ProjAIdeal [hProjAIdeal : Cert.ProjAIdeal.Facts] : Prop :=
  ∀ (m : (ℓ : Loc Cert.ProjAIdeal.nD Cert.ProjAIdeal.τ Cert.ProjAIdeal.sig) → Buf (Elt Ideal) ℓ) (g : Dev Cert.ProjAIdeal.nD → PrngReg), Pre_ProjAIdeal m →
    θ_run (Cert.ProjAIdeal.defs (F := Ideal)) (onTc (τ := Cert.ProjAIdeal.τ) (Cert.ProjAIdeal.main (F := Ideal))) ⟨m, fun _ => 0, g⟩ (fun r => (∀ c : Dev Cert.ProjAIdeal.nD,
      r.2.mem ((c.tc : Thread Cert.ProjAIdeal.nD Cert.ProjAIdeal.τ).loc Cert.ProjAIdeal.main_arg0) = m ((c.tc : Thread Cert.ProjAIdeal.nD Cert.ProjAIdeal.τ).loc Cert.ProjAIdeal.main_arg0)
      ∧ r.2.mem ((c.tc : Thread Cert.ProjAIdeal.nD Cert.ProjAIdeal.τ).loc Cert.ProjAIdeal.main_arg1) = m ((c.tc : Thread Cert.ProjAIdeal.nD Cert.ProjAIdeal.τ).loc Cert.ProjAIdeal.main_arg1)
      ∧ r.2.mem ((c.tc : Thread Cert.ProjAIdeal.nD Cert.ProjAIdeal.τ).loc Cert.ProjAIdeal.main_arg2) = m ((c.tc : Thread Cert.ProjAIdeal.nD Cert.ProjAIdeal.τ).loc Cert.ProjAIdeal.main_arg2))
      ∧ r.2.sem = fun _ => 0)

def quiescent_ProjARefIdeal [hProjARefIdeal : Cert.ProjARefIdeal.Facts] : Prop :=
  ∀ (m : (ℓ : Loc Cert.ProjARefIdeal.nD Cert.ProjARefIdeal.τ Cert.ProjARefIdeal.sig) → Buf (Elt Ideal) ℓ) (g : Dev Cert.ProjARefIdeal.nD → PrngReg), Pre_ProjARefIdeal m →
    θ_run (Cert.ProjARefIdeal.defs (F := Ideal)) (onTc (τ := Cert.ProjARefIdeal.τ) (Cert.ProjARefIdeal.main (F := Ideal))) ⟨m, fun _ => 0, g⟩ (fun r => (∀ c : Dev Cert.ProjARefIdeal.nD,
      r.2.mem ((c.tc : Thread Cert.ProjARefIdeal.nD Cert.ProjARefIdeal.τ).loc Cert.ProjARefIdeal.main_arg0) = m ((c.tc : Thread Cert.ProjARefIdeal.nD Cert.ProjARefIdeal.τ).loc Cert.ProjARefIdeal.main_arg0)
      ∧ r.2.mem ((c.tc : Thread Cert.ProjARefIdeal.nD Cert.ProjARefIdeal.τ).loc Cert.ProjARefIdeal.main_arg1) = m ((c.tc : Thread Cert.ProjARefIdeal.nD Cert.ProjARefIdeal.τ).loc Cert.ProjARefIdeal.main_arg1)
      ∧ r.2.mem ((c.tc : Thread Cert.ProjARefIdeal.nD Cert.ProjARefIdeal.τ).loc Cert.ProjARefIdeal.main_arg2) = m ((c.tc : Thread Cert.ProjARefIdeal.nD Cert.ProjARefIdeal.τ).loc Cert.ProjARefIdeal.main_arg2))
      ∧ r.2.sem = fun _ => 0)

def quiescent_ProjC [hProjC : Cert.ProjC.Facts] : Prop :=
  ∀ (m : (ℓ : Loc Cert.ProjC.nD Cert.ProjC.τ Cert.ProjC.sig) → Buf (Elt Bits) ℓ) (g : Dev Cert.ProjC.nD → PrngReg), Pre_ProjC m →
    θ_run (Cert.ProjC.defs (F := Bits)) (onTc (τ := Cert.ProjC.τ) (Cert.ProjC.main (F := Bits))) ⟨m, fun _ => 0, g⟩ (fun r => (∀ c : Dev Cert.ProjC.nD,
      r.2.mem ((c.tc : Thread Cert.ProjC.nD Cert.ProjC.τ).loc Cert.ProjC.main_arg0) = m ((c.tc : Thread Cert.ProjC.nD Cert.ProjC.τ).loc Cert.ProjC.main_arg0)
      ∧ r.2.mem ((c.tc : Thread Cert.ProjC.nD Cert.ProjC.τ).loc Cert.ProjC.main_arg1) = m ((c.tc : Thread Cert.ProjC.nD Cert.ProjC.τ).loc Cert.ProjC.main_arg1)
      ∧ r.2.mem ((c.tc : Thread Cert.ProjC.nD Cert.ProjC.τ).loc Cert.ProjC.main_arg2) = m ((c.tc : Thread Cert.ProjC.nD Cert.ProjC.τ).loc Cert.ProjC.main_arg2))
      ∧ r.2.sem = fun _ => 0)

def quiescent_ProjCIdeal [hProjCIdeal : Cert.ProjCIdeal.Facts] : Prop :=
  ∀ (m : (ℓ : Loc Cert.ProjCIdeal.nD Cert.ProjCIdeal.τ Cert.ProjCIdeal.sig) → Buf (Elt Ideal) ℓ) (g : Dev Cert.ProjCIdeal.nD → PrngReg), Pre_ProjCIdeal m →
    θ_run (Cert.ProjCIdeal.defs (F := Ideal)) (onTc (τ := Cert.ProjCIdeal.τ) (Cert.ProjCIdeal.main (F := Ideal))) ⟨m, fun _ => 0, g⟩ (fun r => (∀ c : Dev Cert.ProjCIdeal.nD,
      r.2.mem ((c.tc : Thread Cert.ProjCIdeal.nD Cert.ProjCIdeal.τ).loc Cert.ProjCIdeal.main_arg0) = m ((c.tc : Thread Cert.ProjCIdeal.nD Cert.ProjCIdeal.τ).loc Cert.ProjCIdeal.main_arg0)
      ∧ r.2.mem ((c.tc : Thread Cert.ProjCIdeal.nD Cert.ProjCIdeal.τ).loc Cert.ProjCIdeal.main_arg1) = m ((c.tc : Thread Cert.ProjCIdeal.nD Cert.ProjCIdeal.τ).loc Cert.ProjCIdeal.main_arg1)
      ∧ r.2.mem ((c.tc : Thread Cert.ProjCIdeal.nD Cert.ProjCIdeal.τ).loc Cert.ProjCIdeal.main_arg2) = m ((c.tc : Thread Cert.ProjCIdeal.nD Cert.ProjCIdeal.τ).loc Cert.ProjCIdeal.main_arg2))
      ∧ r.2.sem = fun _ => 0)

def quiescent_ProjCRefIdeal [hProjCRefIdeal : Cert.ProjCRefIdeal.Facts] : Prop :=
  ∀ (m : (ℓ : Loc Cert.ProjCRefIdeal.nD Cert.ProjCRefIdeal.τ Cert.ProjCRefIdeal.sig) → Buf (Elt Ideal) ℓ) (g : Dev Cert.ProjCRefIdeal.nD → PrngReg), Pre_ProjCRefIdeal m →
    θ_run (Cert.ProjCRefIdeal.defs (F := Ideal)) (onTc (τ := Cert.ProjCRefIdeal.τ) (Cert.ProjCRefIdeal.main (F := Ideal))) ⟨m, fun _ => 0, g⟩ (fun r => (∀ c : Dev Cert.ProjCRefIdeal.nD,
      r.2.mem ((c.tc : Thread Cert.ProjCRefIdeal.nD Cert.ProjCRefIdeal.τ).loc Cert.ProjCRefIdeal.main_arg0) = m ((c.tc : Thread Cert.ProjCRefIdeal.nD Cert.ProjCRefIdeal.τ).loc Cert.ProjCRefIdeal.main_arg0)
      ∧ r.2.mem ((c.tc : Thread Cert.ProjCRefIdeal.nD Cert.ProjCRefIdeal.τ).loc Cert.ProjCRefIdeal.main_arg1) = m ((c.tc : Thread Cert.ProjCRefIdeal.nD Cert.ProjCRefIdeal.τ).loc Cert.ProjCRefIdeal.main_arg1)
      ∧ r.2.mem ((c.tc : Thread Cert.ProjCRefIdeal.nD Cert.ProjCRefIdeal.τ).loc Cert.ProjCRefIdeal.main_arg2) = m ((c.tc : Thread Cert.ProjCRefIdeal.nD Cert.ProjCRefIdeal.τ).loc Cert.ProjCRefIdeal.main_arg2))
      ∧ r.2.sem = fun _ => 0)

def quiescent_ProjD [hProjD : Cert.ProjD.Facts] : Prop :=
  ∀ (m : (ℓ : Loc Cert.ProjD.nD Cert.ProjD.τ Cert.ProjD.sig) → Buf (Elt Bits) ℓ) (g : Dev Cert.ProjD.nD → PrngReg), Pre_ProjD m →
    θ_run (Cert.ProjD.defs (F := Bits)) (onTc (τ := Cert.ProjD.τ) (Cert.ProjD.main (F := Bits))) ⟨m, fun _ => 0, g⟩ (fun r => (∀ c : Dev Cert.ProjD.nD,
      r.2.mem ((c.tc : Thread Cert.ProjD.nD Cert.ProjD.τ).loc Cert.ProjD.main_arg0) = m ((c.tc : Thread Cert.ProjD.nD Cert.ProjD.τ).loc Cert.ProjD.main_arg0)
      ∧ r.2.mem ((c.tc : Thread Cert.ProjD.nD Cert.ProjD.τ).loc Cert.ProjD.main_arg1) = m ((c.tc : Thread Cert.ProjD.nD Cert.ProjD.τ).loc Cert.ProjD.main_arg1)
      ∧ r.2.mem ((c.tc : Thread Cert.ProjD.nD Cert.ProjD.τ).loc Cert.ProjD.main_arg2) = m ((c.tc : Thread Cert.ProjD.nD Cert.ProjD.τ).loc Cert.ProjD.main_arg2))
      ∧ r.2.sem = fun _ => 0)

def quiescent_ProjDIdeal [hProjDIdeal : Cert.ProjDIdeal.Facts] : Prop :=
  ∀ (m : (ℓ : Loc Cert.ProjDIdeal.nD Cert.ProjDIdeal.τ Cert.ProjDIdeal.sig) → Buf (Elt Ideal) ℓ) (g : Dev Cert.ProjDIdeal.nD → PrngReg), Pre_ProjDIdeal m →
    θ_run (Cert.ProjDIdeal.defs (F := Ideal)) (onTc (τ := Cert.ProjDIdeal.τ) (Cert.ProjDIdeal.main (F := Ideal))) ⟨m, fun _ => 0, g⟩ (fun r => (∀ c : Dev Cert.ProjDIdeal.nD,
      r.2.mem ((c.tc : Thread Cert.ProjDIdeal.nD Cert.ProjDIdeal.τ).loc Cert.ProjDIdeal.main_arg0) = m ((c.tc : Thread Cert.ProjDIdeal.nD Cert.ProjDIdeal.τ).loc Cert.ProjDIdeal.main_arg0)
      ∧ r.2.mem ((c.tc : Thread Cert.ProjDIdeal.nD Cert.ProjDIdeal.τ).loc Cert.ProjDIdeal.main_arg1) = m ((c.tc : Thread Cert.ProjDIdeal.nD Cert.ProjDIdeal.τ).loc Cert.ProjDIdeal.main_arg1)
      ∧ r.2.mem ((c.tc : Thread Cert.ProjDIdeal.nD Cert.ProjDIdeal.τ).loc Cert.ProjDIdeal.main_arg2) = m ((c.tc : Thread Cert.ProjDIdeal.nD Cert.ProjDIdeal.τ).loc Cert.ProjDIdeal.main_arg2))
      ∧ r.2.sem = fun _ => 0)

def quiescent_ProjDRefIdeal [hProjDRefIdeal : Cert.ProjDRefIdeal.Facts] : Prop :=
  ∀ (m : (ℓ : Loc Cert.ProjDRefIdeal.nD Cert.ProjDRefIdeal.τ Cert.ProjDRefIdeal.sig) → Buf (Elt Ideal) ℓ) (g : Dev Cert.ProjDRefIdeal.nD → PrngReg), Pre_ProjDRefIdeal m →
    θ_run (Cert.ProjDRefIdeal.defs (F := Ideal)) (onTc (τ := Cert.ProjDRefIdeal.τ) (Cert.ProjDRefIdeal.main (F := Ideal))) ⟨m, fun _ => 0, g⟩ (fun r => (∀ c : Dev Cert.ProjDRefIdeal.nD,
      r.2.mem ((c.tc : Thread Cert.ProjDRefIdeal.nD Cert.ProjDRefIdeal.τ).loc Cert.ProjDRefIdeal.main_arg0) = m ((c.tc : Thread Cert.ProjDRefIdeal.nD Cert.ProjDRefIdeal.τ).loc Cert.ProjDRefIdeal.main_arg0)
      ∧ r.2.mem ((c.tc : Thread Cert.ProjDRefIdeal.nD Cert.ProjDRefIdeal.τ).loc Cert.ProjDRefIdeal.main_arg1) = m ((c.tc : Thread Cert.ProjDRefIdeal.nD Cert.ProjDRefIdeal.τ).loc Cert.ProjDRefIdeal.main_arg1)
      ∧ r.2.mem ((c.tc : Thread Cert.ProjDRefIdeal.nD Cert.ProjDRefIdeal.τ).loc Cert.ProjDRefIdeal.main_arg2) = m ((c.tc : Thread Cert.ProjDRefIdeal.nD Cert.ProjDRefIdeal.τ).loc Cert.ProjDRefIdeal.main_arg2))
      ∧ r.2.sem = fun _ => 0)

def quiescent_OutA [hOutA : Cert.OutA.Facts] : Prop :=
  ∀ (m : (ℓ : Loc Cert.OutA.nD Cert.OutA.τ Cert.OutA.sig) → Buf (Elt Bits) ℓ) (g : Dev Cert.OutA.nD → PrngReg), Pre_OutA m →
    θ_run (Cert.OutA.defs (F := Bits)) (onTc (τ := Cert.OutA.τ) (Cert.OutA.main (F := Bits))) ⟨m, fun _ => 0, g⟩ (fun r => (∀ c : Dev Cert.OutA.nD,
      r.2.mem ((c.tc : Thread Cert.OutA.nD Cert.OutA.τ).loc Cert.OutA.main_arg0) = m ((c.tc : Thread Cert.OutA.nD Cert.OutA.τ).loc Cert.OutA.main_arg0)
      ∧ r.2.mem ((c.tc : Thread Cert.OutA.nD Cert.OutA.τ).loc Cert.OutA.main_arg1) = m ((c.tc : Thread Cert.OutA.nD Cert.OutA.τ).loc Cert.OutA.main_arg1)
      ∧ r.2.mem ((c.tc : Thread Cert.OutA.nD Cert.OutA.τ).loc Cert.OutA.main_arg2) = m ((c.tc : Thread Cert.OutA.nD Cert.OutA.τ).loc Cert.OutA.main_arg2))
      ∧ r.2.sem = fun _ => 0)

def quiescent_OutAIdeal [hOutAIdeal : Cert.OutAIdeal.Facts] : Prop :=
  ∀ (m : (ℓ : Loc Cert.OutAIdeal.nD Cert.OutAIdeal.τ Cert.OutAIdeal.sig) → Buf (Elt Ideal) ℓ) (g : Dev Cert.OutAIdeal.nD → PrngReg), Pre_OutAIdeal m →
    θ_run (Cert.OutAIdeal.defs (F := Ideal)) (onTc (τ := Cert.OutAIdeal.τ) (Cert.OutAIdeal.main (F := Ideal))) ⟨m, fun _ => 0, g⟩ (fun r => (∀ c : Dev Cert.OutAIdeal.nD,
      r.2.mem ((c.tc : Thread Cert.OutAIdeal.nD Cert.OutAIdeal.τ).loc Cert.OutAIdeal.main_arg0) = m ((c.tc : Thread Cert.OutAIdeal.nD Cert.OutAIdeal.τ).loc Cert.OutAIdeal.main_arg0)
      ∧ r.2.mem ((c.tc : Thread Cert.OutAIdeal.nD Cert.OutAIdeal.τ).loc Cert.OutAIdeal.main_arg1) = m ((c.tc : Thread Cert.OutAIdeal.nD Cert.OutAIdeal.τ).loc Cert.OutAIdeal.main_arg1)
      ∧ r.2.mem ((c.tc : Thread Cert.OutAIdeal.nD Cert.OutAIdeal.τ).loc Cert.OutAIdeal.main_arg2) = m ((c.tc : Thread Cert.OutAIdeal.nD Cert.OutAIdeal.τ).loc Cert.OutAIdeal.main_arg2))
      ∧ r.2.sem = fun _ => 0)

def quiescent_OutARefIdeal [hOutARefIdeal : Cert.OutARefIdeal.Facts] : Prop :=
  ∀ (m : (ℓ : Loc Cert.OutARefIdeal.nD Cert.OutARefIdeal.τ Cert.OutARefIdeal.sig) → Buf (Elt Ideal) ℓ) (g : Dev Cert.OutARefIdeal.nD → PrngReg), Pre_OutARefIdeal m →
    θ_run (Cert.OutARefIdeal.defs (F := Ideal)) (onTc (τ := Cert.OutARefIdeal.τ) (Cert.OutARefIdeal.main (F := Ideal))) ⟨m, fun _ => 0, g⟩ (fun r => (∀ c : Dev Cert.OutARefIdeal.nD,
      r.2.mem ((c.tc : Thread Cert.OutARefIdeal.nD Cert.OutARefIdeal.τ).loc Cert.OutARefIdeal.main_arg0) = m ((c.tc : Thread Cert.OutARefIdeal.nD Cert.OutARefIdeal.τ).loc Cert.OutARefIdeal.main_arg0)
      ∧ r.2.mem ((c.tc : Thread Cert.OutARefIdeal.nD Cert.OutARefIdeal.τ).loc Cert.OutARefIdeal.main_arg1) = m ((c.tc : Thread Cert.OutARefIdeal.nD Cert.OutARefIdeal.τ).loc Cert.OutARefIdeal.main_arg1)
      ∧ r.2.mem ((c.tc : Thread Cert.OutARefIdeal.nD Cert.OutARefIdeal.τ).loc Cert.OutARefIdeal.main_arg2) = m ((c.tc : Thread Cert.OutARefIdeal.nD Cert.OutARefIdeal.τ).loc Cert.OutARefIdeal.main_arg2))
      ∧ r.2.sem = fun _ => 0)

def quiescent_OutD [hOutD : Cert.OutD.Facts] : Prop :=
  ∀ (m : (ℓ : Loc Cert.OutD.nD Cert.OutD.τ Cert.OutD.sig) → Buf (Elt Bits) ℓ) (g : Dev Cert.OutD.nD → PrngReg), Pre_OutD m →
    θ_run (Cert.OutD.defs (F := Bits)) (onTc (τ := Cert.OutD.τ) (Cert.OutD.main (F := Bits))) ⟨m, fun _ => 0, g⟩ (fun r => (∀ c : Dev Cert.OutD.nD,
      r.2.mem ((c.tc : Thread Cert.OutD.nD Cert.OutD.τ).loc Cert.OutD.main_arg0) = m ((c.tc : Thread Cert.OutD.nD Cert.OutD.τ).loc Cert.OutD.main_arg0)
      ∧ r.2.mem ((c.tc : Thread Cert.OutD.nD Cert.OutD.τ).loc Cert.OutD.main_arg1) = m ((c.tc : Thread Cert.OutD.nD Cert.OutD.τ).loc Cert.OutD.main_arg1)
      ∧ r.2.mem ((c.tc : Thread Cert.OutD.nD Cert.OutD.τ).loc Cert.OutD.main_arg2) = m ((c.tc : Thread Cert.OutD.nD Cert.OutD.τ).loc Cert.OutD.main_arg2))
      ∧ r.2.sem = fun _ => 0)

def quiescent_OutDIdeal [hOutDIdeal : Cert.OutDIdeal.Facts] : Prop :=
  ∀ (m : (ℓ : Loc Cert.OutDIdeal.nD Cert.OutDIdeal.τ Cert.OutDIdeal.sig) → Buf (Elt Ideal) ℓ) (g : Dev Cert.OutDIdeal.nD → PrngReg), Pre_OutDIdeal m →
    θ_run (Cert.OutDIdeal.defs (F := Ideal)) (onTc (τ := Cert.OutDIdeal.τ) (Cert.OutDIdeal.main (F := Ideal))) ⟨m, fun _ => 0, g⟩ (fun r => (∀ c : Dev Cert.OutDIdeal.nD,
      r.2.mem ((c.tc : Thread Cert.OutDIdeal.nD Cert.OutDIdeal.τ).loc Cert.OutDIdeal.main_arg0) = m ((c.tc : Thread Cert.OutDIdeal.nD Cert.OutDIdeal.τ).loc Cert.OutDIdeal.main_arg0)
      ∧ r.2.mem ((c.tc : Thread Cert.OutDIdeal.nD Cert.OutDIdeal.τ).loc Cert.OutDIdeal.main_arg1) = m ((c.tc : Thread Cert.OutDIdeal.nD Cert.OutDIdeal.τ).loc Cert.OutDIdeal.main_arg1)
      ∧ r.2.mem ((c.tc : Thread Cert.OutDIdeal.nD Cert.OutDIdeal.τ).loc Cert.OutDIdeal.main_arg2) = m ((c.tc : Thread Cert.OutDIdeal.nD Cert.OutDIdeal.τ).loc Cert.OutDIdeal.main_arg2))
      ∧ r.2.sem = fun _ => 0)

def quiescent_OutDRefIdeal [hOutDRefIdeal : Cert.OutDRefIdeal.Facts] : Prop :=
  ∀ (m : (ℓ : Loc Cert.OutDRefIdeal.nD Cert.OutDRefIdeal.τ Cert.OutDRefIdeal.sig) → Buf (Elt Ideal) ℓ) (g : Dev Cert.OutDRefIdeal.nD → PrngReg), Pre_OutDRefIdeal m →
    θ_run (Cert.OutDRefIdeal.defs (F := Ideal)) (onTc (τ := Cert.OutDRefIdeal.τ) (Cert.OutDRefIdeal.main (F := Ideal))) ⟨m, fun _ => 0, g⟩ (fun r => (∀ c : Dev Cert.OutDRefIdeal.nD,
      r.2.mem ((c.tc : Thread Cert.OutDRefIdeal.nD Cert.OutDRefIdeal.τ).loc Cert.OutDRefIdeal.main_arg0) = m ((c.tc : Thread Cert.OutDRefIdeal.nD Cert.OutDRefIdeal.τ).loc Cert.OutDRefIdeal.main_arg0)
      ∧ r.2.mem ((c.tc : Thread Cert.OutDRefIdeal.nD Cert.OutDRefIdeal.τ).loc Cert.OutDRefIdeal.main_arg1) = m ((c.tc : Thread Cert.OutDRefIdeal.nD Cert.OutDRefIdeal.τ).loc Cert.OutDRefIdeal.main_arg1)
      ∧ r.2.mem ((c.tc : Thread Cert.OutDRefIdeal.nD Cert.OutDRefIdeal.τ).loc Cert.OutDRefIdeal.main_arg2) = m ((c.tc : Thread Cert.OutDRefIdeal.nD Cert.OutDRefIdeal.τ).loc Cert.OutDRefIdeal.main_arg2))
      ∧ r.2.sem = fun _ => 0)

def quiescent_Conv [hConv : Cert.Conv.Facts] : Prop :=
  ∀ (m : (ℓ : Loc Cert.Conv.nD Cert.Conv.τ Cert.Conv.sig) → Buf (Elt Bits) ℓ) (g : Dev Cert.Conv.nD → PrngReg), Pre_Conv m →
    θ_run (Cert.Conv.defs (F := Bits)) (onTc (τ := Cert.Conv.τ) (Cert.Conv.main (F := Bits))) ⟨m, fun _ => 0, g⟩ (fun r => (∀ c : Dev Cert.Conv.nD,
      r.2.mem ((c.tc : Thread Cert.Conv.nD Cert.Conv.τ).loc Cert.Conv.main_arg0) = m ((c.tc : Thread Cert.Conv.nD Cert.Conv.τ).loc Cert.Conv.main_arg0)
      ∧ r.2.mem ((c.tc : Thread Cert.Conv.nD Cert.Conv.τ).loc Cert.Conv.main_arg1) = m ((c.tc : Thread Cert.Conv.nD Cert.Conv.τ).loc Cert.Conv.main_arg1)
      ∧ r.2.mem ((c.tc : Thread Cert.Conv.nD Cert.Conv.τ).loc Cert.Conv.main_arg2) = m ((c.tc : Thread Cert.Conv.nD Cert.Conv.τ).loc Cert.Conv.main_arg2))
      ∧ r.2.sem = fun _ => 0)

def quiescent_ConvIdeal [hConvIdeal : Cert.ConvIdeal.Facts] : Prop :=
  ∀ (m : (ℓ : Loc Cert.ConvIdeal.nD Cert.ConvIdeal.τ Cert.ConvIdeal.sig) → Buf (Elt Ideal) ℓ) (g : Dev Cert.ConvIdeal.nD → PrngReg), Pre_ConvIdeal m →
    θ_run (Cert.ConvIdeal.defs (F := Ideal)) (onTc (τ := Cert.ConvIdeal.τ) (Cert.ConvIdeal.main (F := Ideal))) ⟨m, fun _ => 0, g⟩ (fun r => (∀ c : Dev Cert.ConvIdeal.nD,
      r.2.mem ((c.tc : Thread Cert.ConvIdeal.nD Cert.ConvIdeal.τ).loc Cert.ConvIdeal.main_arg0) = m ((c.tc : Thread Cert.ConvIdeal.nD Cert.ConvIdeal.τ).loc Cert.ConvIdeal.main_arg0)
      ∧ r.2.mem ((c.tc : Thread Cert.ConvIdeal.nD Cert.ConvIdeal.τ).loc Cert.ConvIdeal.main_arg1) = m ((c.tc : Thread Cert.ConvIdeal.nD Cert.ConvIdeal.τ).loc Cert.ConvIdeal.main_arg1)
      ∧ r.2.mem ((c.tc : Thread Cert.ConvIdeal.nD Cert.ConvIdeal.τ).loc Cert.ConvIdeal.main_arg2) = m ((c.tc : Thread Cert.ConvIdeal.nD Cert.ConvIdeal.τ).loc Cert.ConvIdeal.main_arg2))
      ∧ r.2.sem = fun _ => 0)

def quiescent_ConvRefIdeal [hConvRefIdeal : Cert.ConvRefIdeal.Facts] : Prop :=
  ∀ (m : (ℓ : Loc Cert.ConvRefIdeal.nD Cert.ConvRefIdeal.τ Cert.ConvRefIdeal.sig) → Buf (Elt Ideal) ℓ) (g : Dev Cert.ConvRefIdeal.nD → PrngReg), Pre_ConvRefIdeal m →
    θ_run (Cert.ConvRefIdeal.defs (F := Ideal)) (onTc (τ := Cert.ConvRefIdeal.τ) (Cert.ConvRefIdeal.main (F := Ideal))) ⟨m, fun _ => 0, g⟩ (fun r => (∀ c : Dev Cert.ConvRefIdeal.nD,
      r.2.mem ((c.tc : Thread Cert.ConvRefIdeal.nD Cert.ConvRefIdeal.τ).loc Cert.ConvRefIdeal.main_arg0) = m ((c.tc : Thread Cert.ConvRefIdeal.nD Cert.ConvRefIdeal.τ).loc Cert.ConvRefIdeal.main_arg0)
      ∧ r.2.mem ((c.tc : Thread Cert.ConvRefIdeal.nD Cert.ConvRefIdeal.τ).loc Cert.ConvRefIdeal.main_arg1) = m ((c.tc : Thread Cert.ConvRefIdeal.nD Cert.ConvRefIdeal.τ).loc Cert.ConvRefIdeal.main_arg1)
      ∧ r.2.mem ((c.tc : Thread Cert.ConvRefIdeal.nD Cert.ConvRefIdeal.τ).loc Cert.ConvRefIdeal.main_arg2) = m ((c.tc : Thread Cert.ConvRefIdeal.nD Cert.ConvRefIdeal.τ).loc Cert.ConvRefIdeal.main_arg2))
      ∧ r.2.sem = fun _ => 0)

def quiescent_Sb [hSb : Cert.Sb.Facts] : Prop :=
  ∀ (m : (ℓ : Loc Cert.Sb.nD Cert.Sb.τ Cert.Sb.sig) → Buf (Elt Bits) ℓ) (g : Dev Cert.Sb.nD → PrngReg), Pre_Sb m →
    θ_run (Cert.Sb.defs (F := Bits)) (onTc (τ := Cert.Sb.τ) (Cert.Sb.main (F := Bits))) ⟨m, fun _ => 0, g⟩ (fun r => (∀ c : Dev Cert.Sb.nD,
      r.2.mem ((c.tc : Thread Cert.Sb.nD Cert.Sb.τ).loc Cert.Sb.main_arg0) = m ((c.tc : Thread Cert.Sb.nD Cert.Sb.τ).loc Cert.Sb.main_arg0))
      ∧ r.2.sem = fun _ => 0)

def quiescent_SbIdeal [hSbIdeal : Cert.SbIdeal.Facts] : Prop :=
  ∀ (m : (ℓ : Loc Cert.SbIdeal.nD Cert.SbIdeal.τ Cert.SbIdeal.sig) → Buf (Elt Ideal) ℓ) (g : Dev Cert.SbIdeal.nD → PrngReg), Pre_SbIdeal m →
    θ_run (Cert.SbIdeal.defs (F := Ideal)) (onTc (τ := Cert.SbIdeal.τ) (Cert.SbIdeal.main (F := Ideal))) ⟨m, fun _ => 0, g⟩ (fun r => (∀ c : Dev Cert.SbIdeal.nD,
      r.2.mem ((c.tc : Thread Cert.SbIdeal.nD Cert.SbIdeal.τ).loc Cert.SbIdeal.main_arg0) = m ((c.tc : Thread Cert.SbIdeal.nD Cert.SbIdeal.τ).loc Cert.SbIdeal.main_arg0))
      ∧ r.2.sem = fun _ => 0)

def quiescent_SbIdeal_pre_finite_h [hSbIdeal : Cert.SbIdeal.Facts] [hPre_finite_h : Cert.Pre_finite_h.Facts] : Prop :=
  ∀ (m : (ℓ : Loc Cert.SbIdeal.nD Cert.SbIdeal.τ Cert.SbIdeal.sig) → Buf (Elt Ideal) ℓ) (g : Dev Cert.SbIdeal.nD → PrngReg), Pre_SbIdeal_finite_h m →
    θ_run (Cert.SbIdeal.defs (F := Ideal)) (onTc (τ := Cert.SbIdeal.τ) (Cert.SbIdeal.main (F := Ideal))) ⟨m, fun _ => 0, g⟩ (fun r => (∀ c : Dev Cert.SbIdeal.nD,
      r.2.mem ((c.tc : Thread Cert.SbIdeal.nD Cert.SbIdeal.τ).loc Cert.SbIdeal.main_arg0) = m ((c.tc : Thread Cert.SbIdeal.nD Cert.SbIdeal.τ).loc Cert.SbIdeal.main_arg0))
      ∧ r.2.sem = fun _ => 0)

def quiescent_SbRefIdeal [hSbRefIdeal : Cert.SbRefIdeal.Facts] : Prop :=
  ∀ (m : (ℓ : Loc Cert.SbRefIdeal.nD Cert.SbRefIdeal.τ Cert.SbRefIdeal.sig) → Buf (Elt Ideal) ℓ) (g : Dev Cert.SbRefIdeal.nD → PrngReg), Pre_SbRefIdeal m →
    θ_run (Cert.SbRefIdeal.defs (F := Ideal)) (onTc (τ := Cert.SbRefIdeal.τ) (Cert.SbRefIdeal.main (F := Ideal))) ⟨m, fun _ => 0, g⟩ (fun r => (∀ c : Dev Cert.SbRefIdeal.nD,
      r.2.mem ((c.tc : Thread Cert.SbRefIdeal.nD Cert.SbRefIdeal.τ).loc Cert.SbRefIdeal.main_arg0) = m ((c.tc : Thread Cert.SbRefIdeal.nD Cert.SbRefIdeal.τ).loc Cert.SbRefIdeal.main_arg0))
      ∧ r.2.sem = fun _ => 0)

def quiescent_SbRefIdeal_pre_finite_h [hSbRefIdeal : Cert.SbRefIdeal.Facts] [hPre_finite_h : Cert.Pre_finite_h.Facts] : Prop :=
  ∀ (m : (ℓ : Loc Cert.SbRefIdeal.nD Cert.SbRefIdeal.τ Cert.SbRefIdeal.sig) → Buf (Elt Ideal) ℓ) (g : Dev Cert.SbRefIdeal.nD → PrngReg), Pre_SbRefIdeal_finite_h m →
    θ_run (Cert.SbRefIdeal.defs (F := Ideal)) (onTc (τ := Cert.SbRefIdeal.τ) (Cert.SbRefIdeal.main (F := Ideal))) ⟨m, fun _ => 0, g⟩ (fun r => (∀ c : Dev Cert.SbRefIdeal.nD,
      r.2.mem ((c.tc : Thread Cert.SbRefIdeal.nD Cert.SbRefIdeal.τ).loc Cert.SbRefIdeal.main_arg0) = m ((c.tc : Thread Cert.SbRefIdeal.nD Cert.SbRefIdeal.τ).loc Cert.SbRefIdeal.main_arg0))
      ∧ r.2.sem = fun _ => 0)

def quiescent_RopeC [hRopeC : Cert.RopeC.Facts] : Prop :=
  ∀ (m : (ℓ : Loc Cert.RopeC.nD Cert.RopeC.τ Cert.RopeC.sig) → Buf (Elt Bits) ℓ) (g : Dev Cert.RopeC.nD → PrngReg), Pre_RopeC m →
    θ_run (Cert.RopeC.defs (F := Bits)) (onTc (τ := Cert.RopeC.τ) (Cert.RopeC.main (F := Bits))) ⟨m, fun _ => 0, g⟩ (fun r => (∀ c : Dev Cert.RopeC.nD,
      r.2.mem ((c.tc : Thread Cert.RopeC.nD Cert.RopeC.τ).loc Cert.RopeC.main_arg0) = m ((c.tc : Thread Cert.RopeC.nD Cert.RopeC.τ).loc Cert.RopeC.main_arg0))
      ∧ r.2.sem = fun _ => 0)

def quiescent_RopeCIdeal [hRopeCIdeal : Cert.RopeCIdeal.Facts] : Prop :=
  ∀ (m : (ℓ : Loc Cert.RopeCIdeal.nD Cert.RopeCIdeal.τ Cert.RopeCIdeal.sig) → Buf (Elt Ideal) ℓ) (g : Dev Cert.RopeCIdeal.nD → PrngReg), Pre_RopeCIdeal m →
    θ_run (Cert.RopeCIdeal.defs (F := Ideal)) (onTc (τ := Cert.RopeCIdeal.τ) (Cert.RopeCIdeal.main (F := Ideal))) ⟨m, fun _ => 0, g⟩ (fun r => (∀ c : Dev Cert.RopeCIdeal.nD,
      r.2.mem ((c.tc : Thread Cert.RopeCIdeal.nD Cert.RopeCIdeal.τ).loc Cert.RopeCIdeal.main_arg0) = m ((c.tc : Thread Cert.RopeCIdeal.nD Cert.RopeCIdeal.τ).loc Cert.RopeCIdeal.main_arg0))
      ∧ r.2.sem = fun _ => 0)

def quiescent_RopeCRefIdeal [hRopeCRefIdeal : Cert.RopeCRefIdeal.Facts] : Prop :=
  ∀ (m : (ℓ : Loc Cert.RopeCRefIdeal.nD Cert.RopeCRefIdeal.τ Cert.RopeCRefIdeal.sig) → Buf (Elt Ideal) ℓ) (g : Dev Cert.RopeCRefIdeal.nD → PrngReg), Pre_RopeCRefIdeal m →
    θ_run (Cert.RopeCRefIdeal.defs (F := Ideal)) (onTc (τ := Cert.RopeCRefIdeal.τ) (Cert.RopeCRefIdeal.main (F := Ideal))) ⟨m, fun _ => 0, g⟩ (fun r => (∀ c : Dev Cert.RopeCRefIdeal.nD,
      r.2.mem ((c.tc : Thread Cert.RopeCRefIdeal.nD Cert.RopeCRefIdeal.τ).loc Cert.RopeCRefIdeal.main_arg0) = m ((c.tc : Thread Cert.RopeCRefIdeal.nD Cert.RopeCRefIdeal.τ).loc Cert.RopeCRefIdeal.main_arg0))
      ∧ r.2.sem = fun _ => 0)

def quiescent_RopeD [hRopeD : Cert.RopeD.Facts] : Prop :=
  ∀ (m : (ℓ : Loc Cert.RopeD.nD Cert.RopeD.τ Cert.RopeD.sig) → Buf (Elt Bits) ℓ) (g : Dev Cert.RopeD.nD → PrngReg), Pre_RopeD m →
    θ_run (Cert.RopeD.defs (F := Bits)) (onTc (τ := Cert.RopeD.τ) (Cert.RopeD.main (F := Bits))) ⟨m, fun _ => 0, g⟩ (fun r => (∀ c : Dev Cert.RopeD.nD,
      r.2.mem ((c.tc : Thread Cert.RopeD.nD Cert.RopeD.τ).loc Cert.RopeD.main_arg0) = m ((c.tc : Thread Cert.RopeD.nD Cert.RopeD.τ).loc Cert.RopeD.main_arg0))
      ∧ r.2.sem = fun _ => 0)

def quiescent_RopeDIdeal [hRopeDIdeal : Cert.RopeDIdeal.Facts] : Prop :=
  ∀ (m : (ℓ : Loc Cert.RopeDIdeal.nD Cert.RopeDIdeal.τ Cert.RopeDIdeal.sig) → Buf (Elt Ideal) ℓ) (g : Dev Cert.RopeDIdeal.nD → PrngReg), Pre_RopeDIdeal m →
    θ_run (Cert.RopeDIdeal.defs (F := Ideal)) (onTc (τ := Cert.RopeDIdeal.τ) (Cert.RopeDIdeal.main (F := Ideal))) ⟨m, fun _ => 0, g⟩ (fun r => (∀ c : Dev Cert.RopeDIdeal.nD,
      r.2.mem ((c.tc : Thread Cert.RopeDIdeal.nD Cert.RopeDIdeal.τ).loc Cert.RopeDIdeal.main_arg0) = m ((c.tc : Thread Cert.RopeDIdeal.nD Cert.RopeDIdeal.τ).loc Cert.RopeDIdeal.main_arg0))
      ∧ r.2.sem = fun _ => 0)

def quiescent_RopeDRefIdeal [hRopeDRefIdeal : Cert.RopeDRefIdeal.Facts] : Prop :=
  ∀ (m : (ℓ : Loc Cert.RopeDRefIdeal.nD Cert.RopeDRefIdeal.τ Cert.RopeDRefIdeal.sig) → Buf (Elt Ideal) ℓ) (g : Dev Cert.RopeDRefIdeal.nD → PrngReg), Pre_RopeDRefIdeal m →
    θ_run (Cert.RopeDRefIdeal.defs (F := Ideal)) (onTc (τ := Cert.RopeDRefIdeal.τ) (Cert.RopeDRefIdeal.main (F := Ideal))) ⟨m, fun _ => 0, g⟩ (fun r => (∀ c : Dev Cert.RopeDRefIdeal.nD,
      r.2.mem ((c.tc : Thread Cert.RopeDRefIdeal.nD Cert.RopeDRefIdeal.τ).loc Cert.RopeDRefIdeal.main_arg0) = m ((c.tc : Thread Cert.RopeDRefIdeal.nD Cert.RopeDRefIdeal.τ).loc Cert.RopeDRefIdeal.main_arg0))
      ∧ r.2.sem = fun _ => 0)

def preserves_Attn_AttnIdeal : Prop :=
  True

def algebraic_AttnIdeal_AttnRefIdeal_pre_finite_queries_keys [hAttnIdeal : Cert.AttnIdeal.Facts] [hAttnRefIdeal : Cert.AttnRefIdeal.Facts] [hPre_finite_queries_keys : Cert.Pre_finite_queries_keys.Facts] : Prop :=
  ∀ (m : (ℓ : Loc Cert.AttnIdeal.nD Cert.AttnIdeal.τ Cert.AttnIdeal.sig) → Buf (Elt Ideal) ℓ) (g : Dev Cert.AttnIdeal.nD → PrngReg)
    (m' : (ℓ : Loc Cert.AttnRefIdeal.nD Cert.AttnRefIdeal.τ Cert.AttnRefIdeal.sig) → Buf (Elt Ideal) ℓ) (g' : Dev Cert.AttnRefIdeal.nD → PrngReg), Pre_AttnIdeal_finite_queries_keys m →
    (∀ c : Dev Cert.AttnIdeal.nD,
      m' ((c.tc : Thread Cert.AttnRefIdeal.nD Cert.AttnRefIdeal.τ).loc Cert.AttnRefIdeal.main_arg0) = m ((c.tc : Thread Cert.AttnIdeal.nD Cert.AttnIdeal.τ).loc Cert.AttnIdeal.main_arg0)
      ∧ m' ((c.tc : Thread Cert.AttnRefIdeal.nD Cert.AttnRefIdeal.τ).loc Cert.AttnRefIdeal.main_arg1) = m ((c.tc : Thread Cert.AttnIdeal.nD Cert.AttnIdeal.τ).loc Cert.AttnIdeal.main_arg1)
      ∧ m' ((c.tc : Thread Cert.AttnRefIdeal.nD Cert.AttnRefIdeal.τ).loc Cert.AttnRefIdeal.main_arg2) = m ((c.tc : Thread Cert.AttnIdeal.nD Cert.AttnIdeal.τ).loc Cert.AttnIdeal.main_arg2)
      ∧ m' ((c.tc : Thread Cert.AttnRefIdeal.nD Cert.AttnRefIdeal.τ).loc Cert.AttnRefIdeal.main_arg3) = m ((c.tc : Thread Cert.AttnIdeal.nD Cert.AttnIdeal.τ).loc Cert.AttnIdeal.main_arg3)) →
    ∃ (v0 : (c : Dev Cert.AttnIdeal.nD) → Buf (Elt Ideal) ((c.tc : Thread Cert.AttnIdeal.nD Cert.AttnIdeal.τ).loc Cert.AttnIdeal.main_v0)),
      θ_run (Cert.AttnIdeal.defs (F := Ideal)) (onTc (τ := Cert.AttnIdeal.τ) (Cert.AttnIdeal.main (F := Ideal))) ⟨m, fun _ => 0, g⟩ (fun r => ∀ c : Dev Cert.AttnIdeal.nD,
          r.2.mem ((c.tc : Thread Cert.AttnIdeal.nD Cert.AttnIdeal.τ).loc Cert.AttnIdeal.main_v0) = v0 c
          ∧ r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
          ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
          ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
          ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3))
      ∧ θ_run (Cert.AttnRefIdeal.defs (F := Ideal)) (onTc (τ := Cert.AttnRefIdeal.τ) (Cert.AttnRefIdeal.main (F := Ideal))) ⟨m', fun _ => 0, g'⟩ (fun r => ∀ c : Dev Cert.AttnRefIdeal.nD,
          r.2.mem ((c.tc : Thread Cert.AttnRefIdeal.nD Cert.AttnRefIdeal.τ).loc Cert.AttnRefIdeal.main_v35) = v0 c
          ∧ r.2.mem ((c.tc : Thread Cert.AttnRefIdeal.nD Cert.AttnRefIdeal.τ).loc Cert.AttnRefIdeal.main_arg0) = m' ((c.tc : Thread Cert.AttnRefIdeal.nD Cert.AttnRefIdeal.τ).loc Cert.AttnRefIdeal.main_arg0)
          ∧ r.2.mem ((c.tc : Thread Cert.AttnRefIdeal.nD Cert.AttnRefIdeal.τ).loc Cert.AttnRefIdeal.main_arg1) = m' ((c.tc : Thread Cert.AttnRefIdeal.nD Cert.AttnRefIdeal.τ).loc Cert.AttnRefIdeal.main_arg1)
          ∧ r.2.mem ((c.tc : Thread Cert.AttnRefIdeal.nD Cert.AttnRefIdeal.τ).loc Cert.AttnRefIdeal.main_arg2) = m' ((c.tc : Thread Cert.AttnRefIdeal.nD Cert.AttnRefIdeal.τ).loc Cert.AttnRefIdeal.main_arg2)
          ∧ r.2.mem ((c.tc : Thread Cert.AttnRefIdeal.nD Cert.AttnRefIdeal.τ).loc Cert.AttnRefIdeal.main_arg3) = m' ((c.tc : Thread Cert.AttnRefIdeal.nD Cert.AttnRefIdeal.τ).loc Cert.AttnRefIdeal.main_arg3))

def preserves_ProjA_ProjAIdeal : Prop :=
  True

def algebraic_ProjAIdeal_ProjARefIdeal [hProjAIdeal : Cert.ProjAIdeal.Facts] [hProjARefIdeal : Cert.ProjARefIdeal.Facts] : Prop :=
  ∀ (m : (ℓ : Loc Cert.ProjAIdeal.nD Cert.ProjAIdeal.τ Cert.ProjAIdeal.sig) → Buf (Elt Ideal) ℓ) (g : Dev Cert.ProjAIdeal.nD → PrngReg)
    (m' : (ℓ : Loc Cert.ProjARefIdeal.nD Cert.ProjARefIdeal.τ Cert.ProjARefIdeal.sig) → Buf (Elt Ideal) ℓ) (g' : Dev Cert.ProjARefIdeal.nD → PrngReg), Pre_ProjAIdeal m →
    (∀ c : Dev Cert.ProjAIdeal.nD,
      m' ((c.tc : Thread Cert.ProjARefIdeal.nD Cert.ProjARefIdeal.τ).loc Cert.ProjARefIdeal.main_arg0) = m ((c.tc : Thread Cert.ProjAIdeal.nD Cert.ProjAIdeal.τ).loc Cert.ProjAIdeal.main_arg0)
      ∧ m' ((c.tc : Thread Cert.ProjARefIdeal.nD Cert.ProjARefIdeal.τ).loc Cert.ProjARefIdeal.main_arg1) = m ((c.tc : Thread Cert.ProjAIdeal.nD Cert.ProjAIdeal.τ).loc Cert.ProjAIdeal.main_arg1)
      ∧ m' ((c.tc : Thread Cert.ProjARefIdeal.nD Cert.ProjARefIdeal.τ).loc Cert.ProjARefIdeal.main_arg2) = m ((c.tc : Thread Cert.ProjAIdeal.nD Cert.ProjAIdeal.τ).loc Cert.ProjAIdeal.main_arg2)) →
    ∃ (v0 : (c : Dev Cert.ProjAIdeal.nD) → Buf (Elt Ideal) ((c.tc : Thread Cert.ProjAIdeal.nD Cert.ProjAIdeal.τ).loc Cert.ProjAIdeal.main_v2)),
      θ_run (Cert.ProjAIdeal.defs (F := Ideal)) (onTc (τ := Cert.ProjAIdeal.τ) (Cert.ProjAIdeal.main (F := Ideal))) ⟨m, fun _ => 0, g⟩ (fun r => ∀ c : Dev Cert.ProjAIdeal.nD,
          r.2.mem ((c.tc : Thread Cert.ProjAIdeal.nD Cert.ProjAIdeal.τ).loc Cert.ProjAIdeal.main_v2) = v0 c
          ∧ r.2.mem ((c.tc : Thread Cert.ProjAIdeal.nD Cert.ProjAIdeal.τ).loc Cert.ProjAIdeal.main_arg0) = m ((c.tc : Thread Cert.ProjAIdeal.nD Cert.ProjAIdeal.τ).loc Cert.ProjAIdeal.main_arg0)
          ∧ r.2.mem ((c.tc : Thread Cert.ProjAIdeal.nD Cert.ProjAIdeal.τ).loc Cert.ProjAIdeal.main_arg1) = m ((c.tc : Thread Cert.ProjAIdeal.nD Cert.ProjAIdeal.τ).loc Cert.ProjAIdeal.main_arg1)
          ∧ r.2.mem ((c.tc : Thread Cert.ProjAIdeal.nD Cert.ProjAIdeal.τ).loc Cert.ProjAIdeal.main_arg2) = m ((c.tc : Thread Cert.ProjAIdeal.nD Cert.ProjAIdeal.τ).loc Cert.ProjAIdeal.main_arg2))
      ∧ θ_run (Cert.ProjARefIdeal.defs (F := Ideal)) (onTc (τ := Cert.ProjARefIdeal.τ) (Cert.ProjARefIdeal.main (F := Ideal))) ⟨m', fun _ => 0, g'⟩ (fun r => ∀ c : Dev Cert.ProjARefIdeal.nD,
          r.2.mem ((c.tc : Thread Cert.ProjARefIdeal.nD Cert.ProjARefIdeal.τ).loc Cert.ProjARefIdeal.main_v14) = v0 c
          ∧ r.2.mem ((c.tc : Thread Cert.ProjARefIdeal.nD Cert.ProjARefIdeal.τ).loc Cert.ProjARefIdeal.main_arg0) = m' ((c.tc : Thread Cert.ProjARefIdeal.nD Cert.ProjARefIdeal.τ).loc Cert.ProjARefIdeal.main_arg0)
          ∧ r.2.mem ((c.tc : Thread Cert.ProjARefIdeal.nD Cert.ProjARefIdeal.τ).loc Cert.ProjARefIdeal.main_arg1) = m' ((c.tc : Thread Cert.ProjARefIdeal.nD Cert.ProjARefIdeal.τ).loc Cert.ProjARefIdeal.main_arg1)
          ∧ r.2.mem ((c.tc : Thread Cert.ProjARefIdeal.nD Cert.ProjARefIdeal.τ).loc Cert.ProjARefIdeal.main_arg2) = m' ((c.tc : Thread Cert.ProjARefIdeal.nD Cert.ProjARefIdeal.τ).loc Cert.ProjARefIdeal.main_arg2))

def preserves_ProjC_ProjCIdeal : Prop :=
  True

def algebraic_ProjCIdeal_ProjCRefIdeal [hProjCIdeal : Cert.ProjCIdeal.Facts] [hProjCRefIdeal : Cert.ProjCRefIdeal.Facts] : Prop :=
  ∀ (m : (ℓ : Loc Cert.ProjCIdeal.nD Cert.ProjCIdeal.τ Cert.ProjCIdeal.sig) → Buf (Elt Ideal) ℓ) (g : Dev Cert.ProjCIdeal.nD → PrngReg)
    (m' : (ℓ : Loc Cert.ProjCRefIdeal.nD Cert.ProjCRefIdeal.τ Cert.ProjCRefIdeal.sig) → Buf (Elt Ideal) ℓ) (g' : Dev Cert.ProjCRefIdeal.nD → PrngReg), Pre_ProjCIdeal m →
    (∀ c : Dev Cert.ProjCIdeal.nD,
      m' ((c.tc : Thread Cert.ProjCRefIdeal.nD Cert.ProjCRefIdeal.τ).loc Cert.ProjCRefIdeal.main_arg0) = m ((c.tc : Thread Cert.ProjCIdeal.nD Cert.ProjCIdeal.τ).loc Cert.ProjCIdeal.main_arg0)
      ∧ m' ((c.tc : Thread Cert.ProjCRefIdeal.nD Cert.ProjCRefIdeal.τ).loc Cert.ProjCRefIdeal.main_arg1) = m ((c.tc : Thread Cert.ProjCIdeal.nD Cert.ProjCIdeal.τ).loc Cert.ProjCIdeal.main_arg1)
      ∧ m' ((c.tc : Thread Cert.ProjCRefIdeal.nD Cert.ProjCRefIdeal.τ).loc Cert.ProjCRefIdeal.main_arg2) = m ((c.tc : Thread Cert.ProjCIdeal.nD Cert.ProjCIdeal.τ).loc Cert.ProjCIdeal.main_arg2)) →
    ∃ (v0 : (c : Dev Cert.ProjCIdeal.nD) → Buf (Elt Ideal) ((c.tc : Thread Cert.ProjCIdeal.nD Cert.ProjCIdeal.τ).loc Cert.ProjCIdeal.main_v2)),
      θ_run (Cert.ProjCIdeal.defs (F := Ideal)) (onTc (τ := Cert.ProjCIdeal.τ) (Cert.ProjCIdeal.main (F := Ideal))) ⟨m, fun _ => 0, g⟩ (fun r => ∀ c : Dev Cert.ProjCIdeal.nD,
          r.2.mem ((c.tc : Thread Cert.ProjCIdeal.nD Cert.ProjCIdeal.τ).loc Cert.ProjCIdeal.main_v2) = v0 c
          ∧ r.2.mem ((c.tc : Thread Cert.ProjCIdeal.nD Cert.ProjCIdeal.τ).loc Cert.ProjCIdeal.main_arg0) = m ((c.tc : Thread Cert.ProjCIdeal.nD Cert.ProjCIdeal.τ).loc Cert.ProjCIdeal.main_arg0)
          ∧ r.2.mem ((c.tc : Thread Cert.ProjCIdeal.nD Cert.ProjCIdeal.τ).loc Cert.ProjCIdeal.main_arg1) = m ((c.tc : Thread Cert.ProjCIdeal.nD Cert.ProjCIdeal.τ).loc Cert.ProjCIdeal.main_arg1)
          ∧ r.2.mem ((c.tc : Thread Cert.ProjCIdeal.nD Cert.ProjCIdeal.τ).loc Cert.ProjCIdeal.main_arg2) = m ((c.tc : Thread Cert.ProjCIdeal.nD Cert.ProjCIdeal.τ).loc Cert.ProjCIdeal.main_arg2))
      ∧ θ_run (Cert.ProjCRefIdeal.defs (F := Ideal)) (onTc (τ := Cert.ProjCRefIdeal.τ) (Cert.ProjCRefIdeal.main (F := Ideal))) ⟨m', fun _ => 0, g'⟩ (fun r => ∀ c : Dev Cert.ProjCRefIdeal.nD,
          r.2.mem ((c.tc : Thread Cert.ProjCRefIdeal.nD Cert.ProjCRefIdeal.τ).loc Cert.ProjCRefIdeal.main_v14) = v0 c
          ∧ r.2.mem ((c.tc : Thread Cert.ProjCRefIdeal.nD Cert.ProjCRefIdeal.τ).loc Cert.ProjCRefIdeal.main_arg0) = m' ((c.tc : Thread Cert.ProjCRefIdeal.nD Cert.ProjCRefIdeal.τ).loc Cert.ProjCRefIdeal.main_arg0)
          ∧ r.2.mem ((c.tc : Thread Cert.ProjCRefIdeal.nD Cert.ProjCRefIdeal.τ).loc Cert.ProjCRefIdeal.main_arg1) = m' ((c.tc : Thread Cert.ProjCRefIdeal.nD Cert.ProjCRefIdeal.τ).loc Cert.ProjCRefIdeal.main_arg1)
          ∧ r.2.mem ((c.tc : Thread Cert.ProjCRefIdeal.nD Cert.ProjCRefIdeal.τ).loc Cert.ProjCRefIdeal.main_arg2) = m' ((c.tc : Thread Cert.ProjCRefIdeal.nD Cert.ProjCRefIdeal.τ).loc Cert.ProjCRefIdeal.main_arg2))

def preserves_ProjD_ProjDIdeal : Prop :=
  True

def algebraic_ProjDIdeal_ProjDRefIdeal [hProjDIdeal : Cert.ProjDIdeal.Facts] [hProjDRefIdeal : Cert.ProjDRefIdeal.Facts] : Prop :=
  ∀ (m : (ℓ : Loc Cert.ProjDIdeal.nD Cert.ProjDIdeal.τ Cert.ProjDIdeal.sig) → Buf (Elt Ideal) ℓ) (g : Dev Cert.ProjDIdeal.nD → PrngReg)
    (m' : (ℓ : Loc Cert.ProjDRefIdeal.nD Cert.ProjDRefIdeal.τ Cert.ProjDRefIdeal.sig) → Buf (Elt Ideal) ℓ) (g' : Dev Cert.ProjDRefIdeal.nD → PrngReg), Pre_ProjDIdeal m →
    (∀ c : Dev Cert.ProjDIdeal.nD,
      m' ((c.tc : Thread Cert.ProjDRefIdeal.nD Cert.ProjDRefIdeal.τ).loc Cert.ProjDRefIdeal.main_arg0) = m ((c.tc : Thread Cert.ProjDIdeal.nD Cert.ProjDIdeal.τ).loc Cert.ProjDIdeal.main_arg0)
      ∧ m' ((c.tc : Thread Cert.ProjDRefIdeal.nD Cert.ProjDRefIdeal.τ).loc Cert.ProjDRefIdeal.main_arg1) = m ((c.tc : Thread Cert.ProjDIdeal.nD Cert.ProjDIdeal.τ).loc Cert.ProjDIdeal.main_arg1)
      ∧ m' ((c.tc : Thread Cert.ProjDRefIdeal.nD Cert.ProjDRefIdeal.τ).loc Cert.ProjDRefIdeal.main_arg2) = m ((c.tc : Thread Cert.ProjDIdeal.nD Cert.ProjDIdeal.τ).loc Cert.ProjDIdeal.main_arg2)) →
    ∃ (v0 : (c : Dev Cert.ProjDIdeal.nD) → Buf (Elt Ideal) ((c.tc : Thread Cert.ProjDIdeal.nD Cert.ProjDIdeal.τ).loc Cert.ProjDIdeal.main_v2)),
      θ_run (Cert.ProjDIdeal.defs (F := Ideal)) (onTc (τ := Cert.ProjDIdeal.τ) (Cert.ProjDIdeal.main (F := Ideal))) ⟨m, fun _ => 0, g⟩ (fun r => ∀ c : Dev Cert.ProjDIdeal.nD,
          r.2.mem ((c.tc : Thread Cert.ProjDIdeal.nD Cert.ProjDIdeal.τ).loc Cert.ProjDIdeal.main_v2) = v0 c
          ∧ r.2.mem ((c.tc : Thread Cert.ProjDIdeal.nD Cert.ProjDIdeal.τ).loc Cert.ProjDIdeal.main_arg0) = m ((c.tc : Thread Cert.ProjDIdeal.nD Cert.ProjDIdeal.τ).loc Cert.ProjDIdeal.main_arg0)
          ∧ r.2.mem ((c.tc : Thread Cert.ProjDIdeal.nD Cert.ProjDIdeal.τ).loc Cert.ProjDIdeal.main_arg1) = m ((c.tc : Thread Cert.ProjDIdeal.nD Cert.ProjDIdeal.τ).loc Cert.ProjDIdeal.main_arg1)
          ∧ r.2.mem ((c.tc : Thread Cert.ProjDIdeal.nD Cert.ProjDIdeal.τ).loc Cert.ProjDIdeal.main_arg2) = m ((c.tc : Thread Cert.ProjDIdeal.nD Cert.ProjDIdeal.τ).loc Cert.ProjDIdeal.main_arg2))
      ∧ θ_run (Cert.ProjDRefIdeal.defs (F := Ideal)) (onTc (τ := Cert.ProjDRefIdeal.τ) (Cert.ProjDRefIdeal.main (F := Ideal))) ⟨m', fun _ => 0, g'⟩ (fun r => ∀ c : Dev Cert.ProjDRefIdeal.nD,
          r.2.mem ((c.tc : Thread Cert.ProjDRefIdeal.nD Cert.ProjDRefIdeal.τ).loc Cert.ProjDRefIdeal.main_v14) = v0 c
          ∧ r.2.mem ((c.tc : Thread Cert.ProjDRefIdeal.nD Cert.ProjDRefIdeal.τ).loc Cert.ProjDRefIdeal.main_arg0) = m' ((c.tc : Thread Cert.ProjDRefIdeal.nD Cert.ProjDRefIdeal.τ).loc Cert.ProjDRefIdeal.main_arg0)
          ∧ r.2.mem ((c.tc : Thread Cert.ProjDRefIdeal.nD Cert.ProjDRefIdeal.τ).loc Cert.ProjDRefIdeal.main_arg1) = m' ((c.tc : Thread Cert.ProjDRefIdeal.nD Cert.ProjDRefIdeal.τ).loc Cert.ProjDRefIdeal.main_arg1)
          ∧ r.2.mem ((c.tc : Thread Cert.ProjDRefIdeal.nD Cert.ProjDRefIdeal.τ).loc Cert.ProjDRefIdeal.main_arg2) = m' ((c.tc : Thread Cert.ProjDRefIdeal.nD Cert.ProjDRefIdeal.τ).loc Cert.ProjDRefIdeal.main_arg2))

def preserves_OutA_OutAIdeal : Prop :=
  True

def algebraic_OutAIdeal_OutARefIdeal [hOutAIdeal : Cert.OutAIdeal.Facts] [hOutARefIdeal : Cert.OutARefIdeal.Facts] : Prop :=
  ∀ (m : (ℓ : Loc Cert.OutAIdeal.nD Cert.OutAIdeal.τ Cert.OutAIdeal.sig) → Buf (Elt Ideal) ℓ) (g : Dev Cert.OutAIdeal.nD → PrngReg)
    (m' : (ℓ : Loc Cert.OutARefIdeal.nD Cert.OutARefIdeal.τ Cert.OutARefIdeal.sig) → Buf (Elt Ideal) ℓ) (g' : Dev Cert.OutARefIdeal.nD → PrngReg), Pre_OutAIdeal m →
    (∀ c : Dev Cert.OutAIdeal.nD,
      m' ((c.tc : Thread Cert.OutARefIdeal.nD Cert.OutARefIdeal.τ).loc Cert.OutARefIdeal.main_arg0) = m ((c.tc : Thread Cert.OutAIdeal.nD Cert.OutAIdeal.τ).loc Cert.OutAIdeal.main_arg0)
      ∧ m' ((c.tc : Thread Cert.OutARefIdeal.nD Cert.OutARefIdeal.τ).loc Cert.OutARefIdeal.main_arg1) = m ((c.tc : Thread Cert.OutAIdeal.nD Cert.OutAIdeal.τ).loc Cert.OutAIdeal.main_arg1)
      ∧ m' ((c.tc : Thread Cert.OutARefIdeal.nD Cert.OutARefIdeal.τ).loc Cert.OutARefIdeal.main_arg2) = m ((c.tc : Thread Cert.OutAIdeal.nD Cert.OutAIdeal.τ).loc Cert.OutAIdeal.main_arg2)) →
    ∃ (v0 : (c : Dev Cert.OutAIdeal.nD) → Buf (Elt Ideal) ((c.tc : Thread Cert.OutAIdeal.nD Cert.OutAIdeal.τ).loc Cert.OutAIdeal.main_v1)),
      θ_run (Cert.OutAIdeal.defs (F := Ideal)) (onTc (τ := Cert.OutAIdeal.τ) (Cert.OutAIdeal.main (F := Ideal))) ⟨m, fun _ => 0, g⟩ (fun r => ∀ c : Dev Cert.OutAIdeal.nD,
          r.2.mem ((c.tc : Thread Cert.OutAIdeal.nD Cert.OutAIdeal.τ).loc Cert.OutAIdeal.main_v1) = v0 c
          ∧ r.2.mem ((c.tc : Thread Cert.OutAIdeal.nD Cert.OutAIdeal.τ).loc Cert.OutAIdeal.main_arg0) = m ((c.tc : Thread Cert.OutAIdeal.nD Cert.OutAIdeal.τ).loc Cert.OutAIdeal.main_arg0)
          ∧ r.2.mem ((c.tc : Thread Cert.OutAIdeal.nD Cert.OutAIdeal.τ).loc Cert.OutAIdeal.main_arg1) = m ((c.tc : Thread Cert.OutAIdeal.nD Cert.OutAIdeal.τ).loc Cert.OutAIdeal.main_arg1)
          ∧ r.2.mem ((c.tc : Thread Cert.OutAIdeal.nD Cert.OutAIdeal.τ).loc Cert.OutAIdeal.main_arg2) = m ((c.tc : Thread Cert.OutAIdeal.nD Cert.OutAIdeal.τ).loc Cert.OutAIdeal.main_arg2))
      ∧ θ_run (Cert.OutARefIdeal.defs (F := Ideal)) (onTc (τ := Cert.OutARefIdeal.τ) (Cert.OutARefIdeal.main (F := Ideal))) ⟨m', fun _ => 0, g'⟩ (fun r => ∀ c : Dev Cert.OutARefIdeal.nD,
          r.2.mem ((c.tc : Thread Cert.OutARefIdeal.nD Cert.OutARefIdeal.τ).loc Cert.OutARefIdeal.main_v2) = v0 c
          ∧ r.2.mem ((c.tc : Thread Cert.OutARefIdeal.nD Cert.OutARefIdeal.τ).loc Cert.OutARefIdeal.main_arg0) = m' ((c.tc : Thread Cert.OutARefIdeal.nD Cert.OutARefIdeal.τ).loc Cert.OutARefIdeal.main_arg0)
          ∧ r.2.mem ((c.tc : Thread Cert.OutARefIdeal.nD Cert.OutARefIdeal.τ).loc Cert.OutARefIdeal.main_arg1) = m' ((c.tc : Thread Cert.OutARefIdeal.nD Cert.OutARefIdeal.τ).loc Cert.OutARefIdeal.main_arg1)
          ∧ r.2.mem ((c.tc : Thread Cert.OutARefIdeal.nD Cert.OutARefIdeal.τ).loc Cert.OutARefIdeal.main_arg2) = m' ((c.tc : Thread Cert.OutARefIdeal.nD Cert.OutARefIdeal.τ).loc Cert.OutARefIdeal.main_arg2))

def preserves_OutD_OutDIdeal : Prop :=
  True

def algebraic_OutDIdeal_OutDRefIdeal [hOutDIdeal : Cert.OutDIdeal.Facts] [hOutDRefIdeal : Cert.OutDRefIdeal.Facts] : Prop :=
  ∀ (m : (ℓ : Loc Cert.OutDIdeal.nD Cert.OutDIdeal.τ Cert.OutDIdeal.sig) → Buf (Elt Ideal) ℓ) (g : Dev Cert.OutDIdeal.nD → PrngReg)
    (m' : (ℓ : Loc Cert.OutDRefIdeal.nD Cert.OutDRefIdeal.τ Cert.OutDRefIdeal.sig) → Buf (Elt Ideal) ℓ) (g' : Dev Cert.OutDRefIdeal.nD → PrngReg), Pre_OutDIdeal m →
    (∀ c : Dev Cert.OutDIdeal.nD,
      m' ((c.tc : Thread Cert.OutDRefIdeal.nD Cert.OutDRefIdeal.τ).loc Cert.OutDRefIdeal.main_arg0) = m ((c.tc : Thread Cert.OutDIdeal.nD Cert.OutDIdeal.τ).loc Cert.OutDIdeal.main_arg0)
      ∧ m' ((c.tc : Thread Cert.OutDRefIdeal.nD Cert.OutDRefIdeal.τ).loc Cert.OutDRefIdeal.main_arg1) = m ((c.tc : Thread Cert.OutDIdeal.nD Cert.OutDIdeal.τ).loc Cert.OutDIdeal.main_arg1)
      ∧ m' ((c.tc : Thread Cert.OutDRefIdeal.nD Cert.OutDRefIdeal.τ).loc Cert.OutDRefIdeal.main_arg2) = m ((c.tc : Thread Cert.OutDIdeal.nD Cert.OutDIdeal.τ).loc Cert.OutDIdeal.main_arg2)) →
    ∃ (v0 : (c : Dev Cert.OutDIdeal.nD) → Buf (Elt Ideal) ((c.tc : Thread Cert.OutDIdeal.nD Cert.OutDIdeal.τ).loc Cert.OutDIdeal.main_v1)),
      θ_run (Cert.OutDIdeal.defs (F := Ideal)) (onTc (τ := Cert.OutDIdeal.τ) (Cert.OutDIdeal.main (F := Ideal))) ⟨m, fun _ => 0, g⟩ (fun r => ∀ c : Dev Cert.OutDIdeal.nD,
          r.2.mem ((c.tc : Thread Cert.OutDIdeal.nD Cert.OutDIdeal.τ).loc Cert.OutDIdeal.main_v1) = v0 c
          ∧ r.2.mem ((c.tc : Thread Cert.OutDIdeal.nD Cert.OutDIdeal.τ).loc Cert.OutDIdeal.main_arg0) = m ((c.tc : Thread Cert.OutDIdeal.nD Cert.OutDIdeal.τ).loc Cert.OutDIdeal.main_arg0)
          ∧ r.2.mem ((c.tc : Thread Cert.OutDIdeal.nD Cert.OutDIdeal.τ).loc Cert.OutDIdeal.main_arg1) = m ((c.tc : Thread Cert.OutDIdeal.nD Cert.OutDIdeal.τ).loc Cert.OutDIdeal.main_arg1)
          ∧ r.2.mem ((c.tc : Thread Cert.OutDIdeal.nD Cert.OutDIdeal.τ).loc Cert.OutDIdeal.main_arg2) = m ((c.tc : Thread Cert.OutDIdeal.nD Cert.OutDIdeal.τ).loc Cert.OutDIdeal.main_arg2))
      ∧ θ_run (Cert.OutDRefIdeal.defs (F := Ideal)) (onTc (τ := Cert.OutDRefIdeal.τ) (Cert.OutDRefIdeal.main (F := Ideal))) ⟨m', fun _ => 0, g'⟩ (fun r => ∀ c : Dev Cert.OutDRefIdeal.nD,
          r.2.mem ((c.tc : Thread Cert.OutDRefIdeal.nD Cert.OutDRefIdeal.τ).loc Cert.OutDRefIdeal.main_v2) = v0 c
          ∧ r.2.mem ((c.tc : Thread Cert.OutDRefIdeal.nD Cert.OutDRefIdeal.τ).loc Cert.OutDRefIdeal.main_arg0) = m' ((c.tc : Thread Cert.OutDRefIdeal.nD Cert.OutDRefIdeal.τ).loc Cert.OutDRefIdeal.main_arg0)
          ∧ r.2.mem ((c.tc : Thread Cert.OutDRefIdeal.nD Cert.OutDRefIdeal.τ).loc Cert.OutDRefIdeal.main_arg1) = m' ((c.tc : Thread Cert.OutDRefIdeal.nD Cert.OutDRefIdeal.τ).loc Cert.OutDRefIdeal.main_arg1)
          ∧ r.2.mem ((c.tc : Thread Cert.OutDRefIdeal.nD Cert.OutDRefIdeal.τ).loc Cert.OutDRefIdeal.main_arg2) = m' ((c.tc : Thread Cert.OutDRefIdeal.nD Cert.OutDRefIdeal.τ).loc Cert.OutDRefIdeal.main_arg2))

def preserves_Conv_ConvIdeal : Prop :=
  True

def algebraic_ConvIdeal_ConvRefIdeal [hConvIdeal : Cert.ConvIdeal.Facts] [hConvRefIdeal : Cert.ConvRefIdeal.Facts] : Prop :=
  ∀ (m : (ℓ : Loc Cert.ConvIdeal.nD Cert.ConvIdeal.τ Cert.ConvIdeal.sig) → Buf (Elt Ideal) ℓ) (g : Dev Cert.ConvIdeal.nD → PrngReg)
    (m' : (ℓ : Loc Cert.ConvRefIdeal.nD Cert.ConvRefIdeal.τ Cert.ConvRefIdeal.sig) → Buf (Elt Ideal) ℓ) (g' : Dev Cert.ConvRefIdeal.nD → PrngReg), Pre_ConvIdeal m →
    (∀ c : Dev Cert.ConvIdeal.nD,
      m' ((c.tc : Thread Cert.ConvRefIdeal.nD Cert.ConvRefIdeal.τ).loc Cert.ConvRefIdeal.main_arg0) = m ((c.tc : Thread Cert.ConvIdeal.nD Cert.ConvIdeal.τ).loc Cert.ConvIdeal.main_arg0)
      ∧ m' ((c.tc : Thread Cert.ConvRefIdeal.nD Cert.ConvRefIdeal.τ).loc Cert.ConvRefIdeal.main_arg1) = m ((c.tc : Thread Cert.ConvIdeal.nD Cert.ConvIdeal.τ).loc Cert.ConvIdeal.main_arg1)
      ∧ m' ((c.tc : Thread Cert.ConvRefIdeal.nD Cert.ConvRefIdeal.τ).loc Cert.ConvRefIdeal.main_arg2) = m ((c.tc : Thread Cert.ConvIdeal.nD Cert.ConvIdeal.τ).loc Cert.ConvIdeal.main_arg2)) →
    ∃ (v0 : (c : Dev Cert.ConvIdeal.nD) → Buf (Elt Ideal) ((c.tc : Thread Cert.ConvIdeal.nD Cert.ConvIdeal.τ).loc Cert.ConvIdeal.main_v1)),
      θ_run (Cert.ConvIdeal.defs (F := Ideal)) (onTc (τ := Cert.ConvIdeal.τ) (Cert.ConvIdeal.main (F := Ideal))) ⟨m, fun _ => 0, g⟩ (fun r => ∀ c : Dev Cert.ConvIdeal.nD,
          r.2.mem ((c.tc : Thread Cert.ConvIdeal.nD Cert.ConvIdeal.τ).loc Cert.ConvIdeal.main_v1) = v0 c
          ∧ r.2.mem ((c.tc : Thread Cert.ConvIdeal.nD Cert.ConvIdeal.τ).loc Cert.ConvIdeal.main_arg0) = m ((c.tc : Thread Cert.ConvIdeal.nD Cert.ConvIdeal.τ).loc Cert.ConvIdeal.main_arg0)
          ∧ r.2.mem ((c.tc : Thread Cert.ConvIdeal.nD Cert.ConvIdeal.τ).loc Cert.ConvIdeal.main_arg1) = m ((c.tc : Thread Cert.ConvIdeal.nD Cert.ConvIdeal.τ).loc Cert.ConvIdeal.main_arg1)
          ∧ r.2.mem ((c.tc : Thread Cert.ConvIdeal.nD Cert.ConvIdeal.τ).loc Cert.ConvIdeal.main_arg2) = m ((c.tc : Thread Cert.ConvIdeal.nD Cert.ConvIdeal.τ).loc Cert.ConvIdeal.main_arg2))
      ∧ θ_run (Cert.ConvRefIdeal.defs (F := Ideal)) (onTc (τ := Cert.ConvRefIdeal.τ) (Cert.ConvRefIdeal.main (F := Ideal))) ⟨m', fun _ => 0, g'⟩ (fun r => ∀ c : Dev Cert.ConvRefIdeal.nD,
          r.2.mem ((c.tc : Thread Cert.ConvRefIdeal.nD Cert.ConvRefIdeal.τ).loc Cert.ConvRefIdeal.main_v35) = v0 c
          ∧ r.2.mem ((c.tc : Thread Cert.ConvRefIdeal.nD Cert.ConvRefIdeal.τ).loc Cert.ConvRefIdeal.main_arg0) = m' ((c.tc : Thread Cert.ConvRefIdeal.nD Cert.ConvRefIdeal.τ).loc Cert.ConvRefIdeal.main_arg0)
          ∧ r.2.mem ((c.tc : Thread Cert.ConvRefIdeal.nD Cert.ConvRefIdeal.τ).loc Cert.ConvRefIdeal.main_arg1) = m' ((c.tc : Thread Cert.ConvRefIdeal.nD Cert.ConvRefIdeal.τ).loc Cert.ConvRefIdeal.main_arg1)
          ∧ r.2.mem ((c.tc : Thread Cert.ConvRefIdeal.nD Cert.ConvRefIdeal.τ).loc Cert.ConvRefIdeal.main_arg2) = m' ((c.tc : Thread Cert.ConvRefIdeal.nD Cert.ConvRefIdeal.τ).loc Cert.ConvRefIdeal.main_arg2))

def preserves_Sb_SbIdeal : Prop :=
  IdealRules.named_const.Statement Cert.SbIdeal.κ "log_zero" .f32 0xC2D00000#32 ⊥

def algebraic_SbIdeal_SbRefIdeal_pre_finite_h [hSbIdeal : Cert.SbIdeal.Facts] [hSbRefIdeal : Cert.SbRefIdeal.Facts] [hPre_finite_h : Cert.Pre_finite_h.Facts] : Prop :=
  ∀ (m : (ℓ : Loc Cert.SbIdeal.nD Cert.SbIdeal.τ Cert.SbIdeal.sig) → Buf (Elt Ideal) ℓ) (g : Dev Cert.SbIdeal.nD → PrngReg)
    (m' : (ℓ : Loc Cert.SbRefIdeal.nD Cert.SbRefIdeal.τ Cert.SbRefIdeal.sig) → Buf (Elt Ideal) ℓ) (g' : Dev Cert.SbRefIdeal.nD → PrngReg), Pre_SbIdeal_finite_h m →
    (∀ c : Dev Cert.SbIdeal.nD,
      m' ((c.tc : Thread Cert.SbRefIdeal.nD Cert.SbRefIdeal.τ).loc Cert.SbRefIdeal.main_arg0) = m ((c.tc : Thread Cert.SbIdeal.nD Cert.SbIdeal.τ).loc Cert.SbIdeal.main_arg0)) →
    ∃ (v0 : (c : Dev Cert.SbIdeal.nD) → Buf (Elt Ideal) ((c.tc : Thread Cert.SbIdeal.nD Cert.SbIdeal.τ).loc Cert.SbIdeal.main_v0)),
      θ_run (Cert.SbIdeal.defs (F := Ideal)) (onTc (τ := Cert.SbIdeal.τ) (Cert.SbIdeal.main (F := Ideal))) ⟨m, fun _ => 0, g⟩ (fun r => ∀ c : Dev Cert.SbIdeal.nD,
          r.2.mem ((c.tc : Thread Cert.SbIdeal.nD Cert.SbIdeal.τ).loc Cert.SbIdeal.main_v0) = v0 c
          ∧ r.2.mem ((c.tc : Thread Cert.SbIdeal.nD Cert.SbIdeal.τ).loc Cert.SbIdeal.main_arg0) = m ((c.tc : Thread Cert.SbIdeal.nD Cert.SbIdeal.τ).loc Cert.SbIdeal.main_arg0))
      ∧ θ_run (Cert.SbRefIdeal.defs (F := Ideal)) (onTc (τ := Cert.SbRefIdeal.τ) (Cert.SbRefIdeal.main (F := Ideal))) ⟨m', fun _ => 0, g'⟩ (fun r => ∀ c : Dev Cert.SbRefIdeal.nD,
          r.2.mem ((c.tc : Thread Cert.SbRefIdeal.nD Cert.SbRefIdeal.τ).loc Cert.SbRefIdeal.main_v32) = v0 c
          ∧ r.2.mem ((c.tc : Thread Cert.SbRefIdeal.nD Cert.SbRefIdeal.τ).loc Cert.SbRefIdeal.main_arg0) = m' ((c.tc : Thread Cert.SbRefIdeal.nD Cert.SbRefIdeal.τ).loc Cert.SbRefIdeal.main_arg0))

def preserves_RopeC_RopeCIdeal : Prop :=
  True

def algebraic_RopeCIdeal_RopeCRefIdeal [hRopeCIdeal : Cert.RopeCIdeal.Facts] [hRopeCRefIdeal : Cert.RopeCRefIdeal.Facts] : Prop :=
  ∀ (m : (ℓ : Loc Cert.RopeCIdeal.nD Cert.RopeCIdeal.τ Cert.RopeCIdeal.sig) → Buf (Elt Ideal) ℓ) (g : Dev Cert.RopeCIdeal.nD → PrngReg)
    (m' : (ℓ : Loc Cert.RopeCRefIdeal.nD Cert.RopeCRefIdeal.τ Cert.RopeCRefIdeal.sig) → Buf (Elt Ideal) ℓ) (g' : Dev Cert.RopeCRefIdeal.nD → PrngReg), Pre_RopeCIdeal m →
    (∀ c : Dev Cert.RopeCIdeal.nD,
      m' ((c.tc : Thread Cert.RopeCRefIdeal.nD Cert.RopeCRefIdeal.τ).loc Cert.RopeCRefIdeal.main_arg0) = m ((c.tc : Thread Cert.RopeCIdeal.nD Cert.RopeCIdeal.τ).loc Cert.RopeCIdeal.main_arg0)) →
    ∃ (v0 : (c : Dev Cert.RopeCIdeal.nD) → Buf (Elt Ideal) ((c.tc : Thread Cert.RopeCIdeal.nD Cert.RopeCIdeal.τ).loc Cert.RopeCIdeal.main_v2_0)) (v1 : (c : Dev Cert.RopeCIdeal.nD) → Buf (Elt Ideal) ((c.tc : Thread Cert.RopeCIdeal.nD Cert.RopeCIdeal.τ).loc Cert.RopeCIdeal.main_v2_1)),
      θ_run (Cert.RopeCIdeal.defs (F := Ideal)) (onTc (τ := Cert.RopeCIdeal.τ) (Cert.RopeCIdeal.main (F := Ideal))) ⟨m, fun _ => 0, g⟩ (fun r => ∀ c : Dev Cert.RopeCIdeal.nD,
          r.2.mem ((c.tc : Thread Cert.RopeCIdeal.nD Cert.RopeCIdeal.τ).loc Cert.RopeCIdeal.main_v2_0) = v0 c
          ∧ r.2.mem ((c.tc : Thread Cert.RopeCIdeal.nD Cert.RopeCIdeal.τ).loc Cert.RopeCIdeal.main_v2_1) = v1 c
          ∧ r.2.mem ((c.tc : Thread Cert.RopeCIdeal.nD Cert.RopeCIdeal.τ).loc Cert.RopeCIdeal.main_arg0) = m ((c.tc : Thread Cert.RopeCIdeal.nD Cert.RopeCIdeal.τ).loc Cert.RopeCIdeal.main_arg0))
      ∧ θ_run (Cert.RopeCRefIdeal.defs (F := Ideal)) (onTc (τ := Cert.RopeCRefIdeal.τ) (Cert.RopeCRefIdeal.main (F := Ideal))) ⟨m', fun _ => 0, g'⟩ (fun r => ∀ c : Dev Cert.RopeCRefIdeal.nD,
          r.2.mem ((c.tc : Thread Cert.RopeCRefIdeal.nD Cert.RopeCRefIdeal.τ).loc Cert.RopeCRefIdeal.main_v15) = v0 c
          ∧ r.2.mem ((c.tc : Thread Cert.RopeCRefIdeal.nD Cert.RopeCRefIdeal.τ).loc Cert.RopeCRefIdeal.main_v16) = v1 c
          ∧ r.2.mem ((c.tc : Thread Cert.RopeCRefIdeal.nD Cert.RopeCRefIdeal.τ).loc Cert.RopeCRefIdeal.main_arg0) = m' ((c.tc : Thread Cert.RopeCRefIdeal.nD Cert.RopeCRefIdeal.τ).loc Cert.RopeCRefIdeal.main_arg0))

def preserves_RopeD_RopeDIdeal : Prop :=
  True

def algebraic_RopeDIdeal_RopeDRefIdeal [hRopeDIdeal : Cert.RopeDIdeal.Facts] [hRopeDRefIdeal : Cert.RopeDRefIdeal.Facts] : Prop :=
  ∀ (m : (ℓ : Loc Cert.RopeDIdeal.nD Cert.RopeDIdeal.τ Cert.RopeDIdeal.sig) → Buf (Elt Ideal) ℓ) (g : Dev Cert.RopeDIdeal.nD → PrngReg)
    (m' : (ℓ : Loc Cert.RopeDRefIdeal.nD Cert.RopeDRefIdeal.τ Cert.RopeDRefIdeal.sig) → Buf (Elt Ideal) ℓ) (g' : Dev Cert.RopeDRefIdeal.nD → PrngReg), Pre_RopeDIdeal m →
    (∀ c : Dev Cert.RopeDIdeal.nD,
      m' ((c.tc : Thread Cert.RopeDRefIdeal.nD Cert.RopeDRefIdeal.τ).loc Cert.RopeDRefIdeal.main_arg0) = m ((c.tc : Thread Cert.RopeDIdeal.nD Cert.RopeDIdeal.τ).loc Cert.RopeDIdeal.main_arg0)) →
    ∃ (v0 : (c : Dev Cert.RopeDIdeal.nD) → Buf (Elt Ideal) ((c.tc : Thread Cert.RopeDIdeal.nD Cert.RopeDIdeal.τ).loc Cert.RopeDIdeal.main_v2_0)) (v1 : (c : Dev Cert.RopeDIdeal.nD) → Buf (Elt Ideal) ((c.tc : Thread Cert.RopeDIdeal.nD Cert.RopeDIdeal.τ).loc Cert.RopeDIdeal.main_v2_1)),
      θ_run (Cert.RopeDIdeal.defs (F := Ideal)) (onTc (τ := Cert.RopeDIdeal.τ) (Cert.RopeDIdeal.main (F := Ideal))) ⟨m, fun _ => 0, g⟩ (fun r => ∀ c : Dev Cert.RopeDIdeal.nD,
          r.2.mem ((c.tc : Thread Cert.RopeDIdeal.nD Cert.RopeDIdeal.τ).loc Cert.RopeDIdeal.main_v2_0) = v0 c
          ∧ r.2.mem ((c.tc : Thread Cert.RopeDIdeal.nD Cert.RopeDIdeal.τ).loc Cert.RopeDIdeal.main_v2_1) = v1 c
          ∧ r.2.mem ((c.tc : Thread Cert.RopeDIdeal.nD Cert.RopeDIdeal.τ).loc Cert.RopeDIdeal.main_arg0) = m ((c.tc : Thread Cert.RopeDIdeal.nD Cert.RopeDIdeal.τ).loc Cert.RopeDIdeal.main_arg0))
      ∧ θ_run (Cert.RopeDRefIdeal.defs (F := Ideal)) (onTc (τ := Cert.RopeDRefIdeal.τ) (Cert.RopeDRefIdeal.main (F := Ideal))) ⟨m', fun _ => 0, g'⟩ (fun r => ∀ c : Dev Cert.RopeDRefIdeal.nD,
          r.2.mem ((c.tc : Thread Cert.RopeDRefIdeal.nD Cert.RopeDRefIdeal.τ).loc Cert.RopeDRefIdeal.main_v13) = v0 c
          ∧ r.2.mem ((c.tc : Thread Cert.RopeDRefIdeal.nD Cert.RopeDRefIdeal.τ).loc Cert.RopeDRefIdeal.main_v14) = v1 c
          ∧ r.2.mem ((c.tc : Thread Cert.RopeDRefIdeal.nD Cert.RopeDRefIdeal.τ).loc Cert.RopeDRefIdeal.main_arg0) = m' ((c.tc : Thread Cert.RopeDRefIdeal.nD Cert.RopeDRefIdeal.τ).loc Cert.RopeDRefIdeal.main_arg0))

def Claim : Prop :=
  ∃ (hAttn : Cert.Attn.Facts) (hAttnIdeal : Cert.AttnIdeal.Facts) (hAttnRefIdeal : Cert.AttnRefIdeal.Facts) (hProjA : Cert.ProjA.Facts) (hProjAIdeal : Cert.ProjAIdeal.Facts) (hProjARefIdeal : Cert.ProjARefIdeal.Facts) (hProjC : Cert.ProjC.Facts) (hProjCIdeal : Cert.ProjCIdeal.Facts) (hProjCRefIdeal : Cert.ProjCRefIdeal.Facts) (hProjD : Cert.ProjD.Facts) (hProjDIdeal : Cert.ProjDIdeal.Facts) (hProjDRefIdeal : Cert.ProjDRefIdeal.Facts) (hOutA : Cert.OutA.Facts) (hOutAIdeal : Cert.OutAIdeal.Facts) (hOutARefIdeal : Cert.OutARefIdeal.Facts) (hOutD : Cert.OutD.Facts) (hOutDIdeal : Cert.OutDIdeal.Facts) (hOutDRefIdeal : Cert.OutDRefIdeal.Facts) (hConv : Cert.Conv.Facts) (hConvIdeal : Cert.ConvIdeal.Facts) (hConvRefIdeal : Cert.ConvRefIdeal.Facts) (hSb : Cert.Sb.Facts) (hSbIdeal : Cert.SbIdeal.Facts) (hSbRefIdeal : Cert.SbRefIdeal.Facts) (hRopeC : Cert.RopeC.Facts) (hRopeCIdeal : Cert.RopeCIdeal.Facts) (hRopeCRefIdeal : Cert.RopeCRefIdeal.Facts) (hRopeD : Cert.RopeD.Facts) (hRopeDIdeal : Cert.RopeDIdeal.Facts) (hRopeDRefIdeal : Cert.RopeDRefIdeal.Facts) (hPre_finite_queries_keys : Cert.Pre_finite_queries_keys.Facts) (hPre_finite_h : Cert.Pre_finite_h.Facts),
    quiescent_Attn (hAttn := hAttn)
    ∧ quiescent_AttnIdeal (hAttnIdeal := hAttnIdeal)
    ∧ quiescent_AttnIdeal_pre_finite_queries_keys (hAttnIdeal := hAttnIdeal) (hPre_finite_queries_keys := hPre_finite_queries_keys)
    ∧ quiescent_AttnRefIdeal (hAttnRefIdeal := hAttnRefIdeal)
    ∧ quiescent_AttnRefIdeal_pre_finite_queries_keys (hAttnRefIdeal := hAttnRefIdeal) (hPre_finite_queries_keys := hPre_finite_queries_keys)
    ∧ quiescent_ProjA (hProjA := hProjA)
    ∧ quiescent_ProjAIdeal (hProjAIdeal := hProjAIdeal)
    ∧ quiescent_ProjARefIdeal (hProjARefIdeal := hProjARefIdeal)
    ∧ quiescent_ProjC (hProjC := hProjC)
    ∧ quiescent_ProjCIdeal (hProjCIdeal := hProjCIdeal)
    ∧ quiescent_ProjCRefIdeal (hProjCRefIdeal := hProjCRefIdeal)
    ∧ quiescent_ProjD (hProjD := hProjD)
    ∧ quiescent_ProjDIdeal (hProjDIdeal := hProjDIdeal)
    ∧ quiescent_ProjDRefIdeal (hProjDRefIdeal := hProjDRefIdeal)
    ∧ quiescent_OutA (hOutA := hOutA)
    ∧ quiescent_OutAIdeal (hOutAIdeal := hOutAIdeal)
    ∧ quiescent_OutARefIdeal (hOutARefIdeal := hOutARefIdeal)
    ∧ quiescent_OutD (hOutD := hOutD)
    ∧ quiescent_OutDIdeal (hOutDIdeal := hOutDIdeal)
    ∧ quiescent_OutDRefIdeal (hOutDRefIdeal := hOutDRefIdeal)
    ∧ quiescent_Conv (hConv := hConv)
    ∧ quiescent_ConvIdeal (hConvIdeal := hConvIdeal)
    ∧ quiescent_ConvRefIdeal (hConvRefIdeal := hConvRefIdeal)
    ∧ quiescent_Sb (hSb := hSb)
    ∧ quiescent_SbIdeal (hSbIdeal := hSbIdeal)
    ∧ quiescent_SbIdeal_pre_finite_h (hSbIdeal := hSbIdeal) (hPre_finite_h := hPre_finite_h)
    ∧ quiescent_SbRefIdeal (hSbRefIdeal := hSbRefIdeal)
    ∧ quiescent_SbRefIdeal_pre_finite_h (hSbRefIdeal := hSbRefIdeal) (hPre_finite_h := hPre_finite_h)
    ∧ quiescent_RopeC (hRopeC := hRopeC)
    ∧ quiescent_RopeCIdeal (hRopeCIdeal := hRopeCIdeal)
    ∧ quiescent_RopeCRefIdeal (hRopeCRefIdeal := hRopeCRefIdeal)
    ∧ quiescent_RopeD (hRopeD := hRopeD)
    ∧ quiescent_RopeDIdeal (hRopeDIdeal := hRopeDIdeal)
    ∧ quiescent_RopeDRefIdeal (hRopeDRefIdeal := hRopeDRefIdeal)
    ∧ preserves_Attn_AttnIdeal
    ∧ algebraic_AttnIdeal_AttnRefIdeal_pre_finite_queries_keys (hAttnIdeal := hAttnIdeal) (hAttnRefIdeal := hAttnRefIdeal) (hPre_finite_queries_keys := hPre_finite_queries_keys)
    ∧ preserves_ProjA_ProjAIdeal
    ∧ algebraic_ProjAIdeal_ProjARefIdeal (hProjAIdeal := hProjAIdeal) (hProjARefIdeal := hProjARefIdeal)
    ∧ preserves_ProjC_ProjCIdeal
    ∧ algebraic_ProjCIdeal_ProjCRefIdeal (hProjCIdeal := hProjCIdeal) (hProjCRefIdeal := hProjCRefIdeal)
    ∧ preserves_ProjD_ProjDIdeal
    ∧ algebraic_ProjDIdeal_ProjDRefIdeal (hProjDIdeal := hProjDIdeal) (hProjDRefIdeal := hProjDRefIdeal)
    ∧ preserves_OutA_OutAIdeal
    ∧ algebraic_OutAIdeal_OutARefIdeal (hOutAIdeal := hOutAIdeal) (hOutARefIdeal := hOutARefIdeal)
    ∧ preserves_OutD_OutDIdeal
    ∧ algebraic_OutDIdeal_OutDRefIdeal (hOutDIdeal := hOutDIdeal) (hOutDRefIdeal := hOutDRefIdeal)
    ∧ preserves_Conv_ConvIdeal
    ∧ algebraic_ConvIdeal_ConvRefIdeal (hConvIdeal := hConvIdeal) (hConvRefIdeal := hConvRefIdeal)
    ∧ preserves_Sb_SbIdeal
    ∧ algebraic_SbIdeal_SbRefIdeal_pre_finite_h (hSbIdeal := hSbIdeal) (hSbRefIdeal := hSbRefIdeal) (hPre_finite_h := hPre_finite_h)
    ∧ preserves_RopeC_RopeCIdeal
    ∧ algebraic_RopeCIdeal_RopeCRefIdeal (hRopeCIdeal := hRopeCIdeal) (hRopeCRefIdeal := hRopeCRefIdeal)
    ∧ preserves_RopeD_RopeDIdeal
    ∧ algebraic_RopeDIdeal_RopeDRefIdeal (hRopeDIdeal := hRopeDIdeal) (hRopeDRefIdeal := hRopeDRefIdeal)
-- ==== Pre_finite_h.lean ====
abbrev S16384x8192 : Shape := ⟨2, ![16384, 8192]⟩
abbrev S16384x4096 : Shape := ⟨2, ![16384, 4096]⟩
abbrev S_ : Shape := ⟨0, ![]⟩

class Facts : Prop where
  slices_S16384x8192_S16384x4096_0_0 : S16384x8192.Slices ![0, 0] S16384x4096
  bcast_S_S16384x4096 : S_.BroadcastsInDim S16384x4096 (![] : Fin 0 → Fin S16384x4096.rank)

variable [Facts]

def fn {F : FTy → Type} [FloatOps F] (main_arg0 : FVec F S16384x8192 .bf16) : IVec S16384x4096 1 :=
  let main_v0 : FVec F S16384x4096 .bf16 := (extractStridedSlice S16384x4096 ![0, 0] · slices_S16384x8192_S16384x4096_0_0) main_arg0
  let main_v1 : FVec F S16384x4096 .bf16 := Host.absf main_v0
  let main_cst : FVec F S_ .bf16 := constant S_ .bf16 0x7F80#16
  let main_v2 : FVec F S16384x4096 .bf16 := broadcastInDim S16384x4096 ![] bcast_S_S16384x4096 main_cst
  let main_v3 : IVec S16384x4096 1 := cmpf .olt main_v1 main_v2
  main_v3
-- ==== Pre_finite_queries_keys.lean ====
abbrev S16384x4096 : Shape := ⟨2, ![16384, 4096]⟩
abbrev S16384x2048 : Shape := ⟨2, ![16384, 2048]⟩
abbrev S16384x3072 : Shape := ⟨2, ![16384, 3072]⟩
abbrev S_ : Shape := ⟨0, ![]⟩

class Facts : Prop where
  bcast_S_S16384x4096 : S_.BroadcastsInDim S16384x4096 (![] : Fin 0 → Fin S16384x4096.rank)

variable [Facts]

def fn {F : FTy → Type} [FloatOps F] (main_arg0 : FVec F S16384x4096 .bf16) (main_arg1 : FVec F S16384x4096 .bf16) (main_arg2 : FVec F S16384x2048 .bf16) (main_arg3 : FVec F S16384x3072 .bf16) : IVec S16384x4096 1 × IVec S16384x4096 1 :=
  let main_v0 : FVec F S16384x4096 .bf16 := Host.absf main_arg0
  let main_cst : FVec F S_ .bf16 := constant S_ .bf16 0x7F80#16
  let main_v1 : FVec F S16384x4096 .bf16 := broadcastInDim S16384x4096 ![] bcast_S_S16384x4096 main_cst
  let main_v2 : IVec S16384x4096 1 := cmpf .olt main_v0 main_v1
  let main_v3 : FVec F S16384x4096 .bf16 := Host.absf main_arg1
  let main_cst_0 : FVec F S_ .bf16 := constant S_ .bf16 0x7F80#16
  let main_v4 : FVec F S16384x4096 .bf16 := broadcastInDim S16384x4096 ![] bcast_S_S16384x4096 main_cst_0
  let main_v5 : IVec S16384x4096 1 := cmpf .olt main_v3 main_v4
  (main_v2, main_v5)
-- ==== Attn.lean ====
abbrev S16384x4096 : Shape := ⟨2, ![16384, 4096]⟩
abbrev S16384x2048 : Shape := ⟨2, ![16384, 2048]⟩
abbrev S16384x3072 : Shape := ⟨2, ![16384, 3072]⟩
abbrev S256x256 : Shape := ⟨2, ![256, 256]⟩
abbrev S4096x256 : Shape := ⟨2, ![4096, 256]⟩
abbrev S4096x128 : Shape := ⟨2, ![4096, 128]⟩
abbrev S256x128 : Shape := ⟨2, ![256, 128]⟩
abbrev S256x1 : Shape := ⟨2, ![256, 1]⟩
abbrev S256 : Shape := ⟨1, ![256]⟩

abbrev nBuf : Space → Nat
  | .hbm => 5
  | .vmem => 13
  | .smem => 0
  | _ => 0

abbrev bufTy : (tb : Table) → Fin (tcTables nBuf tb) → BufTy
  | .hbm, ⟨0, _⟩ => ⟨S16384x4096, .bf16⟩
  | .hbm, ⟨1, _⟩ => ⟨S16384x4096, .bf16⟩
  | .hbm, ⟨2, _⟩ => ⟨S16384x2048, .bf16⟩
  | .hbm, ⟨3, _⟩ => ⟨S16384x3072, .bf16⟩
  | .hbm, ⟨4, _⟩ => ⟨S16384x2048, .bf16⟩
  | .local _ .vmem, ⟨0, _⟩ => ⟨S256x256, .bf16⟩
  | .local _ .vmem, ⟨1, _⟩ => ⟨S256x256, .bf16⟩
  | .local _ .vmem, ⟨2, _⟩ => ⟨S4096x256, .bf16⟩
  | .local _ .vmem, ⟨3, _⟩ => ⟨S4096x256, .bf16⟩
  | .local _ .vmem, ⟨4, _⟩ => ⟨S4096x128, .bf16⟩
  | .local _ .vmem, ⟨5, _⟩ => ⟨S4096x128, .bf16⟩
  | .local _ .vmem, ⟨6, _⟩ => ⟨S256x128, .bf16⟩
  | .local _ .vmem, ⟨7, _⟩ => ⟨S256x128, .bf16⟩
  | .local _ .vmem, ⟨8, _⟩ => ⟨S256x128, .bf16⟩
  | .local _ .vmem, ⟨9, _⟩ => ⟨S256x128, .bf16⟩
  | .local _ .vmem, ⟨10, _⟩ => ⟨S256x1, .f32⟩
  | .local _ .vmem, ⟨11, _⟩ => ⟨S256x1, .f32⟩
  | .local _ .vmem, ⟨12, _⟩ => ⟨S256x128, .f32⟩
  | _, _ => ⟨S16384x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![4, 16, 16], ![false, false, false]⟩

@[reducible] def k0_t1_loop (i : grid0.Coords) : Scf.Loop 32 :=
  let c0_i32_9 : BitVec 32 := 0#32
  let arg2 : BitVec 32 := BitVec.ofNat 32 (i 2).val
  let v13 : BitVec 32 := Scalar.subi arg2 c0_i32_9
  let c1_i32 : BitVec 32 := 1#32
  let v15 : BitVec 32 := Scalar.divsi v13 c1_i32
  let v16 : BitVec 32 := Scalar.muli v15 c1_i32
  let v17 : BitVec 32 := Scalar.addi c0_i32_9 v16
  let c1_i32_10 : BitVec 32 := 1#32
  ⟨c0_i32_9, v17, c1_i32_10⟩
def k0_mult1 (i : grid0.Coords) (k0_t1 : Fin (k0_t1_loop i).trips) : BitVec 32 :=
  let c0_i32_9 : BitVec 32 := 0#32
  let c1_i32_10 : BitVec 32 := 1#32
  let arg11 : BitVec 32 := Scf.iv c0_i32_9 c1_i32_10 k0_t1
  let c256_i32_56 : BitVec 32 := 256#32
  let v126 : BitVec 32 := Scalar.muli arg11 c256_i32_56
  v126
def k0_off1 (i : grid0.Coords) (k0_t1 : Fin (k0_t1_loop i).trips) : Fin 2 → Nat :=
  let c0_i32_9 : BitVec 32 := 0#32
  let c1_i32_10 : BitVec 32 := 1#32
  let arg11 : BitVec 32 := Scf.iv c0_i32_9 c1_i32_10 k0_t1
  let c256_i32_56 : BitVec 32 := 256#32
  let v126 : BitVec 32 := Scalar.muli arg11 c256_i32_56
  let v127 : BitVec 32 := v126
  let v128 : Index := Scalar.indexCast v127
  let c0_57 : Index := 0#32
  ![v128.toNat, 0]
def k0_off2 (i : grid0.Coords) (k0_t1 : Fin (k0_t1_loop i).trips) : Fin 2 → Nat :=
  let c0_i32_9 : BitVec 32 := 0#32
  let c1_i32_10 : BitVec 32 := 1#32
  let arg11 : BitVec 32 := Scf.iv c0_i32_9 c1_i32_10 k0_t1
  let c256_i32_56 : BitVec 32 := 256#32
  let v126 : BitVec 32 := Scalar.muli arg11 c256_i32_56
  let v127 : BitVec 32 := v126
  let v130 : Index := Scalar.indexCast v127
  let c0_58 : Index := 0#32
  ![v130.toNat, 0]
@[reducible] def k0_t2_loop (i : grid0.Coords) : Scf.Loop 32 :=
  let c0_i32_9 : BitVec 32 := 0#32
  let arg2 : BitVec 32 := BitVec.ofNat 32 (i 2).val
  let v13 : BitVec 32 := Scalar.subi arg2 c0_i32_9
  let c1_i32 : BitVec 32 := 1#32
  let v15 : BitVec 32 := Scalar.divsi v13 c1_i32
  let v16 : BitVec 32 := Scalar.muli v15 c1_i32
  let v17 : BitVec 32 := Scalar.addi c0_i32_9 v16
  let v14 : BitVec 32 := Scalar.addi c0_i32_9 v13
  let c1_i32_11 : BitVec 32 := 1#32
  ⟨v17, v14, c1_i32_11⟩
def k0_mult2 (i : grid0.Coords) (k0_t2 : Fin (k0_t2_loop i).trips) : BitVec 32 :=
  let c0_i32_9 : BitVec 32 := 0#32
  let arg2 : BitVec 32 := BitVec.ofNat 32 (i 2).val
  let v13 : BitVec 32 := Scalar.subi arg2 c0_i32_9
  let c1_i32 : BitVec 32 := 1#32
  let v15 : BitVec 32 := Scalar.divsi v13 c1_i32
  let v16 : BitVec 32 := Scalar.muli v15 c1_i32
  let v17 : BitVec 32 := Scalar.addi c0_i32_9 v16
  let c1_i32_11 : BitVec 32 := 1#32
  let arg11 : BitVec 32 := Scf.iv v17 c1_i32_11 k0_t2
  let c256_i32_56 : BitVec 32 := 256#32
  let v126 : BitVec 32 := Scalar.muli arg11 c256_i32_56
  v126
def k0_off3 (i : grid0.Coords) (k0_t2 : Fin (k0_t2_loop i).trips) : Fin 2 → Nat :=
  let c0_i32_9 : BitVec 32 := 0#32
  let arg2 : BitVec 32 := BitVec.ofNat 32 (i 2).val
  let v13 : BitVec 32 := Scalar.subi arg2 c0_i32_9
  let c1_i32 : BitVec 32 := 1#32
  let v15 : BitVec 32 := Scalar.divsi v13 c1_i32
  let v16 : BitVec 32 := Scalar.muli v15 c1_i32
  let v17 : BitVec 32 := Scalar.addi c0_i32_9 v16
  let c1_i32_11 : BitVec 32 := 1#32
  let arg11 : BitVec 32 := Scf.iv v17 c1_i32_11 k0_t2
  let c256_i32_56 : BitVec 32 := 256#32
  let v126 : BitVec 32 := Scalar.muli arg11 c256_i32_56
  let v127 : BitVec 32 := v126
  let v128 : Index := Scalar.indexCast v127
  let c0_57 : Index := 0#32
  ![v128.toNat, 0]
def k0_off4 (i : grid0.Coords) (k0_t2 : Fin (k0_t2_loop i).trips) : Fin 2 → Nat :=
  let c0_i32_9 : BitVec 32 := 0#32
  let arg2 : BitVec 32 := BitVec.ofNat 32 (i 2).val
  let v13 : BitVec 32 := Scalar.subi arg2 c0_i32_9
  let c1_i32 : BitVec 32 := 1#32
  let v15 : BitVec 32 := Scalar.divsi v13 c1_i32
  let v16 : BitVec 32 := Scalar.muli v15 c1_i32
  let v17 : BitVec 32 := Scalar.addi c0_i32_9 v16
  let c1_i32_11 : BitVec 32 := 1#32
  let arg11 : BitVec 32 := Scf.iv v17 c1_i32_11 k0_t2
  let c256_i32_56 : BitVec 32 := 256#32
  let v126 : BitVec 32 := Scalar.muli arg11 c256_i32_56
  let v127 : BitVec 32 := v126
  let v130 : Index := Scalar.indexCast v127
  let c0_58 : Index := 0#32
  ![v130.toNat, 0]
def k0_mult3 (i : grid0.Coords) : BitVec 32 :=
  let arg2 : BitVec 32 := BitVec.ofNat 32 (i 2).val
  let c256_i32 : BitVec 32 := 256#32
  let v18 : BitVec 32 := Scalar.muli arg2 c256_i32
  v18
def k0_off5 (i : grid0.Coords) : Fin 2 → Nat :=
  let arg2 : BitVec 32 := BitVec.ofNat 32 (i 2).val
  let c256_i32 : BitVec 32 := 256#32
  let v18 : BitVec 32 := Scalar.muli arg2 c256_i32
  let v19 : BitVec 32 := v18
  let v20 : Index := Scalar.indexCast v19
  let c0_12 : Index := 0#32
  ![v20.toNat, 0]
def k0_off6 (i : grid0.Coords) : Fin 2 → Nat :=
  let arg2 : BitVec 32 := BitVec.ofNat 32 (i 2).val
  let c256_i32 : BitVec 32 := 256#32
  let v18 : BitVec 32 := Scalar.muli arg2 c256_i32
  let v19 : BitVec 32 := v18
  let v22 : Index := Scalar.indexCast v19
  let c0_13 : Index := 0#32
  ![v22.toNat, 0]
def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let v1 : BitVec 32 := Scalar.addi v0 arg2
  let c0_i32 : BitVec 32 := 0#32
  ![v1.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let v1 : BitVec 32 := Scalar.addi v0 arg2
  let c0_i32 : BitVec 32 := 0#32
  ![v1.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let v1 : BitVec 32 := Scalar.addi v0 arg2
  let c0_i32 : BitVec 32 := 0#32
  ![v1.toNat, arg1.toNat]

abbrev stage0_0 : Fin 2 → Memref sig .tc .vmem S256x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S4096x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S4096x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S256x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S256x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]
-- ==== AttnRefIdeal.lean ====
abbrev S16384x4096 : Shape := ⟨2, ![16384, 4096]⟩
abbrev S16384x2048 : Shape := ⟨2, ![16384, 2048]⟩
abbrev S16384x3072 : Shape := ⟨2, ![16384, 3072]⟩
abbrev S4x4096x16x256 : Shape := ⟨4, ![4, 4096, 16, 256]⟩
abbrev S4x4096x16x128 : Shape := ⟨4, ![4, 4096, 16, 128]⟩
abbrev S4x16x4096x4096 : Shape := ⟨4, ![4, 16, 4096, 4096]⟩
abbrev S4096 : Shape := ⟨1, ![4096]⟩
abbrev S1x4096 : Shape := ⟨2, ![1, 4096]⟩
abbrev S_ : Shape := ⟨0, ![]⟩
abbrev S4096x1 : Shape := ⟨2, ![4096, 1]⟩
abbrev S4096x4096 : Shape := ⟨2, ![4096, 4096]⟩
abbrev S4x16x4096 : Shape := ⟨3, ![4, 16, 4096]⟩
abbrev S4x16x4096x1 : Shape := ⟨4, ![4, 16, 4096, 1]⟩
abbrev S4x16x128x4096 : Shape := ⟨4, ![4, 16, 128, 4096]⟩

abbrev nBuf : Space → Nat
  | .hbm => 89
  | .vmem => 0
  | .smem => 0
  | _ => 0

abbrev bufTy : (tb : Table) → Fin (tcTables nBuf tb) → BufTy
  | .hbm, ⟨0, _⟩ => ⟨S16384x4096, .bf16⟩
  | .hbm, ⟨1, _⟩ => ⟨S16384x4096, .bf16⟩
  | .hbm, ⟨2, _⟩ => ⟨S16384x2048, .bf16⟩
  | .hbm, ⟨3, _⟩ => ⟨S16384x3072, .bf16⟩
  | .hbm, ⟨4, _⟩ => ⟨S16384x4096, .f32⟩
  | .hbm, ⟨5, _⟩ => ⟨S4x4096x16x256, .f32⟩
  | .hbm, ⟨6, _⟩ => ⟨S16384x4096, .f32⟩
  | .hbm, ⟨7, _⟩ => ⟨S4x4096x16x256, .f32⟩
  | .hbm, ⟨8, _⟩ => ⟨S16384x2048, .f32⟩
  | .hbm, ⟨9, _⟩ => ⟨S4x4096x16x128, .f32⟩
  | .hbm, ⟨10, _⟩ => ⟨S16384x3072, .f32⟩
  | .hbm, ⟨11, _⟩ => ⟨S16384x2048, .f32⟩
  | .hbm, ⟨12, _⟩ => ⟨S4x16x4096x4096, .f32⟩
  | .hbm, ⟨13, _⟩ => ⟨S4096, .i32⟩
  | .hbm, ⟨14, _⟩ => ⟨S1x4096, .i32⟩
  | .hbm, ⟨15, _⟩ => ⟨S_, .i32⟩
  | .hbm, ⟨16, _⟩ => ⟨S_, .i32⟩
  | .hbm, ⟨17, _⟩ => ⟨S1x4096, .i32⟩
  | .hbm, ⟨18, _⟩ => ⟨S1x4096, .i32⟩
  | .hbm, ⟨19, _⟩ => ⟨S1x4096, .i32⟩
  | .hbm, ⟨20, _⟩ => ⟨S_, .i32⟩
  | .hbm, ⟨21, _⟩ => ⟨S1x4096, .i32⟩
  | .hbm, ⟨22, _⟩ => ⟨S1x4096, .i1⟩
  | .hbm, ⟨23, _⟩ => ⟨S1x4096, .i32⟩
  | .hbm, ⟨24, _⟩ => ⟨S1x4096, .i32⟩
  | .hbm, ⟨25, _⟩ => ⟨S_, .i32⟩
  | .hbm, ⟨26, _⟩ => ⟨S1x4096, .i32⟩
  | .hbm, ⟨27, _⟩ => ⟨S1x4096, .i1⟩
  | .hbm, ⟨28, _⟩ => ⟨S1x4096, .i1⟩
  | .hbm, ⟨29, _⟩ => ⟨S_, .i32⟩
  | .hbm, ⟨30, _⟩ => ⟨S1x4096, .i32⟩
  | .hbm, ⟨31, _⟩ => ⟨S1x4096, .i32⟩
  | .hbm, ⟨32, _⟩ => ⟨S1x4096, .i32⟩
  | .hbm, ⟨33, _⟩ => ⟨S4096, .i32⟩
  | .hbm, ⟨34, _⟩ => ⟨S4096x1, .i32⟩
  | .hbm, ⟨35, _⟩ => ⟨S_, .i32⟩
  | .hbm, ⟨36, _⟩ => ⟨S_, .i32⟩
  | .hbm, ⟨37, _⟩ => ⟨S4096x1, .i32⟩
  | .hbm, ⟨38, _⟩ => ⟨S4096x1, .i32⟩
  | .hbm, ⟨39, _⟩ => ⟨S4096x1, .i32⟩
  | .hbm, ⟨40, _⟩ => ⟨S_, .i32⟩
  | .hbm, ⟨41, _⟩ => ⟨S4096x1, .i32⟩
  | .hbm, ⟨42, _⟩ => ⟨S4096x1, .i1⟩
  | .hbm, ⟨43, _⟩ => ⟨S4096x1, .i32⟩
  | .hbm, ⟨44, _⟩ => ⟨S4096x1, .i32⟩
  | .hbm, ⟨45, _⟩ => ⟨S_, .i32⟩
  | .hbm, ⟨46, _⟩ => ⟨S4096x1, .i32⟩
  | .hbm, ⟨47, _⟩ => ⟨S4096x1, .i1⟩
  | .hbm, ⟨48, _⟩ => ⟨S4096x1, .i1⟩
  | .hbm, ⟨49, _⟩ => ⟨S_, .i32⟩
  | .hbm, ⟨50, _⟩ => ⟨S4096x1, .i32⟩
  | .hbm, ⟨51, _⟩ => ⟨S4096x1, .i32⟩
  | .hbm, ⟨52, _⟩ => ⟨S4096x1, .i32⟩
  | .hbm, ⟨53, _⟩ => ⟨S4096x4096, .i32⟩
  | .hbm, ⟨54, _⟩ => ⟨S4096x4096, .i32⟩
  | .hbm, ⟨55, _⟩ => ⟨S4096x4096, .i1⟩
  | .hbm, ⟨56, _⟩ => ⟨S_, .f32⟩
  | .hbm, ⟨57, _⟩ => ⟨S_, .f32⟩
  | .hbm, ⟨58, _⟩ => ⟨S4x16x4096x4096, .i1⟩
  | .hbm, ⟨59, _⟩ => ⟨S4x16x4096x4096, .f32⟩
  | .hbm, ⟨60, _⟩ => ⟨S4x16x4096x4096, .f32⟩
  | .hbm, ⟨61, _⟩ => ⟨S_, .f32⟩
  | .hbm, ⟨62, _⟩ => ⟨S4x16x4096, .f32⟩
  | .hbm, ⟨63, _⟩ => ⟨S_, .f32⟩
  | .hbm, ⟨64, _⟩ => ⟨S4x16x4096, .f32⟩
  | .hbm, ⟨65, _⟩ => ⟨S4x16x4096, .f32⟩
  | .hbm, ⟨66, _⟩ => ⟨S4x16x4096x1, .f32⟩
  | .hbm, ⟨67, _⟩ => ⟨S4x16x4096x4096, .f32⟩
  | .hbm, ⟨68, _⟩ => ⟨S4x16x4096x4096, .f32⟩
  | .hbm, ⟨69, _⟩ => ⟨S4x16x4096x4096, .f32⟩
  | .hbm, ⟨70, _⟩ => ⟨S_, .f32⟩
  | .hbm, ⟨71, _⟩ => ⟨S4x16x4096, .f32⟩
  | .hbm, ⟨72, _⟩ => ⟨S4x16x4096x1, .f32⟩
  | .hbm, ⟨73, _⟩ => ⟨S4x16x4096x4096, .f32⟩
  | .hbm, ⟨74, _⟩ => ⟨S4x16x4096x4096, .f32⟩
  | .hbm, ⟨75, _⟩ => ⟨S4x16x128x4096, .f32⟩
  | .hbm, ⟨76, _⟩ => ⟨S4x4096x16x128, .f32⟩
  | .hbm, ⟨77, _⟩ => ⟨S16384x2048, .f32⟩
  | .hbm, ⟨78, _⟩ => ⟨S16384x2048, .f32⟩
  | .hbm, ⟨79, _⟩ => ⟨S16384x2048, .f32⟩
  | .hbm, ⟨80, _⟩ => ⟨S_, .f32⟩
  | .hbm, ⟨81, _⟩ => ⟨S16384x2048, .f32⟩
  | .hbm, ⟨82, _⟩ => ⟨S16384x2048, .f32⟩
  | .hbm, ⟨83, _⟩ => ⟨S_, .f32⟩
  | .hbm, ⟨84, _⟩ => ⟨S16384x2048, .f32⟩
  | .hbm, ⟨85, _⟩ => ⟨S16384x2048, .f32⟩
  | .hbm, ⟨86, _⟩ => ⟨S16384x2048, .f32⟩
  | .hbm, ⟨87, _⟩ => ⟨S16384x2048, .f32⟩
  | .hbm, ⟨88, _⟩ => ⟨S16384x2048, .bf16⟩
  | _, _ => ⟨S16384x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_c : Ref sig .tc := ⟨.hbm, 15, rfl⟩
abbrev main_call0_v0 : Ref sig .tc := ⟨.hbm, 16, rfl⟩
abbrev main_call0_v1 : Ref sig .tc := ⟨.hbm, 17, rfl⟩
abbrev main_call0_v2 : Ref sig .tc := ⟨.hbm, 18, rfl⟩
abbrev main_call0_v3 : Ref sig .tc := ⟨.hbm, 19, rfl⟩
abbrev main_call0_v4 : Ref sig .tc := ⟨.hbm, 20, rfl⟩
abbrev main_call0_v5 : Ref sig .tc := ⟨.hbm, 21, rfl⟩
abbrev main_call0_v6 : Ref sig .tc := ⟨.hbm, 22, rfl⟩
abbrev main_call0_v7 : Ref sig .tc := ⟨.hbm, 23, rfl⟩
abbrev main_call0_v8 : Ref sig .tc := ⟨.hbm, 24, rfl⟩
abbrev main_call0_c : Ref sig .tc := ⟨.hbm, 25, rfl⟩
abbrev main_call0_v9 : Ref sig .tc := ⟨.hbm, 26, rfl⟩
abbrev main_call0_v10 : Ref sig .tc := ⟨.hbm, 27, rfl⟩
abbrev main_call0_v11 : Ref sig .tc := ⟨.hbm, 28, rfl⟩
abbrev main_call0_c_0 : Ref sig .tc := ⟨.hbm, 29, rfl⟩
abbrev main_call0_v12 : Ref sig .tc := ⟨.hbm, 30, rfl⟩
abbrev main_call0_v13 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_c_0 : Ref sig .tc := ⟨.hbm, 35, rfl⟩
abbrev main_call1_v0 : Ref sig .tc := ⟨.hbm, 36, rfl⟩
abbrev main_call1_v1 : Ref sig .tc := ⟨.hbm, 37, rfl⟩
abbrev main_call1_v2 : Ref sig .tc := ⟨.hbm, 38, rfl⟩
abbrev main_call1_v3 : Ref sig .tc := ⟨.hbm, 39, rfl⟩
abbrev main_call1_v4 : Ref sig .tc := ⟨.hbm, 40, rfl⟩
abbrev main_call1_v5 : Ref sig .tc := ⟨.hbm, 41, rfl⟩
abbrev main_call1_v6 : Ref sig .tc := ⟨.hbm, 42, rfl⟩
abbrev main_call1_v7 : Ref sig .tc := ⟨.hbm, 43, rfl⟩
abbrev main_call1_v8 : Ref sig .tc := ⟨.hbm, 44, rfl⟩
abbrev main_call1_c : Ref sig .tc := ⟨.hbm, 45, rfl⟩
abbrev main_call1_v9 : Ref sig .tc := ⟨.hbm, 46, rfl⟩
abbrev main_call1_v10 : Ref sig .tc := ⟨.hbm, 47, rfl⟩
abbrev main_call1_v11 : Ref sig .tc := ⟨.hbm, 48, rfl⟩
abbrev main_call1_c_0 : Ref sig .tc := ⟨.hbm, 49, rfl⟩
abbrev main_call1_v12 : Ref sig .tc := ⟨.hbm, 50, rfl⟩
abbrev main_call1_v13 : Ref sig .tc := ⟨.hbm, 51, rfl⟩
abbrev main_v14 : Ref sig .tc := ⟨.hbm, 52, rfl⟩
abbrev main_v15 : Ref sig .tc := ⟨.hbm, 53, rfl⟩
abbrev main_v16 : Ref sig .tc := ⟨.hbm, 54, rfl⟩
abbrev main_v17 : Ref sig .tc := ⟨.hbm, 55, rfl⟩
abbrev main_cst : Ref sig .tc := ⟨.hbm, 56, rfl⟩
abbrev main_call2_v0 : Ref sig .tc := ⟨.hbm, 57, rfl⟩
abbrev main_call2_v1 : Ref sig .tc := ⟨.hbm, 58, rfl⟩
abbrev main_call2_v2 : Ref sig .tc := ⟨.hbm, 59, rfl⟩
abbrev main_v18 : Ref sig .tc := ⟨.hbm, 60, rfl⟩
abbrev main_cst_1 : Ref sig .tc := ⟨.hbm, 61, rfl⟩
abbrev main_v19 : Ref sig .tc := ⟨.hbm, 62, rfl⟩
abbrev main_cst_2 : Ref sig .tc := ⟨.hbm, 63, rfl⟩
abbrev main_v20 : Ref sig .tc := ⟨.hbm, 64, rfl⟩
abbrev main_v21 : Ref sig .tc := ⟨.hbm, 65, rfl⟩
abbrev main_v22 : Ref sig .tc := ⟨.hbm, 66, rfl⟩
abbrev main_v23 : Ref sig .tc := ⟨.hbm, 67, rfl⟩
abbrev main_v24 : Ref sig .tc := ⟨.hbm, 68, rfl⟩
abbrev main_v25 : Ref sig .tc := ⟨.hbm, 69, rfl⟩
abbrev main_cst_3 : Ref sig .tc := ⟨.hbm, 70, rfl⟩
abbrev main_v26 : Ref sig .tc := ⟨.hbm, 71, rfl⟩
abbrev main_v27 : Ref sig .tc := ⟨.hbm, 72, rfl⟩
abbrev main_v28 : Ref sig .tc := ⟨.hbm, 73, rfl⟩
abbrev main_v29 : Ref sig .tc := ⟨.hbm, 74, rfl⟩
abbrev main_v30 : Ref sig .tc := ⟨.hbm, 75, rfl⟩
abbrev main_v31 : Ref sig .tc := ⟨.hbm, 76, rfl⟩
abbrev main_v32 : Ref sig .tc := ⟨.hbm, 77, rfl⟩
abbrev main_call3_v0 : Ref sig .tc := ⟨.hbm, 78, rfl⟩
abbrev main_call3_v1 : Ref sig .tc := ⟨.hbm, 79, rfl⟩
abbrev main_call3_cst : Ref sig .tc := ⟨.hbm, 80, rfl⟩
abbrev main_call3_v2 : Ref sig .tc := ⟨.hbm, 81, rfl⟩
abbrev main_call3_v3 : Ref sig .tc := ⟨.hbm, 82, rfl⟩
abbrev main_call3_cst_0 : Ref sig .tc := ⟨.hbm, 83, rfl⟩
abbrev main_call3_v4 : Ref sig .tc := ⟨.hbm, 84, rfl⟩
abbrev main_call3_v5 : Ref sig .tc := ⟨.hbm, 85, rfl⟩
abbrev main_v33 : Ref sig .tc := ⟨.hbm, 86, rfl⟩
abbrev main_v34 : Ref sig .tc := ⟨.hbm, 87, rfl⟩
abbrev main_v35 : Ref sig .tc := ⟨.hbm, 88, rfl⟩

abbrev nD : Nat := 1
abbrev τ : Topo := Topo.v7x

variable {F : FTy → Type} [FloatOps F]
-- ==== ProjA.lean ====
abbrev S16384x2048 : Shape := ⟨2, ![16384, 2048]⟩
abbrev S2048 : Shape := ⟨1, ![2048]⟩
abbrev S2048x8192 : Shape := ⟨2, ![2048, 8192]⟩
abbrev S1x2048 : Shape := ⟨2, ![1, 2048]⟩
abbrev S16384x8192 : Shape := ⟨2, ![16384, 8192]⟩
abbrev S1024x2048 : Shape := ⟨2, ![1024, 2048]⟩
abbrev S2048x1024 : Shape := ⟨2, ![2048, 1024]⟩
abbrev S1024x1024 : Shape := ⟨2, ![1024, 1024]⟩
abbrev S1024 : Shape := ⟨1, ![1024]⟩
abbrev S1024x1 : Shape := ⟨2, ![1024, 1]⟩

abbrev nBuf : Space → Nat
  | .hbm => 6
  | .vmem => 8
  | .smem => 0
  | _ => 0

abbrev bufTy : (tb : Table) → Fin (tcTables nBuf tb) → BufTy
  | .hbm, ⟨0, _⟩ => ⟨S16384x2048, .f32⟩
  | .hbm, ⟨1, _⟩ => ⟨S2048, .f32⟩
  | .hbm, ⟨2, _⟩ => ⟨S2048x8192, .f32⟩
  | .hbm, ⟨3, _⟩ => ⟨S2048x8192, .bf16⟩
  | .hbm, ⟨4, _⟩ => ⟨S1x2048, .f32⟩
  | .hbm, ⟨5, _⟩ => ⟨S16384x8192, .bf16⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S2048x1024, .bf16⟩
  | .local _ .vmem, ⟨4, _⟩ => ⟨S2048x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1024x2048, .bf16⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![16, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== ProjAIdeal.lean ====
abbrev S16384x2048 : Shape := ⟨2, ![16384, 2048]⟩
abbrev S2048 : Shape := ⟨1, ![2048]⟩
abbrev S2048x8192 : Shape := ⟨2, ![2048, 8192]⟩
abbrev S1x2048 : Shape := ⟨2, ![1, 2048]⟩
abbrev S16384x8192 : Shape := ⟨2, ![16384, 8192]⟩
abbrev S1024x2048 : Shape := ⟨2, ![1024, 2048]⟩
abbrev S2048x1024 : Shape := ⟨2, ![2048, 1024]⟩
abbrev S1024x1024 : Shape := ⟨2, ![1024, 1024]⟩
abbrev S1024 : Shape := ⟨1, ![1024]⟩
abbrev S1024x1 : Shape := ⟨2, ![1024, 1]⟩

abbrev nBuf : Space → Nat
  | .hbm => 6
  | .vmem => 8
  | .smem => 0
  | _ => 0

abbrev bufTy : (tb : Table) → Fin (tcTables nBuf tb) → BufTy
  | .hbm, ⟨0, _⟩ => ⟨S16384x2048, .f32⟩
  | .hbm, ⟨1, _⟩ => ⟨S2048, .f32⟩
  | .hbm, ⟨2, _⟩ => ⟨S2048x8192, .f32⟩
  | .hbm, ⟨3, _⟩ => ⟨S2048x8192, .bf16⟩
  | .hbm, ⟨4, _⟩ => ⟨S1x2048, .f32⟩
  | .hbm, ⟨5, _⟩ => ⟨S16384x8192, .bf16⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S2048x1024, .bf16⟩
  | .local _ .vmem, ⟨4, _⟩ => ⟨S2048x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1024x2048, .bf16⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![16, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== ProjARefIdeal.lean ====
abbrev S16384x2048 : Shape := ⟨2, ![16384, 2048]⟩
abbrev S2048 : Shape := ⟨1, ![2048]⟩
abbrev S2048x8192 : Shape := ⟨2, ![2048, 8192]⟩
abbrev S_ : Shape := ⟨0, ![]⟩
abbrev S16384 : Shape := ⟨1, ![16384]⟩
abbrev S16384x1 : Shape := ⟨2, ![16384, 1]⟩
abbrev S1x2048 : Shape := ⟨2, ![1, 2048]⟩
abbrev S16384x8192 : Shape := ⟨2, ![16384, 8192]⟩

abbrev nBuf : Space → Nat
  | .hbm => 21
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S2048, .f32⟩
  | .hbm, ⟨2, _⟩ => ⟨S2048x8192, .f32⟩
  | .hbm, ⟨3, _⟩ => ⟨S16384x2048, .f32⟩
  | .hbm, ⟨4, _⟩ => ⟨S_, .f32⟩
  | .hbm, ⟨5, _⟩ => ⟨S16384, .f32⟩
  | .hbm, ⟨6, _⟩ => ⟨S16384x1, .f32⟩
  | .hbm, ⟨7, _⟩ => ⟨S_, .f32⟩
  | .hbm, ⟨8, _⟩ => ⟨S16384x1, .f32⟩
  | .hbm, ⟨9, _⟩ => ⟨S16384x1, .f32⟩
  | .hbm, ⟨10, _⟩ => ⟨S_, .f32⟩
  | .hbm, ⟨11, _⟩ => ⟨S16384x1, .f32⟩
  | .hbm, ⟨12, _⟩ => ⟨S16384x1, .f32⟩
  | .hbm, ⟨13, _⟩ => ⟨S16384x1, .f32⟩
  | .hbm, ⟨14, _⟩ => ⟨S16384x2048, .f32⟩
  | .hbm, ⟨15, _⟩ => ⟨S16384x2048, .f32⟩
  | .hbm, ⟨16, _⟩ => ⟨S1x2048, .f32⟩
  | .hbm, ⟨17, _⟩ => ⟨S16384x2048, .f32⟩
  | .hbm, ⟨18, _⟩ => ⟨S16384x2048, .f32⟩
  | .hbm, ⟨19, _⟩ => ⟨S16384x8192, .f32⟩
  | .hbm, ⟨20, _⟩ => ⟨S16384x8192, .bf16⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩

abbrev nD : Nat := 1
abbrev τ : Topo := Topo.v7x

variable {F : FTy → Type} [FloatOps F]
-- ==== ProjC.lean ====
abbrev S16384x2048 : Shape := ⟨2, ![16384, 2048]⟩
abbrev S2048 : Shape := ⟨1, ![2048]⟩
abbrev S2048x3072 : Shape := ⟨2, ![2048, 3072]⟩
abbrev S1x2048 : Shape := ⟨2, ![1, 2048]⟩
abbrev S16384x3072 : Shape := ⟨2, ![16384, 3072]⟩
abbrev S1024x2048 : Shape := ⟨2, ![1024, 2048]⟩
abbrev S2048x1024 : Shape := ⟨2, ![2048, 1024]⟩
abbrev S1024x1024 : Shape := ⟨2, ![1024, 1024]⟩
abbrev S1024 : Shape := ⟨1, ![1024]⟩
abbrev S1024x1 : Shape := ⟨2, ![1024, 1]⟩

abbrev nBuf : Space → Nat
  | .hbm => 6
  | .vmem => 8
  | .smem => 0
  | _ => 0

abbrev bufTy : (tb : Table) → Fin (tcTables nBuf tb) → BufTy
  | .hbm, ⟨0, _⟩ => ⟨S16384x2048, .f32⟩
  | .hbm, ⟨1, _⟩ => ⟨S2048, .f32⟩
  | .hbm, ⟨2, _⟩ => ⟨S2048x3072, .f32⟩
  | .hbm, ⟨3, _⟩ => ⟨S2048x3072, .bf16⟩
  | .hbm, ⟨4, _⟩ => ⟨S1x2048, .f32⟩
  | .hbm, ⟨5, _⟩ => ⟨S16384x3072, .bf16⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S2048x1024, .bf16⟩
  | .local _ .vmem, ⟨4, _⟩ => ⟨S2048x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1024x2048, .bf16⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![16, 3], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== ProjCIdeal.lean ====
abbrev S16384x2048 : Shape := ⟨2, ![16384, 2048]⟩
abbrev S2048 : Shape := ⟨1, ![2048]⟩
abbrev S2048x3072 : Shape := ⟨2, ![2048, 3072]⟩
abbrev S1x2048 : Shape := ⟨2, ![1, 2048]⟩
abbrev S16384x3072 : Shape := ⟨2, ![16384, 3072]⟩
abbrev S1024x2048 : Shape := ⟨2, ![1024, 2048]⟩
abbrev S2048x1024 : Shape := ⟨2, ![2048, 1024]⟩
abbrev S1024x1024 : Shape := ⟨2, ![1024, 1024]⟩
abbrev S1024 : Shape := ⟨1, ![1024]⟩
abbrev S1024x1 : Shape := ⟨2, ![1024, 1]⟩

abbrev nBuf : Space → Nat
  | .hbm => 6
  | .vmem => 8
  | .smem => 0
  | _ => 0

abbrev bufTy : (tb : Table) → Fin (tcTables nBuf tb) → BufTy
  | .hbm, ⟨0, _⟩ => ⟨S16384x2048, .f32⟩
  | .hbm, ⟨1, _⟩ => ⟨S2048, .f32⟩
  | .hbm, ⟨2, _⟩ => ⟨S2048x3072, .f32⟩
  | .hbm, ⟨3, _⟩ => ⟨S2048x3072, .bf16⟩
  | .hbm, ⟨4, _⟩ => ⟨S1x2048, .f32⟩
  | .hbm, ⟨5, _⟩ => ⟨S16384x3072, .bf16⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S2048x1024, .bf16⟩
  | .local _ .vmem, ⟨4, _⟩ => ⟨S2048x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1024x2048, .bf16⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![16, 3], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== ProjCRefIdeal.lean ====
abbrev S16384x2048 : Shape := ⟨2, ![16384, 2048]⟩
abbrev S2048 : Shape := ⟨1, ![2048]⟩
abbrev S2048x3072 : Shape := ⟨2, ![2048, 3072]⟩
abbrev S_ : Shape := ⟨0, ![]⟩
abbrev S16384 : Shape := ⟨1, ![16384]⟩
abbrev S16384x1 : Shape := ⟨2, ![16384, 1]⟩
abbrev S1x2048 : Shape := ⟨2, ![1, 2048]⟩
abbrev S16384x3072 : Shape := ⟨2, ![16384, 3072]⟩

abbrev nBuf : Space → Nat
  | .hbm => 21
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S2048, .f32⟩
  | .hbm, ⟨2, _⟩ => ⟨S2048x3072, .f32⟩
  | .hbm, ⟨3, _⟩ => ⟨S16384x2048, .f32⟩
  | .hbm, ⟨4, _⟩ => ⟨S_, .f32⟩
  | .hbm, ⟨5, _⟩ => ⟨S16384, .f32⟩
  | .hbm, ⟨6, _⟩ => ⟨S16384x1, .f32⟩
  | .hbm, ⟨7, _⟩ => ⟨S_, .f32⟩
  | .hbm, ⟨8, _⟩ => ⟨S16384x1, .f32⟩
  | .hbm, ⟨9, _⟩ => ⟨S16384x1, .f32⟩
  | .hbm, ⟨10, _⟩ => ⟨S_, .f32⟩
  | .hbm, ⟨11, _⟩ => ⟨S16384x1, .f32⟩
  | .hbm, ⟨12, _⟩ => ⟨S16384x1, .f32⟩
  | .hbm, ⟨13, _⟩ => ⟨S16384x1, .f32⟩
  | .hbm, ⟨14, _⟩ => ⟨S16384x2048, .f32⟩
  | .hbm, ⟨15, _⟩ => ⟨S16384x2048, .f32⟩
  | .hbm, ⟨16, _⟩ => ⟨S1x2048, .f32⟩
  | .hbm, ⟨17, _⟩ => ⟨S16384x2048, .f32⟩
  | .hbm, ⟨18, _⟩ => ⟨S16384x2048, .f32⟩
  | .hbm, ⟨19, _⟩ => ⟨S16384x3072, .f32⟩
  | .hbm, ⟨20, _⟩ => ⟨S16384x3072, .bf16⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩

abbrev nD : Nat := 1
abbrev τ : Topo := Topo.v7x

variable {F : FTy → Type} [FloatOps F]
-- ==== ProjD.lean ====
abbrev S16384x2048 : Shape := ⟨2, ![16384, 2048]⟩
abbrev S2048 : Shape := ⟨1, ![2048]⟩
abbrev S2048x12288 : Shape := ⟨2, ![2048, 12288]⟩
abbrev S1x2048 : Shape := ⟨2, ![1, 2048]⟩
abbrev S16384x12288 : Shape := ⟨2, ![16384, 12288]⟩
abbrev S1024x2048 : Shape := ⟨2, ![1024, 2048]⟩
abbrev S2048x1024 : Shape := ⟨2, ![2048, 1024]⟩
abbrev S1024x1024 : Shape := ⟨2, ![1024, 1024]⟩
abbrev S1024 : Shape := ⟨1, ![1024]⟩
abbrev S1024x1 : Shape := ⟨2, ![1024, 1]⟩

abbrev nBuf : Space → Nat
  | .hbm => 6
  | .vmem => 8
  | .smem => 0
  | _ => 0

abbrev bufTy : (tb : Table) → Fin (tcTables nBuf tb) → BufTy
  | .hbm, ⟨0, _⟩ => ⟨S16384x2048, .f32⟩
  | .hbm, ⟨1, _⟩ => ⟨S2048, .f32⟩
  | .hbm, ⟨2, _⟩ => ⟨S2048x12288, .f32⟩
  | .hbm, ⟨3, _⟩ => ⟨S2048x12288, .bf16⟩
  | .hbm, ⟨4, _⟩ => ⟨S1x2048, .f32⟩
  | .hbm, ⟨5, _⟩ => ⟨S16384x12288, .bf16⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S2048x1024, .bf16⟩
  | .local _ .vmem, ⟨4, _⟩ => ⟨S2048x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1024x2048, .bf16⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![16, 12], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== ProjDRefIdeal.lean ====
abbrev S16384x2048 : Shape := ⟨2, ![16384, 2048]⟩
abbrev S2048 : Shape := ⟨1, ![2048]⟩
abbrev S2048x12288 : Shape := ⟨2, ![2048, 12288]⟩
abbrev S_ : Shape := ⟨0, ![]⟩
abbrev S16384 : Shape := ⟨1, ![16384]⟩
abbrev S16384x1 : Shape := ⟨2, ![16384, 1]⟩
abbrev S1x2048 : Shape := ⟨2, ![1, 2048]⟩
abbrev S16384x12288 : Shape := ⟨2, ![16384, 12288]⟩

abbrev nBuf : Space → Nat
  | .hbm => 21
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S2048, .f32⟩
  | .hbm, ⟨2, _⟩ => ⟨S2048x12288, .f32⟩
  | .hbm, ⟨3, _⟩ => ⟨S16384x2048, .f32⟩
  | .hbm, ⟨4, _⟩ => ⟨S_, .f32⟩
  | .hbm, ⟨5, _⟩ => ⟨S16384, .f32⟩
  | .hbm, ⟨6, _⟩ => ⟨S16384x1, .f32⟩
  | .hbm, ⟨7, _⟩ => ⟨S_, .f32⟩
  | .hbm, ⟨8, _⟩ => ⟨S16384x1, .f32⟩
  | .hbm, ⟨9, _⟩ => ⟨S16384x1, .f32⟩
  | .hbm, ⟨10, _⟩ => ⟨S_, .f32⟩
  | .hbm, ⟨11, _⟩ => ⟨S16384x1, .f32⟩
  | .hbm, ⟨12, _⟩ => ⟨S16384x1, .f32⟩
  | .hbm, ⟨13, _⟩ => ⟨S16384x1, .f32⟩
  | .hbm, ⟨14, _⟩ => ⟨S16384x2048, .f32⟩
  | .hbm, ⟨15, _⟩ => ⟨S16384x2048, .f32⟩
  | .hbm, ⟨16, _⟩ => ⟨S1x2048, .f32⟩
  | .hbm, ⟨17, _⟩ => ⟨S16384x2048, .f32⟩
  | .hbm, ⟨18, _⟩ => ⟨S16384x2048, .f32⟩
  | .hbm, ⟨19, _⟩ => ⟨S16384x12288, .f32⟩
  | .hbm, ⟨20, _⟩ => ⟨S16384x12288, .bf16⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩

abbrev nD : Nat := 1
abbrev τ : Topo := Topo.v7x

variable {F : FTy → Type} [FloatOps F]
-- ==== OutA.lean ====
abbrev S16384x2048 : Shape := ⟨2, ![16384, 2048]⟩
abbrev S2048x2048 : Shape := ⟨2, ![2048, 2048]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 5
  | .vmem => 8
  | .smem => 0
  | _ => 0

abbrev bufTy : (tb : Table) → Fin (tcTables nBuf tb) → BufTy
  | .hbm, ⟨0, _⟩ => ⟨S16384x2048, .bf16⟩
  | .hbm, ⟨1, _⟩ => ⟨S2048x2048, .f32⟩
  | .hbm, ⟨2, _⟩ => ⟨S16384x2048, .f32⟩
  | .hbm, ⟨3, _⟩ => ⟨S2048x2048, .bf16⟩
  | .hbm, ⟨4, _⟩ => ⟨S16384x2048, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | _, _ => ⟨S16384x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![16, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== OutAIdeal.lean ====
abbrev S16384x2048 : Shape := ⟨2, ![16384, 2048]⟩
abbrev S2048x2048 : Shape := ⟨2, ![2048, 2048]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 5
  | .vmem => 8
  | .smem => 0
  | _ => 0

abbrev bufTy : (tb : Table) → Fin (tcTables nBuf tb) → BufTy
  | .hbm, ⟨0, _⟩ => ⟨S16384x2048, .bf16⟩
  | .hbm, ⟨1, _⟩ => ⟨S2048x2048, .f32⟩
  | .hbm, ⟨2, _⟩ => ⟨S16384x2048, .f32⟩
  | .hbm, ⟨3, _⟩ => ⟨S2048x2048, .bf16⟩
  | .hbm, ⟨4, _⟩ => ⟨S16384x2048, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | _, _ => ⟨S16384x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![16, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== OutARefIdeal.lean ====
abbrev S16384x2048 : Shape := ⟨2, ![16384, 2048]⟩
abbrev S2048x2048 : Shape := ⟨2, ![2048, 2048]⟩

abbrev nBuf : Space → Nat
  | .hbm => 6
  | .vmem => 0
  | .smem => 0
  | _ => 0

abbrev bufTy : (tb : Table) → Fin (tcTables nBuf tb) → BufTy
  | .hbm, ⟨0, _⟩ => ⟨S16384x2048, .bf16⟩
  | .hbm, ⟨1, _⟩ => ⟨S2048x2048, .f32⟩
  | .hbm, ⟨2, _⟩ => ⟨S16384x2048, .f32⟩
  | .hbm, ⟨3, _⟩ => ⟨S16384x2048, .f32⟩
  | .hbm, ⟨4, _⟩ => ⟨S16384x2048, .f32⟩
  | .hbm, ⟨5, _⟩ => ⟨S16384x2048, .f32⟩
  | _, _ => ⟨S16384x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== OutD.lean ====
abbrev S16384x4096 : Shape := ⟨2, ![16384, 4096]⟩
abbrev S4096x2048 : Shape := ⟨2, ![4096, 2048]⟩
abbrev S16384x2048 : Shape := ⟨2, ![16384, 2048]⟩
abbrev S1024x4096 : Shape := ⟨2, ![1024, 4096]⟩
abbrev S4096x512 : Shape := ⟨2, ![4096, 512]⟩
abbrev S1024x512 : Shape := ⟨2, ![1024, 512]⟩

abbrev nBuf : Space → Nat
  | .hbm => 5
  | .vmem => 8
  | .smem => 0
  | _ => 0

abbrev bufTy : (tb : Table) → Fin (tcTables nBuf tb) → BufTy
  | .hbm, ⟨0, _⟩ => ⟨S16384x4096, .bf16⟩
  | .hbm, ⟨1, _⟩ => ⟨S4096x2048, .f32⟩
  | .hbm, ⟨2, _⟩ => ⟨S16384x2048, .f32⟩
  | .hbm, ⟨3, _⟩ => ⟨S4096x2048, .bf16⟩
  | .hbm, ⟨4, _⟩ => ⟨S16384x2048, .f32⟩
  | .local _ .vmem, ⟨0, _⟩ => ⟨S1024x4096, .bf16⟩
  | .local _ .vmem, ⟨1, _⟩ => ⟨S1024x4096, .bf16⟩
  | .local _ .vmem, ⟨2, _⟩ => ⟨S4096x512, .bf16⟩
  | .local _ .vmem, ⟨3, _⟩ => ⟨S4096x512, .bf16⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | .local _ .vmem, ⟨7, _⟩ => ⟨S1024x512, .f32⟩
  | _, _ => ⟨S16384x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![16, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== OutDRefIdeal.lean ====
abbrev S16384x4096 : Shape := ⟨2, ![16384, 4096]⟩
abbrev S4096x2048 : Shape := ⟨2, ![4096, 2048]⟩
abbrev S16384x2048 : Shape := ⟨2, ![16384, 2048]⟩

abbrev nBuf : Space → Nat
  | .hbm => 6
  | .vmem => 0
  | .smem => 0
  | _ => 0

abbrev bufTy : (tb : Table) → Fin (tcTables nBuf tb) → BufTy
  | .hbm, ⟨0, _⟩ => ⟨S16384x4096, .bf16⟩
  | .hbm, ⟨1, _⟩ => ⟨S4096x2048, .f32⟩
  | .hbm, ⟨2, _⟩ => ⟨S16384x2048, .f32⟩
  | .hbm, ⟨3, _⟩ => ⟨S16384x4096, .f32⟩
  | .hbm, ⟨4, _⟩ => ⟨S16384x2048, .f32⟩
  | .hbm, ⟨5, _⟩ => ⟨S16384x2048, .f32⟩
  | _, _ => ⟨S16384x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Conv.lean ====
abbrev S16384x8192 : Shape := ⟨2, ![16384, 8192]⟩
abbrev S3x2048 : Shape := ⟨2, ![3, 2048]⟩
abbrev S2048 : Shape := ⟨1, ![2048]⟩
abbrev S1x2048 : Shape := ⟨2, ![1, 2048]⟩
abbrev S16384x2048 : Shape := ⟨2, ![16384, 2048]⟩
abbrev S256x2048 : Shape := ⟨2, ![256, 2048]⟩
abbrev S8x2048 : Shape := ⟨2, ![8, 2048]⟩
abbrev S256x1 : Shape := ⟨2, ![256, 1]⟩

abbrev nBuf : Space → Nat
  | .hbm => 5
  | .vmem => 13
  | .smem => 0
  | _ => 0

abbrev bufTy : (tb : Table) → Fin (tcTables nBuf tb) → BufTy
  | .hbm, ⟨0, _⟩ => ⟨S16384x8192, .bf16⟩
  | .hbm, ⟨1, _⟩ => ⟨S3x2048, .f32⟩
  | .hbm, ⟨2, _⟩ => ⟨S2048, .f32⟩
  | .hbm, ⟨3, _⟩ => ⟨S1x2048, .f32⟩
  | .hbm, ⟨4, _⟩ => ⟨S16384x2048, .bf16⟩
  | .local _ .vmem, ⟨0, _⟩ => ⟨S256x2048, .bf16⟩
  | .local _ .vmem, ⟨1, _⟩ => ⟨S256x2048, .bf16⟩
  | .local _ .vmem, ⟨2, _⟩ => ⟨S256x2048, .bf16⟩
  | .local _ .vmem, ⟨3, _⟩ => ⟨S256x2048, .bf16⟩
  | .local _ .vmem, ⟨4, _⟩ => ⟨S256x2048, .bf16⟩
  | .local _ .vmem, ⟨5, _⟩ => ⟨S256x2048, .bf16⟩
  | .local _ .vmem, ⟨6, _⟩ => ⟨S256x2048, .bf16⟩
  | .local _ .vmem, ⟨7, _⟩ => ⟨S256x2048, .bf16⟩
  | .local _ .vmem, ⟨8, _⟩ => ⟨S3x2048, .f32⟩
  | .local _ .vmem, ⟨9, _⟩ => ⟨S1x2048, .f32⟩
  | .local _ .vmem, ⟨10, _⟩ => ⟨S256x2048, .bf16⟩
  | .local _ .vmem, ⟨11, _⟩ => ⟨S256x2048, .bf16⟩
  | .local _ .vmem, ⟨12, _⟩ => ⟨S8x2048, .f32⟩
  | _, _ => ⟨S16384x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_2 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_3 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S3x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== ConvRefIdeal.lean ====
abbrev S16384x8192 : Shape := ⟨2, ![16384, 8192]⟩
abbrev S3x2048 : Shape := ⟨2, ![3, 2048]⟩
abbrev S2048 : Shape := ⟨1, ![2048]⟩
abbrev S4x4096x8192 : Shape := ⟨3, ![4, 4096, 8192]⟩
abbrev S4x4096x2048 : Shape := ⟨3, ![4, 4096, 2048]⟩
abbrev S_ : Shape := ⟨0, ![]⟩
abbrev S4x4098x2048 : Shape := ⟨3, ![4, 4098, 2048]⟩
abbrev S1x2048 : Shape := ⟨2, ![1, 2048]⟩
abbrev S1x1x2048 : Shape := ⟨3, ![1, 1, 2048]⟩
abbrev S16384x2048 : Shape := ⟨2, ![16384, 2048]⟩

abbrev nBuf : Space → Nat
  | .hbm => 49
  | .vmem => 0
  | .smem => 0
  | _ => 0

abbrev bufTy : (tb : Table) → Fin (tcTables nBuf tb) → BufTy
  | .hbm, ⟨0, _⟩ => ⟨S16384x8192, .bf16⟩
  | .hbm, ⟨1, _⟩ => ⟨S3x2048, .f32⟩
  | .hbm, ⟨2, _⟩ => ⟨S2048, .f32⟩
  | .hbm, ⟨3, _⟩ => ⟨S16384x8192, .f32⟩
  | .hbm, ⟨4, _⟩ => ⟨S4x4096x8192, .f32⟩
  | .hbm, ⟨5, _⟩ => ⟨S4x4096x2048, .f32⟩
  | .hbm, ⟨6, _⟩ => ⟨S4x4096x2048, .f32⟩
  | .hbm, ⟨7, _⟩ => ⟨S4x4096x2048, .f32⟩
  | .hbm, ⟨8, _⟩ => ⟨S4x4096x2048, .f32⟩
  | .hbm, ⟨9, _⟩ => ⟨S4x4096x2048, .f32⟩
  | .hbm, ⟨10, _⟩ => ⟨S_, .i32⟩
  | .hbm, ⟨11, _⟩ => ⟨S_, .f32⟩
  | .hbm, ⟨12, _⟩ => ⟨S4x4098x2048, .f32⟩
  | .hbm, ⟨13, _⟩ => ⟨S1x2048, .f32⟩
  | .hbm, ⟨14, _⟩ => ⟨S2048, .f32⟩
  | .hbm, ⟨15, _⟩ => ⟨S4x4096x2048, .f32⟩
  | .hbm, ⟨16, _⟩ => ⟨S1x1x2048, .f32⟩
  | .hbm, ⟨17, _⟩ => ⟨S4x4096x2048, .f32⟩
  | .hbm, ⟨18, _⟩ => ⟨S4x4096x2048, .f32⟩
  | .hbm, ⟨19, _⟩ => ⟨S1x2048, .f32⟩
  | .hbm, ⟨20, _⟩ => ⟨S2048, .f32⟩
  | .hbm, ⟨21, _⟩ => ⟨S4x4096x2048, .f32⟩
  | .hbm, ⟨22, _⟩ => ⟨S1x1x2048, .f32⟩
  | .hbm, ⟨23, _⟩ => ⟨S4x4096x2048, .f32⟩
  | .hbm, ⟨24, _⟩ => ⟨S4x4096x2048, .f32⟩
  | .hbm, ⟨25, _⟩ => ⟨S4x4096x2048, .f32⟩
  | .hbm, ⟨26, _⟩ => ⟨S1x2048, .f32⟩
  | .hbm, ⟨27, _⟩ => ⟨S2048, .f32⟩
  | .hbm, ⟨28, _⟩ => ⟨S4x4096x2048, .f32⟩
  | .hbm, ⟨29, _⟩ => ⟨S1x1x2048, .f32⟩
  | .hbm, ⟨30, _⟩ => ⟨S4x4096x2048, .f32⟩
  | .hbm, ⟨31, _⟩ => ⟨S4x4096x2048, .f32⟩
  | .hbm, ⟨32, _⟩ => ⟨S4x4096x2048, .f32⟩
  | .hbm, ⟨33, _⟩ => ⟨S1x1x2048, .f32⟩
  | .hbm, ⟨34, _⟩ => ⟨S4x4096x2048, .f32⟩
  | .hbm, ⟨35, _⟩ => ⟨S4x4096x2048, .f32⟩
  | .hbm, ⟨36, _⟩ => ⟨S4x4096x2048, .f32⟩
  | .hbm, ⟨37, _⟩ => ⟨S4x4096x2048, .f32⟩
  | .hbm, ⟨38, _⟩ => ⟨S4x4096x2048, .f32⟩
  | .hbm, ⟨39, _⟩ => ⟨S_, .f32⟩
  | .hbm, ⟨40, _⟩ => ⟨S4x4096x2048, .f32⟩
  | .hbm, ⟨41, _⟩ => ⟨S4x4096x2048, .f32⟩
  | .hbm, ⟨42, _⟩ => ⟨S_, .f32⟩
  | .hbm, ⟨43, _⟩ => ⟨S4x4096x2048, .f32⟩
  | .hbm, ⟨44, _⟩ => ⟨S4x4096x2048, .f32⟩
  | .hbm, ⟨45, _⟩ => ⟨S4x4096x2048, .f32⟩
  | .hbm, ⟨46, _⟩ => ⟨S4x4096x2048, .f32⟩
  | .hbm, ⟨47, _⟩ => ⟨S4x4096x2048, .bf16⟩
  | .hbm, ⟨48, _⟩ => ⟨S16384x2048, .bf16⟩
  | _, _ => ⟨S16384x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_c : Ref sig .tc := ⟨.hbm, 10, rfl⟩
abbrev main_call0_v0 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_call1_v0 : Ref sig .tc := ⟨.hbm, 37, rfl⟩
abbrev main_call1_v1 : Ref sig .tc := ⟨.hbm, 38, rfl⟩
abbrev main_call1_cst : Ref sig .tc := ⟨.hbm, 39, rfl⟩
abbrev main_call1_v2 : Ref sig .tc := ⟨.hbm, 40, rfl⟩
abbrev main_call1_v3 : Ref sig .tc := ⟨.hbm, 41, rfl⟩
abbrev main_call1_cst_0 : Ref sig .tc := ⟨.hbm, 42, rfl⟩
abbrev main_call1_v4 : Ref sig .tc := ⟨.hbm, 43, rfl⟩
abbrev main_call1_v5 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩

abbrev nD : Nat := 1
abbrev τ : Topo := Topo.v7x

variable {F : FTy → Type} [FloatOps F]
-- ==== Sb.lean ====
abbrev S16384x8192 : Shape := ⟨2, ![16384, 8192]⟩
abbrev S16384x2048 : Shape := ⟨2, ![16384, 2048]⟩
abbrev S256x128 : Shape := ⟨2, ![256, 128]⟩
abbrev S4096x128 : Shape := ⟨2, ![4096, 128]⟩
abbrev S256x1 : Shape := ⟨2, ![256, 1]⟩
abbrev S256x256 : Shape := ⟨2, ![256, 256]⟩
abbrev S256 : Shape := ⟨1, ![256]⟩
abbrev S1x256x1 : Shape := ⟨3, ![1, 256, 1]⟩
abbrev S1 : Shape := ⟨1, ![1]⟩
abbrev S1x1x1 : Shape := ⟨3, ![1, 1, 1]⟩

abbrev nBuf : Space → Nat
  | .hbm => 2
  | .vmem => 12
  | .smem => 0
  | _ => 0

abbrev bufTy : (tb : Table) → Fin (tcTables nBuf tb) → BufTy
  | .hbm, ⟨0, _⟩ => ⟨S16384x8192, .bf16⟩
  | .hbm, ⟨1, _⟩ => ⟨S16384x2048, .bf16⟩
  | .local _ .vmem, ⟨0, _⟩ => ⟨S256x128, .bf16⟩
  | .local _ .vmem, ⟨1, _⟩ => ⟨S256x128, .bf16⟩
  | .local _ .vmem, ⟨2, _⟩ => ⟨S4096x128, .bf16⟩
  | .local _ .vmem, ⟨3, _⟩ => ⟨S4096x128, .bf16⟩
  | .local _ .vmem, ⟨4, _⟩ => ⟨S4096x128, .bf16⟩
  | .local _ .vmem, ⟨5, _⟩ => ⟨S4096x128, .bf16⟩
  | .local _ .vmem, ⟨6, _⟩ => ⟨S256x128, .bf16⟩
  | .local _ .vmem, ⟨7, _⟩ => ⟨S256x128, .bf16⟩
  | .local _ .vmem, ⟨8, _⟩ => ⟨S256x128, .bf16⟩
  | .local _ .vmem, ⟨9, _⟩ => ⟨S256x128, .bf16⟩
  | .local _ .vmem, ⟨10, _⟩ => ⟨S256x128, .f32⟩
  | .local _ .vmem, ⟨11, _⟩ => ⟨S256x1, .f32⟩
  | _, _ => ⟨S16384x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![4, 16, 16], ![false, false, false]⟩

def k0_mult1 (arg10 : BitVec 32) : BitVec 32 :=
  let c256_i32_16 : BitVec 32 := 256#32
  let v37 : BitVec 32 := Scalar.muli arg10 c256_i32_16
  v37

def k0_off1 (arg10 : BitVec 32) : Fin 2 → Nat :=
  let c256_i32_16 : BitVec 32 := 256#32
  let v37 : BitVec 32 := Scalar.muli arg10 c256_i32_16
  let v38 : BitVec 32 := v37
  let v39 : Index := Scalar.indexCast v38
  let c0_17 : Index := 0#32
  ![v39.toNat, 0]

def k0_chk1 (arg10 : BitVec 32) : Prop :=
  (256 ∣ (k0_mult1 arg10).toNat) ∧
  (∀ a, (k0_off1 arg10) a + S256x128.size a ≤ S4096x128.size a)
theorem k0_mult1_dvd : ∀ (arg10 : BitVec 32) (k0_hw1 : k0_chk1 arg10), 256 ∣ (k0_mult1 arg10).toNat := fun arg10 k0_hw1 => k0_hw1.1
theorem k0_off1_inb : ∀ (arg10 : BitVec 32) (k0_hw1 : k0_chk1 arg10), ∀ a, (k0_off1 arg10) a + S256x128.size a ≤ S4096x128.size a := fun arg10 k0_hw1 => k0_hw1.2

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let v1 : BitVec 32 := Scalar.addi v0 arg2
  let c0_i32 : BitVec 32 := 0#32
  ![v1.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.addi c16_i32 arg1
  let c0_i32 : BitVec 32 := 0#32
  ![arg0.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c32_i32 : BitVec 32 := 32#32
  let v0 : BitVec 32 := Scalar.addi c32_i32 arg1
  let c0_i32 : BitVec 32 := 0#32
  ![arg0.toNat, v0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let v1 : BitVec 32 := Scalar.addi v0 arg2
  let c48_i32 : BitVec 32 := 48#32
  let v2 : BitVec 32 := Scalar.addi c48_i32 arg1
  let c0_i32 : BitVec 32 := 0#32
  ![v1.toNat, v2.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let v1 : BitVec 32 := Scalar.addi v0 arg2
  let c0_i32 : BitVec 32 := 0#32
  ![v1.toNat, arg1.toNat]

abbrev stage0_0 : Fin 2 → Memref sig .tc .vmem S256x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S4096x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S4096x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S256x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S256x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]
-- ==== SbIdeal.lean ====
variable {F : FTy → Type} [FloatOps F] [Named F]
def κ : String → Option EReal := fun
  | "log_zero" => some ⊥
  | _ => none
-- ==== SbRefIdeal.lean ====
abbrev S16384x8192 : Shape := ⟨2, ![16384, 8192]⟩
abbrev S16384x2048 : Shape := ⟨2, ![16384, 2048]⟩
abbrev S4x4096x16x128 : Shape := ⟨4, ![4, 4096, 16, 128]⟩
abbrev S4x16x4096x4096 : Shape := ⟨4, ![4, 16, 4096, 4096]⟩
abbrev S_ : Shape := ⟨0, ![]⟩
abbrev S4096 : Shape := ⟨1, ![4096]⟩
abbrev S1x4096 : Shape := ⟨2, ![1, 4096]⟩
abbrev S4096x1 : Shape := ⟨2, ![4096, 1]⟩
abbrev S4096x4096 : Shape := ⟨2, ![4096, 4096]⟩
abbrev S4x16x128x4096 : Shape := ⟨4, ![4, 16, 128, 4096]⟩

abbrev nBuf : Space → Nat
  | .hbm => 83
  | .vmem => 0
  | .smem => 0
  | _ => 0

abbrev bufTy : (tb : Table) → Fin (tcTables nBuf tb) → BufTy
  | .hbm, ⟨0, _⟩ => ⟨S16384x8192, .bf16⟩
  | .hbm, ⟨1, _⟩ => ⟨S16384x8192, .f32⟩
  | .hbm, ⟨2, _⟩ => ⟨S16384x2048, .f32⟩
  | .hbm, ⟨3, _⟩ => ⟨S16384x2048, .f32⟩
  | .hbm, ⟨4, _⟩ => ⟨S16384x2048, .f32⟩
  | .hbm, ⟨5, _⟩ => ⟨S16384x2048, .f32⟩
  | .hbm, ⟨6, _⟩ => ⟨S4x4096x16x128, .f32⟩
  | .hbm, ⟨7, _⟩ => ⟨S4x4096x16x128, .f32⟩
  | .hbm, ⟨8, _⟩ => ⟨S4x4096x16x128, .f32⟩
  | .hbm, ⟨9, _⟩ => ⟨S4x16x4096x4096, .f32⟩
  | .hbm, ⟨10, _⟩ => ⟨S_, .f32⟩
  | .hbm, ⟨11, _⟩ => ⟨S4x16x4096x4096, .f32⟩
  | .hbm, ⟨12, _⟩ => ⟨S4x16x4096x4096, .f32⟩
  | .hbm, ⟨13, _⟩ => ⟨S4096, .i32⟩
  | .hbm, ⟨14, _⟩ => ⟨S1x4096, .i32⟩
  | .hbm, ⟨15, _⟩ => ⟨S4096, .i32⟩
  | .hbm, ⟨16, _⟩ => ⟨S4096x1, .i32⟩
  | .hbm, ⟨17, _⟩ => ⟨S4096x4096, .i32⟩
  | .hbm, ⟨18, _⟩ => ⟨S4096x4096, .i32⟩
  | .hbm, ⟨19, _⟩ => ⟨S4096x4096, .i1⟩
  | .hbm, ⟨20, _⟩ => ⟨S4x16x4096x4096, .f32⟩
  | .hbm, ⟨21, _⟩ => ⟨S_, .f32⟩
  | .hbm, ⟨22, _⟩ => ⟨S4x16x4096x4096, .f32⟩
  | .hbm, ⟨23, _⟩ => ⟨S4x16x4096x4096, .f32⟩
  | .hbm, ⟨24, _⟩ => ⟨S4x16x4096x4096, .f32⟩
  | .hbm, ⟨25, _⟩ => ⟨S4x16x4096x4096, .f32⟩
  | .hbm, ⟨26, _⟩ => ⟨S4x16x4096x4096, .i1⟩
  | .hbm, ⟨27, _⟩ => ⟨S4x16x4096x4096, .f32⟩
  | .hbm, ⟨28, _⟩ => ⟨S4x16x4096x4096, .f32⟩
  | .hbm, ⟨29, _⟩ => ⟨S4x16x4096x4096, .f32⟩
  | .hbm, ⟨30, _⟩ => ⟨S4x16x4096x4096, .f32⟩
  | .hbm, ⟨31, _⟩ => ⟨S4x16x4096x4096, .f32⟩
  | .hbm, ⟨32, _⟩ => ⟨S4x16x4096x4096, .f32⟩
  | .hbm, ⟨33, _⟩ => ⟨S4x16x4096x4096, .f32⟩
  | .hbm, ⟨34, _⟩ => ⟨S4x16x4096x4096, .f32⟩
  | .hbm, ⟨35, _⟩ => ⟨S4x16x4096x4096, .f32⟩
  | .hbm, ⟨36, _⟩ => ⟨S4x16x4096x4096, .f32⟩
  | .hbm, ⟨37, _⟩ => ⟨S4x16x4096x4096, .f32⟩
  | .hbm, ⟨38, _⟩ => ⟨S_, .f32⟩
  | .hbm, ⟨39, _⟩ => ⟨S4x16x4096x4096, .f32⟩
  | .hbm, ⟨40, _⟩ => ⟨S4x16x4096x4096, .f32⟩
  | .hbm, ⟨41, _⟩ => ⟨S4x16x4096x4096, .f32⟩
  | .hbm, ⟨42, _⟩ => ⟨S4x16x4096x4096, .f32⟩
  | .hbm, ⟨43, _⟩ => ⟨S4x16x4096x4096, .i1⟩
  | .hbm, ⟨44, _⟩ => ⟨S4x16x4096x4096, .f32⟩
  | .hbm, ⟨45, _⟩ => ⟨S4x16x4096x4096, .f32⟩
  | .hbm, ⟨46, _⟩ => ⟨S4x16x4096x4096, .f32⟩
  | .hbm, ⟨47, _⟩ => ⟨S4x16x4096x4096, .f32⟩
  | .hbm, ⟨48, _⟩ => ⟨S4x16x4096x4096, .f32⟩
  | .hbm, ⟨49, _⟩ => ⟨S4x16x4096x4096, .f32⟩
  | .hbm, ⟨50, _⟩ => ⟨S4x16x4096x4096, .f32⟩
  | .hbm, ⟨51, _⟩ => ⟨S4x16x4096x4096, .f32⟩
  | .hbm, ⟨52, _⟩ => ⟨S4x16x4096x4096, .f32⟩
  | .hbm, ⟨53, _⟩ => ⟨S_, .f32⟩
  | .hbm, ⟨54, _⟩ => ⟨S_, .f32⟩
  | .hbm, ⟨55, _⟩ => ⟨S4x16x4096x4096, .i1⟩
  | .hbm, ⟨56, _⟩ => ⟨S4x16x4096x4096, .f32⟩
  | .hbm, ⟨57, _⟩ => ⟨S4x16x4096x4096, .f32⟩
  | .hbm, ⟨58, _⟩ => ⟨S_, .f32⟩
  | .hbm, ⟨59, _⟩ => ⟨S_, .f32⟩
  | .hbm, ⟨60, _⟩ => ⟨S4x16x4096x4096, .f32⟩
  | .hbm, ⟨61, _⟩ => ⟨S4x16x4096x4096, .f32⟩
  | .hbm, ⟨62, _⟩ => ⟨S4x16x4096x4096, .f32⟩
  | .hbm, ⟨63, _⟩ => ⟨S4x16x4096x4096, .f32⟩
  | .hbm, ⟨64, _⟩ => ⟨S_, .f32⟩
  | .hbm, ⟨65, _⟩ => ⟨S_, .f32⟩
  | .hbm, ⟨66, _⟩ => ⟨S4x16x4096x4096, .i1⟩
  | .hbm, ⟨67, _⟩ => ⟨S4x16x4096x4096, .f32⟩
  | .hbm, ⟨68, _⟩ => ⟨S4x16x4096x4096, .f32⟩
  | .hbm, ⟨69, _⟩ => ⟨S4x16x128x4096, .f32⟩
  | .hbm, ⟨70, _⟩ => ⟨S4x4096x16x128, .f32⟩
  | .hbm, ⟨71, _⟩ => ⟨S16384x2048, .f32⟩
  | .hbm, ⟨72, _⟩ => ⟨S16384x2048, .f32⟩
  | .hbm, ⟨73, _⟩ => ⟨S16384x2048, .f32⟩
  | .hbm, ⟨74, _⟩ => ⟨S_, .f32⟩
  | .hbm, ⟨75, _⟩ => ⟨S16384x2048, .f32⟩
  | .hbm, ⟨76, _⟩ => ⟨S16384x2048, .f32⟩
  | .hbm, ⟨77, _⟩ => ⟨S_, .f32⟩
  | .hbm, ⟨78, _⟩ => ⟨S16384x2048, .f32⟩
  | .hbm, ⟨79, _⟩ => ⟨S16384x2048, .f32⟩
  | .hbm, ⟨80, _⟩ => ⟨S16384x2048, .f32⟩
  | .hbm, ⟨81, _⟩ => ⟨S16384x2048, .f32⟩
  | .hbm, ⟨82, _⟩ => ⟨S16384x2048, .bf16⟩
  | _, _ => ⟨S16384x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev main_v8 : Ref sig .tc := ⟨.hbm, 9, rfl⟩
abbrev main_cst : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩
abbrev main_v16 : Ref sig .tc := ⟨.hbm, 18, rfl⟩
abbrev main_v17 : Ref sig .tc := ⟨.hbm, 19, rfl⟩
abbrev main_call0_v0 : Ref sig .tc := ⟨.hbm, 20, rfl⟩
abbrev main_call0_call0_cst : Ref sig .tc := ⟨.hbm, 21, rfl⟩
abbrev main_call0_call0_v0 : Ref sig .tc := ⟨.hbm, 22, rfl⟩
abbrev main_call0_call0_v1 : Ref sig .tc := ⟨.hbm, 23, rfl⟩
abbrev main_call0_call0_v2 : Ref sig .tc := ⟨.hbm, 24, rfl⟩
abbrev main_call0_call0_v3 : Ref sig .tc := ⟨.hbm, 25, rfl⟩
abbrev main_call0_call0_v4 : Ref sig .tc := ⟨.hbm, 26, rfl⟩
abbrev main_call0_call0_v5 : Ref sig .tc := ⟨.hbm, 27, rfl⟩
abbrev main_call0_call0_v6 : Ref sig .tc := ⟨.hbm, 28, rfl⟩
abbrev main_call0_call0_v7 : Ref sig .tc := ⟨.hbm, 29, rfl⟩
abbrev main_call0_call0_v8 : Ref sig .tc := ⟨.hbm, 30, rfl⟩
abbrev main_call0_call0_v9 : Ref sig .tc := ⟨.hbm, 31, rfl⟩
abbrev main_call0_call0_v10 : Ref sig .tc := ⟨.hbm, 32, rfl⟩
abbrev main_call0_call0_v11 : Ref sig .tc := ⟨.hbm, 33, rfl⟩
abbrev main_call0_v1 : Ref sig .tc := ⟨.hbm, 34, rfl⟩
abbrev main_v18 : Ref sig .tc := ⟨.hbm, 35, rfl⟩
abbrev main_v19 : Ref sig .tc := ⟨.hbm, 36, rfl⟩
abbrev main_call1_v0 : Ref sig .tc := ⟨.hbm, 37, rfl⟩
abbrev main_call1_call0_cst : Ref sig .tc := ⟨.hbm, 38, rfl⟩
abbrev main_call1_call0_v0 : Ref sig .tc := ⟨.hbm, 39, rfl⟩
abbrev main_call1_call0_v1 : Ref sig .tc := ⟨.hbm, 40, rfl⟩
abbrev main_call1_call0_v2 : Ref sig .tc := ⟨.hbm, 41, rfl⟩
abbrev main_call1_call0_v3 : Ref sig .tc := ⟨.hbm, 42, rfl⟩
abbrev main_call1_call0_v4 : Ref sig .tc := ⟨.hbm, 43, rfl⟩
abbrev main_call1_call0_v5 : Ref sig .tc := ⟨.hbm, 44, rfl⟩
abbrev main_call1_call0_v6 : Ref sig .tc := ⟨.hbm, 45, rfl⟩
abbrev main_call1_call0_v7 : Ref sig .tc := ⟨.hbm, 46, rfl⟩
abbrev main_call1_call0_v8 : Ref sig .tc := ⟨.hbm, 47, rfl⟩
abbrev main_call1_call0_v9 : Ref sig .tc := ⟨.hbm, 48, rfl⟩
abbrev main_call1_call0_v10 : Ref sig .tc := ⟨.hbm, 49, rfl⟩
abbrev main_call1_call0_v11 : Ref sig .tc := ⟨.hbm, 50, rfl⟩
abbrev main_call1_v1 : Ref sig .tc := ⟨.hbm, 51, rfl⟩
abbrev main_v20 : Ref sig .tc := ⟨.hbm, 52, rfl⟩
abbrev main_cst_0 : Ref sig .tc := ⟨.hbm, 53, rfl⟩
abbrev main_call2_v0 : Ref sig .tc := ⟨.hbm, 54, rfl⟩
abbrev main_call2_v1 : Ref sig .tc := ⟨.hbm, 55, rfl⟩
abbrev main_call2_v2 : Ref sig .tc := ⟨.hbm, 56, rfl⟩
abbrev main_v21 : Ref sig .tc := ⟨.hbm, 57, rfl⟩
abbrev main_call3_cst : Ref sig .tc := ⟨.hbm, 58, rfl⟩
abbrev main_call3_v0 : Ref sig .tc := ⟨.hbm, 59, rfl⟩
abbrev main_v22 : Ref sig .tc := ⟨.hbm, 60, rfl⟩
abbrev main_v23 : Ref sig .tc := ⟨.hbm, 61, rfl⟩
abbrev main_v24 : Ref sig .tc := ⟨.hbm, 62, rfl⟩
abbrev main_v25 : Ref sig .tc := ⟨.hbm, 63, rfl⟩
abbrev main_cst_1 : Ref sig .tc := ⟨.hbm, 64, rfl⟩
abbrev main_call4_v0 : Ref sig .tc := ⟨.hbm, 65, rfl⟩
abbrev main_call4_v1 : Ref sig .tc := ⟨.hbm, 66, rfl⟩
abbrev main_call4_v2 : Ref sig .tc := ⟨.hbm, 67, rfl⟩
abbrev main_v26 : Ref sig .tc := ⟨.hbm, 68, rfl⟩
abbrev main_v27 : Ref sig .tc := ⟨.hbm, 69, rfl⟩
abbrev main_v28 : Ref sig .tc := ⟨.hbm, 70, rfl⟩
abbrev main_v29 : Ref sig .tc := ⟨.hbm, 71, rfl⟩
abbrev main_call5_v0 : Ref sig .tc := ⟨.hbm, 72, rfl⟩
abbrev main_call5_v1 : Ref sig .tc := ⟨.hbm, 73, rfl⟩
abbrev main_call5_cst : Ref sig .tc := ⟨.hbm, 74, rfl⟩
abbrev main_call5_v2 : Ref sig .tc := ⟨.hbm, 75, rfl⟩
abbrev main_call5_v3 : Ref sig .tc := ⟨.hbm, 76, rfl⟩
abbrev main_call5_cst_0 : Ref sig .tc := ⟨.hbm, 77, rfl⟩
abbrev main_call5_v4 : Ref sig .tc := ⟨.hbm, 78, rfl⟩
abbrev main_call5_v5 : Ref sig .tc := ⟨.hbm, 79, rfl⟩
abbrev main_v30 : Ref sig .tc := ⟨.hbm, 80, rfl⟩
abbrev main_v31 : Ref sig .tc := ⟨.hbm, 81, rfl⟩
abbrev main_v32 : Ref sig .tc := ⟨.hbm, 82, rfl⟩

abbrev nD : Nat := 1
abbrev τ : Topo := Topo.v7x

variable {F : FTy → Type} [FloatOps F]
-- ==== RopeC.lean ====
abbrev S4x4096 : Shape := ⟨2, ![4, 4096]⟩
abbrev S16384x1 : Shape := ⟨2, ![16384, 1]⟩
abbrev S16384x128 : Shape := ⟨2, ![16384, 128]⟩
abbrev S1024x1 : Shape := ⟨2, ![1024, 1]⟩
abbrev S1024x128 : Shape := ⟨2, ![1024, 128]⟩
abbrev S1x128 : Shape := ⟨2, ![1, 128]⟩

abbrev nBuf : Space → Nat
  | .hbm => 5
  | .vmem => 6
  | .smem => 0
  | _ => 0

abbrev bufTy : (tb : Table) → Fin (tcTables nBuf tb) → BufTy
  | .hbm, ⟨0, _⟩ => ⟨S4x4096, .i32⟩
  | .hbm, ⟨1, _⟩ => ⟨S16384x1, .i32⟩
  | .hbm, ⟨2, _⟩ => ⟨S16384x1, .f32⟩
  | .hbm, ⟨3, _⟩ => ⟨S16384x128, .f32⟩
  | .hbm, ⟨4, _⟩ => ⟨S16384x128, .f32⟩
  | .local _ .vmem, ⟨0, _⟩ => ⟨S1024x1, .f32⟩
  | .local _ .vmem, ⟨1, _⟩ => ⟨S1024x1, .f32⟩
  | .local _ .vmem, ⟨2, _⟩ => ⟨S1024x128, .f32⟩
  | .local _ .vmem, ⟨3, _⟩ => ⟨S1024x128, .f32⟩
  | .local _ .vmem, ⟨4, _⟩ => ⟨S1024x128, .f32⟩
  | .local _ .vmem, ⟨5, _⟩ => ⟨S1024x128, .f32⟩
  | _, _ => ⟨S4x4096, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2_0 : Ref sig .tc := ⟨.hbm, 3, rfl⟩
abbrev main_v2_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== RopeCRefIdeal.lean ====
abbrev S4x4096 : Shape := ⟨2, ![4, 4096]⟩
abbrev S32 : Shape := ⟨1, ![32]⟩
abbrev S_ : Shape := ⟨0, ![]⟩
abbrev S4x4096x1 : Shape := ⟨3, ![4, 4096, 1]⟩
abbrev S1x1x32 : Shape := ⟨3, ![1, 1, 32]⟩
abbrev S4x4096x32 : Shape := ⟨3, ![4, 4096, 32]⟩
abbrev S4x4096x1x32 : Shape := ⟨4, ![4, 4096, 1, 32]⟩
abbrev S4x4096x4x32 : Shape := ⟨4, ![4, 4096, 4, 32]⟩
abbrev S16384x128 : Shape := ⟨2, ![16384, 128]⟩

abbrev nBuf : Space → Nat
  | .hbm => 20
  | .vmem => 0
  | .smem => 0
  | _ => 0

abbrev bufTy : (tb : Table) → Fin (tcTables nBuf tb) → BufTy
  | .hbm, ⟨0, _⟩ => ⟨S4x4096, .i32⟩
  | .hbm, ⟨1, _⟩ => ⟨S32, .f32⟩
  | .hbm, ⟨2, _⟩ => ⟨S_, .f32⟩
  | .hbm, ⟨3, _⟩ => ⟨S32, .f32⟩
  | .hbm, ⟨4, _⟩ => ⟨S32, .f32⟩
  | .hbm, ⟨5, _⟩ => ⟨S_, .f32⟩
  | .hbm, ⟨6, _⟩ => ⟨S32, .f32⟩
  | .hbm, ⟨7, _⟩ => ⟨S32, .f32⟩
  | .hbm, ⟨8, _⟩ => ⟨S32, .f32⟩
  | .hbm, ⟨9, _⟩ => ⟨S4x4096, .f32⟩
  | .hbm, ⟨10, _⟩ => ⟨S4x4096x1, .f32⟩
  | .hbm, ⟨11, _⟩ => ⟨S1x1x32, .f32⟩
  | .hbm, ⟨12, _⟩ => ⟨S4x4096x32, .f32⟩
  | .hbm, ⟨13, _⟩ => ⟨S4x4096x32, .f32⟩
  | .hbm, ⟨14, _⟩ => ⟨S4x4096x32, .f32⟩
  | .hbm, ⟨15, _⟩ => ⟨S4x4096x1x32, .f32⟩
  | .hbm, ⟨16, _⟩ => ⟨S4x4096x4x32, .f32⟩
  | .hbm, ⟨17, _⟩ => ⟨S16384x128, .f32⟩
  | .hbm, ⟨18, _⟩ => ⟨S16384x128, .f32⟩
  | .hbm, ⟨19, _⟩ => ⟨S16384x128, .f32⟩
  | _, _ => ⟨S4x4096, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩
abbrev main_v2 : Ref sig .tc := ⟨.hbm, 4, rfl⟩
abbrev main_cst_0 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩

abbrev nD : Nat := 1
abbrev τ : Topo := Topo.v7x

variable {F : FTy → Type} [FloatOps F]
-- ==== RopeD.lean ====
abbrev S4x4096 : Shape := ⟨2, ![4, 4096]⟩
abbrev S16384x1 : Shape := ⟨2, ![16384, 1]⟩
abbrev S16384x128 : Shape := ⟨2, ![16384, 128]⟩
abbrev S1024x1 : Shape := ⟨2, ![1024, 1]⟩
abbrev S1024x128 : Shape := ⟨2, ![1024, 128]⟩
abbrev S1x128 : Shape := ⟨2, ![1, 128]⟩

abbrev nBuf : Space → Nat
  | .hbm => 5
  | .vmem => 6
  | .smem => 0
  | _ => 0

abbrev bufTy : (tb : Table) → Fin (tcTables nBuf tb) → BufTy
  | .hbm, ⟨0, _⟩ => ⟨S4x4096, .i32⟩
  | .hbm, ⟨1, _⟩ => ⟨S16384x1, .i32⟩
  | .hbm, ⟨2, _⟩ => ⟨S16384x1, .f32⟩
  | .hbm, ⟨3, _⟩ => ⟨S16384x128, .f32⟩
  | .hbm, ⟨4, _⟩ => ⟨S16384x128, .f32⟩
  | .local _ .vmem, ⟨0, _⟩ => ⟨S1024x1, .f32⟩
  | .local _ .vmem, ⟨1, _⟩ => ⟨S1024x1, .f32⟩
  | .local _ .vmem, ⟨2, _⟩ => ⟨S1024x128, .f32⟩
  | .local _ .vmem, ⟨3, _⟩ => ⟨S1024x128, .f32⟩
  | .local _ .vmem, ⟨4, _⟩ => ⟨S1024x128, .f32⟩
  | .local _ .vmem, ⟨5, _⟩ => ⟨S1024x128, .f32⟩
  | _, _ => ⟨S4x4096, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2_0 : Ref sig .tc := ⟨.hbm, 3, rfl⟩
abbrev main_v2_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== RopeDRefIdeal.lean ====
abbrev S4x4096 : Shape := ⟨2, ![4, 4096]⟩
abbrev S128 : Shape := ⟨1, ![128]⟩
abbrev S_ : Shape := ⟨0, ![]⟩
abbrev S4x4096x1 : Shape := ⟨3, ![4, 4096, 1]⟩
abbrev S1x1x128 : Shape := ⟨3, ![1, 1, 128]⟩
abbrev S4x4096x128 : Shape := ⟨3, ![4, 4096, 128]⟩
abbrev S16384x128 : Shape := ⟨2, ![16384, 128]⟩

abbrev nBuf : Space → Nat
  | .hbm => 18
  | .vmem => 0
  | .smem => 0
  | _ => 0

abbrev bufTy : (tb : Table) → Fin (tcTables nBuf tb) → BufTy
  | .hbm, ⟨0, _⟩ => ⟨S4x4096, .i32⟩
  | .hbm, ⟨1, _⟩ => ⟨S128, .f32⟩
  | .hbm, ⟨2, _⟩ => ⟨S_, .f32⟩
  | .hbm, ⟨3, _⟩ => ⟨S128, .f32⟩
  | .hbm, ⟨4, _⟩ => ⟨S128, .f32⟩
  | .hbm, ⟨5, _⟩ => ⟨S_, .f32⟩
  | .hbm, ⟨6, _⟩ => ⟨S128, .f32⟩
  | .hbm, ⟨7, _⟩ => ⟨S128, .f32⟩
  | .hbm, ⟨8, _⟩ => ⟨S128, .f32⟩
  | .hbm, ⟨9, _⟩ => ⟨S4x4096, .f32⟩
  | .hbm, ⟨10, _⟩ => ⟨S4x4096x1, .f32⟩
  | .hbm, ⟨11, _⟩ => ⟨S1x1x128, .f32⟩
  | .hbm, ⟨12, _⟩ => ⟨S4x4096x128, .f32⟩
  | .hbm, ⟨13, _⟩ => ⟨S4x4096x128, .f32⟩
  | .hbm, ⟨14, _⟩ => ⟨S4x4096x128, .f32⟩
  | .hbm, ⟨15, _⟩ => ⟨S16384x128, .f32⟩
  | .hbm, ⟨16, _⟩ => ⟨S16384x128, .f32⟩
  | .hbm, ⟨17, _⟩ => ⟨S16384x128, .f32⟩
  | _, _ => ⟨S4x4096, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩
abbrev main_v2 : Ref sig .tc := ⟨.hbm, 4, rfl⟩
abbrev main_cst_0 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩

abbrev nD : Nat := 1
abbrev τ : Topo := Topo.v7x

variable {F : FTy → Type} [FloatOps F]
-- ==== Proof.AttnWords.lean ====
module

public import proofs.«01_k».proof.Proof.Gen.AttnIdeal.Loops
public import Idealize.ShloMosaic.Lib.LoopRemainder
public import Idealize.ShloMosaic.PureOps.Ideal

/-! The attention kernel's whole-number facts: how many blocks the counted loop goes through, where each block starts, and
which entries of the last block the chunk mask keeps. -/

@[expose] public section

set_option maxRecDepth 16384

noncomputable section

namespace Cert.AttnIdeal.Calc

open Cert.AttnIdeal Cert.AttnIdeal.Gen Idealize.ShloMosaic Idealize.ShloMosaic.TcCoe Idealize.SL.Sem

/-- The grid has sixteen row blocks. -/
theorem row_lt (i : grid0.Coords) : (i 2).val < 16 := (i 2).isLt

/-- The loop goes through the blocks before the row block's own. -/
theorem trips_eq (i : grid0.Coords) : (k0_t1_loop i).trips = (i 2).val := by
  have h : ∀ a : Fin 16, Scf.trips 0#32
      (Scalar.addi 0#32 (Scalar.muli (Scalar.divsi (Scalar.subi (BitVec.ofNat 32 a.val) 0#32) 1#32) 1#32)) 1#32 = a.val := by
    decide +kernel
  exact h ⟨(i 2).val, row_lt i⟩

/-- The loop behind it makes no trip. -/
theorem rest_trips (i : grid0.Coords) : (k0_t2_loop i).trips = 0 := Scf.rem_trips _ _

theorem word_mul (a : ℕ) (h : a < 16) :
    (Scalar.muli (Scf.iv 0#32 1#32 a) 256#32 : BitVec 32).toNat = 256 * a := by
  have : ∀ a : Fin 16, (Scalar.muli (Scf.iv 0#32 1#32 a.val) 256#32 : BitVec 32).toNat = 256 * a.val := by decide +kernel
  exact this ⟨a, h⟩

/-- Block `k` of the keys starts at row `256 k`. -/
theorem key_off (i : grid0.Coords) (k : Fin (k0_t1_loop i).trips) : k0_off1 i k = ![256 * k.val, 0] := by
  have h : k.val < (i 2).val := (trips_eq i) ▸ k.isLt
  exact congrArg (fun n => ![n, 0]) (word_mul k.val (h.trans (row_lt i)))

/-- Block `k` of the values starts at row `256 k`. -/
theorem val_off (i : grid0.Coords) (k : Fin (k0_t1_loop i).trips) : k0_off2 i k = ![256 * k.val, 0] := by
  have h : k.val < (i 2).val := (trips_eq i) ▸ k.isLt
  exact congrArg (fun n => ![n, 0]) (word_mul k.val (h.trans (row_lt i)))

theorem word_row (a : ℕ) (h : a < 16) : (Scalar.muli (BitVec.ofNat 32 a) 256#32 : BitVec 32).toNat = 256 * a := by
  have : ∀ a : Fin 16, (Scalar.muli (BitVec.ofNat 32 a.val) 256#32 : BitVec 32).toNat = 256 * a.val := by decide +kernel
  exact this ⟨a, h⟩

/-- The masked block of the keys starts at the row block's first row. -/
theorem last_key_off (i : grid0.Coords) : k0_off5 i = ![256 * (i 2).val, 0] :=
  congrArg (fun n => ![n, 0]) (word_row _ (row_lt i))

/-- The masked block of the values starts there too. -/
theorem last_val_off (i : grid0.Coords) : k0_off6 i = ![256 * (i 2).val, 0] :=
  congrArg (fun n => ![n, 0]) (word_row _ (row_lt i))

/-- The chunk mask of the last block, over the row and column numbers inside it. -/
abbrev mask : IVec S256x256 1 := k0_pay22 (iota .tc S256x256 32 [0] iota_S256x256_d0_w32) 64#32 k0_pay20 k0_pay21

/-- The quotient by 64 of a number below 256, as the kernel rounds it. -/
def chunk (a : BitVec 32) : BitVec 32 :=
  if (Scalar.andi (Scalar.cmpi .ne
      (Scalar.subi (Scalar.extui (Scalar.cmpi .sgt a 0#32)) (Scalar.extui (Scalar.cmpi .slt a 0#32)) : BitVec 32)
      (Scalar.subi (Scalar.extui (Scalar.cmpi .sgt 64#32 0#32)) (Scalar.extui (Scalar.cmpi .slt 64#32 0#32)) : BitVec 32))
      (Scalar.cmpi .ne (Scalar.remsi a 64#32) 0#32) : BitVec 1) = 1#1
  then Scalar.subi (Scalar.divsi a 64#32) 1#32 else Scalar.divsi a 64#32

theorem chunk_eq : ∀ a : Fin 256, chunk (BitVec.ofNat 32 a.val) = BitVec.ofNat 32 (a.val / 64) := by decide +kernel

theorem mask_words (y : S256x256.Idx) (a b : BitVec 32) (h0 : iota .tc S256x256 32 [0] iota_S256x256_d0_w32 y = a)
    (h1 : iota .tc S256x256 32 [1] iota_S256x256_d1_w32 y = b) : mask y = Scalar.cmpi .sle (chunk b) (chunk a) := by
  subst h0 h1
  rfl

/-- The mask keeps the columns of the row's own chunk of 64 and of the chunks before it. -/
theorem mask_apply (y : S256x256.Idx) : mask y = 1#1 ↔ (y 1).val / 64 ≤ (y 0).val / 64 := by
  have h : mask y = Scalar.cmpi .sle (chunk (BitVec.ofNat 32 (y 1).val)) (chunk (BitVec.ofNat 32 (y 0).val)) :=
    mask_words y _ _ (by simp [iota]) (by simp [iota])
  have h0 : (y 0).val < 256 := (y 0).isLt
  have h1 : (y 1).val < 256 := (y 1).isLt
  rw [h, chunk_eq ⟨_, h0⟩, chunk_eq ⟨_, h1⟩]
  have hd : ∀ a b : Fin 4, (Scalar.cmpi .sle (BitVec.ofNat 32 a.val) (BitVec.ofNat 32 b.val) : BitVec 1) = 1#1 ↔ a.val ≤ b.val := by
    decide +kernel
  exact hd ⟨(y 1).val / 64, by omega⟩ ⟨(y 0).val / 64, by omega⟩

end Cert.AttnIdeal.Calc

end
-- ==== Proof.AttnSteps.lean ====
module

public import proofs.«01_k».proof.Proof.AttnWords
public import proofs.«01_k».proof.Proof.Gen.AttnIdeal.Frame
public import Idealize.ShloMosaic.Lib.Pipeline.ValueKit
public import Idealize.ShloMosaic.Lib.Pointwise
public import Idealize.ShloMosaic.Lib.Tactic

/-! What one row block of the attention kernel leaves: the running maximum, normaliser and weighted sum as a recursion over
the key blocks, and the closing masked block over it. -/

@[expose] public section

set_option maxRecDepth 16384

noncomputable section

namespace Cert.AttnIdeal.Calc

open Cert.AttnIdeal Cert.AttnIdeal.Gen Idealize.ShloMosaic Idealize.ShloMosaic.TcCoe Idealize.SL.Sem

/-- Keys `256 k` to `256 k + 255`. -/
def keys (x1 : Vec Ideal S4096x256 .bf16) (k : ℕ) : Vec Ideal S256x256 .bf16 :=
  fun y => x1 (ix2 ⟨(256 * k + (y 0).val) % 4096, Nat.mod_lt _ (by decide)⟩ (y 1))

/-- Values `256 k` to `256 k + 255`. -/
def vals (x2 : Vec Ideal S4096x128 .bf16) (k : ℕ) : Vec Ideal S256x128 .bf16 :=
  fun y => x2 (ix2 ⟨(256 * k + (y 0).val) % 4096, Nat.mod_lt _ (by decide)⟩ (y 1))

/-- The maximum, the normaliser and the weighted sum after the first `k` blocks. -/
def run (v0 : Vec Ideal S256x256 .bf16) (x1 : Vec Ideal S4096x256 .bf16) (x2 : Vec Ideal S4096x128 .bf16) :
    ℕ → Vec Ideal S256x1 .f32 × Vec Ideal S256x1 .f32 × Vec Ideal S256x128 .f32
  | 0 => (k0_pay2 (F := Ideal), k0_pay3 (F := Ideal), k0_pay4 (F := Ideal))
  | k + 1 => (k0_pay11 v0 (keys x1 k) (run v0 x1 x2 k).1,
      k0_pay9 v0 (keys x1 k) (run v0 x1 x2 k).1 (run v0 x1 x2 k).2.1,
      k0_pay10 v0 (keys x1 k) (vals x2 k) (run v0 x1 x2 k).1 (run v0 x1 x2 k).2.2)

/-- What the row block's body stores: the masked block over the recursion, the division and the gate. -/
def block (a : ℕ) (x0 : Vec Ideal S256x256 .bf16) (x1 : Vec Ideal S4096x256 .bf16) (x2 : Vec Ideal S4096x128 .bf16)
    (x3 : Vec Ideal S256x128 .bf16) : Vec Ideal S256x128 .bf16 :=
  k0_pay1 (k0_pay31 (k0_pay29 (vals x2 a) (k0_pay19 x0 (keys x1 a)) mask k0_pay23 (run x0 x1 x2 a).1 (run x0 x1 x2 a).2.2)
    (k0_pay28 (k0_pay19 x0 (keys x1 a)) mask k0_pay23 (run x0 x1 x2 a).1 (run x0 x1 x2 a).2.1)) x3

theorem zero_off : (![0, 0] : Fin 2 → Nat) = fun _ => 0 := by funext a; fin_cases a <;> rfl

/-- Reading back a buffer whose last store covered it. -/
theorem read_last {κ : Kind} {sp : Space} {S : Shape} {e : EltTy} (v : View sig κ sp S e)
    (f : v.ty.Contents (Elt Ideal)) {off : Fin S.rank → Nat} (h : off = fun _ => 0) (inb : ∀ a, off a + S.size a ≤ S.size a)
    (w : S.Idx → Elt Ideal e) (L : List (View.Piece (Elt Ideal) S e)) :
    v.read (Elt Ideal) (v.writes (Elt Ideal) f ((⟨Rect.unit off S.size inb, w⟩ : View.Piece (Elt Ideal) S e) :: L)) = w := by
  rw [View.read_writes_eq_canon, View.canon_cons_unit_zero h]
  subst h
  exact fun y => ⟨_, List.mem_cons_self, by show y ∈ (Rect.whole S).set; rw [Rect.set_whole]; exact Finset.mem_univ y⟩

/-- A load of a whole column buffer reads it. -/
theorem ld_col (X : Vec Ideal S256x1 .f32) (inb : ∀ a, (![0, 0] : Fin 2 → Nat) a + (![256, 1] : Fin 2 → Nat) a ≤ S256x1.size a) :
    View.ld X (Rect.unit (s := S256x1) ![0, 0] ![256, 1] inb) = X := View.ld_unit_zero (S := S256x1) zero_off inb X

/-- A load of a whole 128-column buffer reads it. -/
theorem ld_wide {e : EltTy} (X : S256x128.Idx → Elt Ideal e) (inb : ∀ a, (![0, 0] : Fin 2 → Nat) a + (![256, 128] : Fin 2 → Nat) a ≤ S256x128.size a) :
    View.ld X (Rect.unit (s := S256x128) ![0, 0] ![256, 128] inb) = X := View.ld_unit_zero (S := S256x128) zero_off inb X

/-- A load of a whole square buffer reads it. -/
theorem ld_square {e : EltTy} (X : S256x256.Idx → Elt Ideal e) (inb : ∀ a, (![0, 0] : Fin 2 → Nat) a + (![256, 256] : Fin 2 → Nat) a ≤ S256x256.size a) :
    View.ld X (Rect.unit (s := S256x256) ![0, 0] ![256, 256] inb) = X := View.ld_unit_zero (S := S256x256) zero_off inb X

section Body

variable (𝒱 : Variants) (c : Dev nD) (bd : Option 𝒱.V) (i : grid0.Coords) (arg3 : Memref sig .tc .vmem S256x256 .bf16) (harg3 : arg3.IsWhole) (arg4 : Memref sig .tc .vmem S4096x256 .bf16) (harg4 : arg4.IsWhole) (arg5 : Memref sig .tc .vmem S4096x128 .bf16) (harg5 : arg5.IsWhole) (arg6 : Memref sig .tc .vmem S256x128 .bf16) (harg6 : arg6.IsWhole) (arg7 : Memref sig .tc .vmem S256x128 .bf16) (harg7 : arg7.IsWhole) (arg8 : Memref sig .tc .vmem S256x1 .f32) (harg8 : arg8.IsWhole) (arg9 : Memref sig .tc .vmem S256x1 .f32) (harg9 : arg9.IsWhole) (arg10 : Memref sig .tc .vmem S256x128 .f32) (harg10 : arg10.IsWhole)
  (x0 : Vec Ideal S256x256 .bf16) (x1 : Vec Ideal S4096x256 .bf16) (x2 : Vec Ideal S4096x128 .bf16) (x3 : Vec Ideal S256x128 .bf16)

/-- The keys a trip loads. -/
theorem ld_keys (k : ℕ) (hk : k < 16) (off : Fin 2 → Nat) (ho : off = ![256 * k, 0])
    (inb : ∀ a, off a + S256x256.size a ≤ S4096x256.size a) :
    View.ld x1 (Rect.unit (s := S4096x256) off S256x256.size inb) = keys x1 k := by
  subst ho
  funext y
  refine View.ld_unit_apply_of _ _ _ _ _ _ fun a => ?_
  have h0 : (y 0).val < 256 := (y 0).isLt
  fin_cases a
  · show (256 * k + (y 0).val) % 4096 = 256 * k + (y 0).val
    exact Nat.mod_eq_of_lt (by omega)
  · show (y 1).val = 0 + (y 1).val
    omega

/-- The values a trip loads. -/
theorem ld_vals (k : ℕ) (hk : k < 16) (off : Fin 2 → Nat) (ho : off = ![256 * k, 0])
    (inb : ∀ a, off a + S256x128.size a ≤ S4096x128.size a) :
    View.ld x2 (Rect.unit (s := S4096x128) off S256x128.size inb) = vals x2 k := by
  subst ho
  funext y
  refine View.ld_unit_apply_of _ _ _ _ _ _ fun a => ?_
  have h0 : (y 0).val < 256 := (y 0).isLt
  fin_cases a
  · show (256 * k + (y 0).val) % 4096 = 256 * k + (y 0).val
    exact Nat.mod_eq_of_lt (by omega)
  · show (y 1).val = 0 + (y 1).val
    omega

/-- The three scratch buffers after `k` trips, as the recursion says. -/
theorem trips_run (k : ℕ) (hk : k ≤ (k0_t1_loop i).trips)
    (G8 : BufTy.Contents (Elt Ideal) arg8.view.ty) (h8 : arg8.view.read (Elt Ideal) G8 = k0_pay2 (F := Ideal))
    (G9 : BufTy.Contents (Elt Ideal) arg9.view.ty) (h9 : arg9.view.read (Elt Ideal) G9 = k0_pay3 (F := Ideal))
    (G10 : BufTy.Contents (Elt Ideal) arg10.view.ty) (h10 : arg10.view.read (Elt Ideal) G10 = k0_pay4 (F := Ideal)) :
    (arg8.view.read (Elt Ideal) (arg8.view.writes (Elt Ideal) G8 (pb_k0_t1 (F := Ideal) 𝒱 c bd i arg3 harg3 arg4 harg4 arg5 harg5 arg6 harg6 arg7 harg7 arg8 harg8 arg9 harg9 arg10 harg10 x0 (harg4.unread x1) (harg5.unread x2) G8 G9 G10 k).1),
     arg9.view.read (Elt Ideal) (arg9.view.writes (Elt Ideal) G9 (pb_k0_t1 (F := Ideal) 𝒱 c bd i arg3 harg3 arg4 harg4 arg5 harg5 arg6 harg6 arg7 harg7 arg8 harg8 arg9 harg9 arg10 harg10 x0 (harg4.unread x1) (harg5.unread x2) G8 G9 G10 k).2.1),
     arg10.view.read (Elt Ideal) (arg10.view.writes (Elt Ideal) G10 (pb_k0_t1 (F := Ideal) 𝒱 c bd i arg3 harg3 arg4 harg4 arg5 harg5 arg6 harg6 arg7 harg7 arg8 harg8 arg9 harg9 arg10 harg10 x0 (harg4.unread x1) (harg5.unread x2) G8 G9 G10 k).2.2))
      = run x0 x1 x2 k := by
  induction k with
  | zero => exact Prod.ext h8 (Prod.ext h9 h10)
  | succ k ih =>
    have ih := ih (by omega)
    have hk16 : k < 16 := by have := row_lt i; rw [trips_eq] at hk; omega
    have hs := pb_k0_t1_succ (F := Ideal) 𝒱 c bd i arg3 harg3 arg4 harg4 arg5 harg5 arg6 harg6 arg7 harg7 arg8 harg8 arg9 harg9 arg10 harg10 x0 (harg4.unread x1) (harg5.unread x2) G8 G9 G10 ⟨k, by omega⟩
    rw [hs]
    unfold run
    rw [← ih]
    unfold tripL_k0_t1 trip_k0_t1
    dsimp only
    refine Prod.ext ?_ (Prod.ext ?_ ?_)
    all_goals
      dsimp only
      refine (read_last _ _ zero_off _ _ _).trans ?_
      simp only [View.readAt_eq_ld, harg4.read_unread, harg5.read_unread, ld_col, ld_wide, ld_square]
    · rw [ld_keys x1 k hk16 _ (key_off i _)]
    · rw [ld_keys x1 k hk16 _ (key_off i _)]
    · rw [ld_keys x1 k hk16 _ (key_off i _), ld_vals x2 k hk16 _ (val_off i _)]

/-- What the body leaves in the output block. -/
theorem out_eq :
    out0_A_4 (F := Ideal) c i arg3 harg3 arg4 harg4 arg5 harg5 arg6 harg6 arg7 harg7 arg8 harg8 arg9 harg9 arg10 harg10 x0 x1 x2 x3
      = block (i 2).val x0 x1 x2 x3 := by
  have ht1 : Scf.trips (k0_t1_loop i).lb (k0_t1_loop i).ub (k0_t1_loop i).st = (i 2).val := trips_eq i
  have ht2 : Scf.trips (k0_t2_loop i).lb (k0_t2_loop i).ub (k0_t2_loop i).st = 0 := rest_trips i
  have hr := trips_run Variants.none c none i arg3 harg3 arg4 harg4 arg5 harg5 arg6 harg6 arg7 harg7 arg8 harg8 arg9 harg9 arg10 harg10 x0 x1 x2
    (i 2).val (trips_eq i).ge _ (read_last arg8.view arg8.view.junk zero_off inb_S256x1_S256x1_0_0 (k0_pay2 (F := Ideal)) [])
    _ (read_last arg9.view arg9.view.junk zero_off inb_S256x1_S256x1_0_0 (k0_pay3 (F := Ideal)) [])
    _ (read_last arg10.view arg10.view.junk zero_off inb_S256x128_S256x128_0_0 (k0_pay4 (F := Ideal)) [])
  unfold out0_A_4 kernelRun0_A
  sl_unfold_words
  refine (read_last _ _ zero_off _ _ _).trans ?_
  simp only [View.readCov, View.writes_append, View.readAt_eq_ld, harg3.read_unread, harg4.read_unread, harg5.read_unread, harg6.read_unread,
    ld_col, ld_wide, ld_square, View.ld_unit_zero (S := S256x256) zero_off, View.ld_unit_zero (S := S256x1) zero_off, View.ld_unit_zero (S := S256x128) zero_off, ht1, ht2]
  have e8 := congrArg (fun p => p.1) hr
  have e9 := congrArg (fun p => p.2.1) hr
  have e10 := congrArg (fun p => p.2.2) hr
  dsimp only at e8 e9 e10
  unfold pb_k0_t2
  dsimp only
  simp only [View.writes_nil, e8, e9, e10, List.nil_append]
  refine (congrArg (fun z => k0_pay1 z x3)
    (congrArg₂ k0_pay31 (read_last _ _ zero_off _ _ _) (read_last _ _ zero_off _ _ _))).trans ?_
  unfold block
  rw [← ld_keys x1 (i 2).val (row_lt i) _ (last_key_off i) (k0_off5_inb i),
    ← ld_vals x2 (i 2).val (row_lt i) _ (last_val_off i) (k0_off6_inb i)]
  rfl

end Body

end Cert.AttnIdeal.Calc

end
-- ==== Proof.Online.lean ====
module

public import Idealize.ShloMosaic.PureOps.Ideal
public import Idealize.ShloMosaic.Lib.IdealHost
public import Mathlib.Algebra.BigOperators.Fin

/-! The running softmax over the extended reals: a maximum, a normaliser and a weighted sum kept over the columns seen so
far, and what a new block of columns makes of them. No row needs to be finite for the running step; only the closing
division does. -/

@[expose] public section

noncomputable section

namespace Cert.Online

open Idealize.ShloMosaic Finset

/-- Rescaling a weight from one maximum to a larger one. -/
theorem exp_rescale {s a b : EReal} (h1 : s ≤ a) (h2 : a ≤ b) :
    Ideal.exp (a - b) * Ideal.exp (s - a) = Ideal.exp (s - b) := by
  induction b using EReal.rec with
  | bot =>
    obtain rfl := le_bot_iff.mp h2
    obtain rfl := le_bot_iff.mp h1
    simp
  | top => simp
  | coe b =>
    induction a using EReal.rec with
    | bot =>
      obtain rfl := le_bot_iff.mp h1
      simp
    | top => exact absurd (top_le_iff.mp h2) (by simp)
    | coe a =>
      induction s using EReal.rec with
      | bot => simp
      | top => exact absurd (top_le_iff.mp h1) (by simp)
      | coe s =>
        rw [← EReal.coe_sub, ← EReal.coe_sub, ← EReal.coe_sub, Ideal.exp_coe, Ideal.exp_coe, Ideal.exp_coe,
          ← EReal.coe_mul, ← Real.exp_add]
        congr 2
        ring

/-- A weight is not negative. -/
theorem exp_nonneg (x : EReal) : 0 ≤ Ideal.exp x := by
  induction x using EReal.rec with
  | bot => simp
  | top => simp
  | coe x => rw [Ideal.exp_coe]; exact EReal.coe_nonneg.mpr (Real.exp_pos x).le

/-- A weight below the maximum is at most one. -/
theorem exp_le_one {a b : EReal} (h : a ≤ b) : Ideal.exp (a - b) ≤ 1 := by
  induction b using EReal.rec with
  | bot => obtain rfl := le_bot_iff.mp h; simp
  | top => simp
  | coe b =>
    induction a using EReal.rec with
    | bot => simp
    | top => exact absurd (top_le_iff.mp h) (by simp)
    | coe a =>
      rw [← EReal.coe_sub, Ideal.exp_coe]
      have : Real.exp (a - b) ≤ 1 := Real.exp_le_one_iff.mpr (sub_nonpos.mpr (EReal.coe_le_coe_iff.mp h))
      exact_mod_cast this

/-- A factor that is not negative and not infinite goes into a sum. -/
theorem mul_sum_of_nonneg {ι : Type*} {c : EReal} (h0 : 0 ≤ c) (ht : c ≠ ⊤) (S : Finset ι) (f : ι → EReal) :
    c * ∑ x ∈ S, f x = ∑ x ∈ S, c * f x := by
  classical
  induction S using Finset.induction_on with
  | empty => simp
  | insert a S ha ih => rw [sum_insert ha, sum_insert ha, EReal.left_distrib_of_nonneg_of_ne_top h0 ht, ih]

/-- The largest score among the first `n` columns. -/
def top (s : ℕ → EReal) (n : ℕ) : EReal := (range n).sup s

/-- The weighted sum of `v` over the first `n` columns, the weights taken against those columns' largest score. -/
def acc (s v : ℕ → EReal) (n : ℕ) : EReal := ∑ x ∈ range n, Ideal.exp (s x - top s n) * v x

theorem top_zero (s : ℕ → EReal) : top s 0 = ⊥ := rfl
theorem acc_zero (s v : ℕ → EReal) : acc s v 0 = 0 := rfl

theorem le_top (s : ℕ → EReal) {n x : ℕ} (h : x < n) : s x ≤ top s n := Finset.le_sup (f := s) (mem_range.mpr h)

theorem top_mono (s : ℕ → EReal) {n n' : ℕ} (h : n ≤ n') : top s n ≤ top s n' :=
  Finset.sup_mono (range_subset_range.mpr h)

/-- The largest score after a further block. -/
theorem top_add (s : ℕ → EReal) (n w : ℕ) :
    top s (n + w) = max (top s n) ((univ : Finset (Fin w)).fold max ⊥ fun k => s (n + k.val)) := by
  show _ = max (top s n) ((univ : Finset (Fin w)).sup fun k => s (n + k.val))
  apply le_antisymm
  · refine Finset.sup_le fun x hx => ?_
    by_cases h : x < n
    · exact (le_top s h).trans (le_max_left _ _)
    · have hx' := mem_range.mp hx
      have e : s x = (fun k : Fin w => s (n + k.val)) ⟨x - n, by omega⟩ := by
        show s x = s (n + (x - n)); congr 1; omega
      rw [e]
      exact (Finset.le_sup (f := fun k : Fin w => s (n + k.val)) (mem_univ _)).trans (le_max_right _ _)
  · refine max_le (top_mono s (Nat.le_add_right n w)) (Finset.sup_le fun k _ => le_top s ?_)
    have := k.isLt; omega

/-- The weighted sum after a further block: the old one rescaled, and the block's own weights. -/
theorem acc_add (s v : ℕ → EReal) (n w : ℕ) :
    acc s v (n + w) = Ideal.exp (top s n - top s (n + w)) * acc s v n
      + ∑ k : Fin w, Ideal.exp (s (n + k.val) - top s (n + w)) * v (n + k.val) := by
  have hm := top_mono s (Nat.le_add_right n w)
  unfold acc
  rw [mul_sum_of_nonneg (exp_nonneg _) (ne_top_of_le_ne_top (EReal.coe_ne_top 1) (exp_le_one hm)), Finset.sum_range_add,
    Finset.sum_range (fun x => Ideal.exp (s (n + x) - top s (n + w)) * v (n + x))]
  congr 1
  refine sum_congr rfl fun x hx => ?_
  rw [← mul_assoc, exp_rescale (le_top s (mem_range.mp hx)) hm]

/-- Columns whose score is minus infinity do not move the largest score. -/
theorem top_extend (s : ℕ → EReal) {n N : ℕ} (h : n ≤ N) (hs : ∀ x, n ≤ x → s x = ⊥) : top s N = top s n := by
  refine le_antisymm (Finset.sup_le fun x _ => ?_) (top_mono s h)
  by_cases hx : x < n
  · exact le_top s hx
  · rw [hs x (by omega)]; exact bot_le

/-- Nor do they add to the weighted sum. -/
theorem acc_extend (s v : ℕ → EReal) {n N : ℕ} (h : n ≤ N) (hs : ∀ x, n ≤ x → s x = ⊥) : acc s v N = acc s v n := by
  unfold acc
  rw [top_extend s h hs]
  symm
  refine Finset.sum_subset (range_subset_range.mpr h) fun x _ hx => ?_
  rw [hs x (by simpa using hx)]
  simp

/-- Dividing once at the end is dividing every weight, when the largest score is a real number. -/
theorem acc_div (s v : ℕ → EReal) (n : ℕ) (hb : top s n ≠ ⊥) (ht : top s n ≠ ⊤) :
    acc s v n * Ideal.div 1 (acc s (fun _ => 1) n)
      = ∑ x ∈ range n, Ideal.div (Ideal.exp (s x - top s n)) (acc s (fun _ => 1) n) * v x := by
  have hn : (range n).Nonempty := by
    rcases Nat.eq_zero_or_pos n with rfl | h
    · exact absurd (top_zero s) hb
    · exact ⟨0, mem_range.mpr h⟩
  obtain ⟨x0, hx0, e0⟩ := Finset.exists_mem_eq_sup (range n) hn s
  have hl1 : (1 : EReal) ≤ acc s (fun _ => 1) n := by
    have h1 : Ideal.exp (s x0 - top s n) = 1 := by
      have e : s x0 = top s n := e0.symm
      rw [e]
      lift top s n to ℝ using ⟨ht, hb⟩ with M
      rw [← EReal.coe_sub, sub_self, Ideal.exp_coe, Real.exp_zero]; rfl
    calc (1 : EReal) = Ideal.exp (s x0 - top s n) * 1 := by rw [h1, one_mul]
      _ ≤ _ := Finset.single_le_sum (f := fun x => Ideal.exp (s x - top s n) * 1)
          (fun x _ => by rw [mul_one]; exact exp_nonneg _) hx0
  have hne : acc s (fun _ => 1) n ≠ 0 := fun e => absurd (e ▸ hl1) (by simp)
  generalize acc s (fun _ => 1) n = L at hl1 hne
  have hi0 : (0 : EReal) ≤ L⁻¹ := EReal.inv_nonneg_of_nonneg ((zero_le_one).trans hl1)
  have hit : L⁻¹ ≠ ⊤ := by
    induction L using EReal.rec with
    | bot => simp
    | top => simp
    | coe L => rw [← EReal.coe_inv]; exact EReal.coe_ne_top _
  rw [Ideal.mul_one_div hne]
  unfold acc
  unfold Ideal.div
  simp only [if_neg hne]
  rw [mul_comm, mul_sum_of_nonneg hi0 hit]
  refine sum_congr rfl fun x _ => ?_
  rw [← mul_assoc, mul_comm L⁻¹]

/-- A function of a bounded index as a function of every number, `d` beyond the bound. -/
def ext {n : ℕ} (d : EReal) (f : Fin n → EReal) (x : ℕ) : EReal := if h : x < n then f ⟨x, h⟩ else d

theorem ext_val {n : ℕ} (d : EReal) (f : Fin n → EReal) (x : Fin n) : ext d f x.val = f x := dif_pos x.isLt

theorem ext_lt {n : ℕ} (d : EReal) (f : Fin n → EReal) {x : ℕ} (h : x < n) : ext d f x = f ⟨x, h⟩ := dif_pos h

/-- Scores with the chunks behind row `q`'s own left out. -/
def seen (q : ℕ) (s : ℕ → EReal) : ℕ → EReal := fun x => if x / 64 ≤ q / 64 then s x else ⊥

/-- The softmax of the scores, as weights of the values. -/
def attend (s v : ℕ → EReal) : EReal :=
  ∑ x ∈ Finset.range 4096, Ideal.div (Ideal.exp (s x - top s 4096)) (acc s (fun _ => 1) 4096) * v x

/-- The gate of an entry. -/
def gated (g : EReal) : EReal := g * Ideal.div 1 (1 + Ideal.exp (-g))

/-- Neither infinity. -/
def Finite (x : EReal) : Prop := x ≠ ⊥ ∧ x ≠ ⊤

theorem finite_sum_mul {n : ℕ} (f g : Fin n → EReal) (hf : ∀ k, Finite (f k)) (hg : ∀ k, Finite (g k)) :
    Finite (∑ k, f k * g k) := by
  refine Finset.sum_induction _ Finite (fun x y hx hy => ?_) ⟨EReal.zero_ne_bot, EReal.zero_ne_top⟩ fun k _ => ?_
  · lift x to ℝ using ⟨hx.2, hx.1⟩
    lift y to ℝ using ⟨hy.2, hy.1⟩
    rw [← EReal.coe_add]
    exact ⟨EReal.coe_ne_bot _, EReal.coe_ne_top _⟩
  · have h1 := hf k
    have h2 := hg k
    generalize f k = x at *
    generalize g k = y at *
    lift x to ℝ using ⟨h1.2, h1.1⟩
    lift y to ℝ using ⟨h2.2, h2.1⟩
    rw [← EReal.coe_mul]
    exact ⟨EReal.coe_ne_bot _, EReal.coe_ne_top _⟩

/-- An entry below plus infinity in size is neither infinity. -/
theorem finite_of_abs {x : EReal} (h : max x (-x) < ⊤) : Finite x := by
  obtain ⟨h1, h2⟩ := max_lt_iff.mp h
  refine ⟨fun hx => ?_, h1.ne⟩
  rw [hx, EReal.neg_bot] at h2
  exact lt_irrefl _ h2

/-- The largest of 4096 scores, as a fold over them. -/
theorem top_all (s : ℕ → EReal) : top s 4096 = univ.fold max ⊥ fun x : Fin 4096 => s x.val := by
  have h := top_add s 0 4096
  rw [Nat.zero_add, top_zero, bot_sup_eq] at h
  simpa only [Nat.zero_add] using h

/-- The sum of 4096 columns' weights. -/
theorem acc_all (s : ℕ → EReal) : acc s (fun _ => 1) 4096 = ∑ x : Fin 4096, Ideal.exp (s x.val - top s 4096) := by
  unfold acc
  rw [Finset.sum_range]
  simp only [mul_one]

/-- The softmax-weighted sum over the 4096 columns themselves. -/
theorem attend_all (s v : ℕ → EReal) :
    attend s v = ∑ x : Fin 4096, Ideal.div (Ideal.exp (s x.val - top s 4096)) (acc s (fun _ => 1) 4096) * v x.val := by
  unfold attend
  rw [Finset.sum_range]

end Cert.Online

end
-- ==== Proof.AttnBlock.lean ====
module

public import proofs.«01_k».proof.Proof.AttnSteps
public import proofs.«01_k».proof.Proof.Online
public import Idealize.ShloMosaic.Lib.IdealHost

/-! The value of one row block of the attention kernel: the running quantities are the largest score, the sum of the weights
and the weighted sum of the values over the columns gone through, and the block stored is the softmax-weighted sum of the values
times the gate. -/

@[expose] public section

set_option maxRecDepth 16384

noncomputable section

namespace Cert.AttnIdeal.Calc

open Cert.AttnIdeal Cert.AttnIdeal.Gen Idealize.ShloMosaic Idealize.ShloMosaic.TcCoe Idealize.SL.Sem
open Cert.Online

/-- The new maximum from a block of scores. -/
def mNew (S : FVec Ideal S256x256 .f32) (m : Vec Ideal S256x1 .f32) : FVec Ideal S256x1 .f32 :=
  maximumf m (shapeCast S256x1 (multiReduction .maximumf [1] S256 S 0xFF800000#32 reduces_S256x256_S256 (.inl rfl) rfl) shapeCasts_S256_S256x1)

/-- The weights of a block's columns. -/
def wNew (S : FVec Ideal S256x256 .f32) (m : Vec Ideal S256x1 .f32) : FVec Ideal S256x256 .f32 :=
  exp (subf S (broadcastTo S256x256 (mNew S m) broadcasts_S256x1_S256x256))

/-- The new sum of the weights. -/
def lNew (S : FVec Ideal S256x256 .f32) (m l : Vec Ideal S256x1 .f32) : FVec Ideal S256x1 .f32 :=
  shapeCast S256x1 (addf (mulf (exp (subf m (mNew S m))) l)
    (shapeCast S256x1 (multiReduction .add [1] S256 (wNew S m) 0x00000000#32 reduces_S256x256_S256 (.inl rfl) rfl) shapeCasts_S256_S256x1))
    shapeCasts_S256x1_S256x1

/-- The new weighted sum of the values. -/
def aNew (S : FVec Ideal S256x256 .f32) (vb : Vec Ideal S256x128 .bf16) (m : Vec Ideal S256x1 .f32) (a : Vec Ideal S256x128 .f32) :
    FVec Ideal S256x128 .f32 :=
  shapeCast S256x128 (addf (mulf (broadcastTo S256x128 (exp (subf m (mNew S m))) broadcasts_S256x1_S256x128) a)
    (matmul (φ₂ := .bf16) dot_S256x256_S256x128_S256x128_1_0_0_1_n_n none (truncf .bf16 (wNew S m) bitsLt_bf16_f32) vb
      (constant S256x128 .f32 0x00000000#32))) shapeCasts_S256x128_S256x128

theorem neg_inf : Ideal.ofBits .f32 0xFF800000#32 = ⊥ := by simp [Ideal.ofBits, Ideal.ieee]

theorem col_eq (y : S256x1.Idx) : ix2 (y 0) (0 : Fin 1) = y := by
  funext a
  fin_cases a
  · rfl
  · exact Subsingleton.elim (α := Fin 1) _ _

theorem mNew_apply (S : FVec Ideal S256x256 .f32) (m : Vec Ideal S256x1 .f32) (y : S256x1.Idx) :
    mNew S m y = max (m y) (Finset.univ.fold max ⊥ fun k : Fin 256 => S (ix2 (y 0) k)) := by
  pointwise [mNew]
  rw [neg_inf]

theorem lNew_apply (S : FVec Ideal S256x256 .f32) (m l : Vec Ideal S256x1 .f32) (y : S256x1.Idx) :
    lNew S m l y = Ideal.exp (m y - mNew S m y) * l y + ∑ k : Fin 256, Ideal.exp (S (ix2 (y 0) k) - mNew S m y) := by
  pointwise [lNew, wNew]
  exact congrArg (fun z => Ideal.exp (m y - mNew S m y) * l y + ∑ k : Fin 256, Ideal.exp (S (ix2 (y 0) k) - mNew S m z)) (col_eq y)

theorem aNew_apply (S : FVec Ideal S256x256 .f32) (vb : Vec Ideal S256x128 .bf16) (m : Vec Ideal S256x1 .f32) (a : Vec Ideal S256x128 .f32)
    (y : S256x128.Idx) :
    aNew S vb m a y = Ideal.exp (m (ix2 (y 0) 0) - mNew S m (ix2 (y 0) 0)) * a y
      + ∑ k : Fin 256, Ideal.exp (S (ix2 (y 0) k) - mNew S m (ix2 (y 0) 0)) * vb (ix2 k (y 1)) := by
  pointwise [aNew, wNew]

theorem score_apply (x0 kb : Vec Ideal S256x256 .bf16) (y : S256x256.Idx) :
    k0_pay5 x0 kb y = ∑ d : Fin 256, x0 (ix2 (y 0) d) * kb (ix2 (y 1) d) := by
  pointwise [k0_pay5]

section Step

variable {s v : ℕ → EReal} {n : ℕ}

/-- One block of columns extends the largest score. -/
theorem mNew_top {S : FVec Ideal S256x256 .f32} {m : Vec Ideal S256x1 .f32} {y : S256x1.Idx}
    (hS : ∀ k : Fin 256, S (ix2 (y 0) k) = s (n + k.val)) (hm : m y = top s n) : mNew S m y = top s (n + 256) := by
  rw [mNew_apply, hm, top_add]
  simp only [hS]

/-- One block of columns extends the sum of the weights. -/
theorem lNew_acc {S : FVec Ideal S256x256 .f32} {m l : Vec Ideal S256x1 .f32} {y : S256x1.Idx}
    (hS : ∀ k : Fin 256, S (ix2 (y 0) k) = s (n + k.val)) (hm : m y = top s n) (hl : l y = acc s (fun _ => 1) n) :
    lNew S m l y = acc s (fun _ => 1) (n + 256) := by
  rw [lNew_apply, mNew_top hS hm, hm, hl, acc_add]
  simp only [hS, mul_one]

/-- One block of columns extends the weighted sum. -/
theorem aNew_acc {S : FVec Ideal S256x256 .f32} {vb : Vec Ideal S256x128 .bf16} {m : Vec Ideal S256x1 .f32} {a : Vec Ideal S256x128 .f32}
    {y : S256x128.Idx} (hS : ∀ k : Fin 256, S (ix2 (y 0) k) = s (n + k.val)) (hv : ∀ k : Fin 256, vb (ix2 k (y 1)) = v (n + k.val))
    (hm : m (ix2 (y 0) 0) = top s n) (ha : a y = acc s v n) : aNew S vb m a y = acc s v (n + 256) := by
  rw [aNew_apply, mNew_top (y := ix2 (y 0) 0) hS hm, hm, ha, acc_add]
  simp only [hS, hv]

end Step

/-- The score of a row of the block against a key, `⊥` behind the last key. -/
def score (x0 : Vec Ideal S256x256 .bf16) (x1 : Vec Ideal S4096x256 .bf16) (r : Fin 256) : ℕ → EReal :=
  ext ⊥ fun x : Fin 4096 => ∑ d : Fin 256, x0 (ix2 r d) * x1 (ix2 x d)

/-- A column of the values. -/
def column (x2 : Vec Ideal S4096x128 .bf16) (d : Fin 128) : ℕ → EReal := ext 0 fun x : Fin 4096 => x2 (ix2 x d)

variable (x0 : Vec Ideal S256x256 .bf16) (x1 : Vec Ideal S4096x256 .bf16) (x2 : Vec Ideal S4096x128 .bf16)

theorem score_block (a : ℕ) (ha : a < 16) (r k : Fin 256) :
    k0_pay5 x0 (keys x1 a) (ix2 r k) = score x0 x1 r (256 * a + k.val) := by
  have hk := k.isLt
  rw [score_apply]
  unfold score
  rw [ext_lt _ _ (show 256 * a + k.val < 4096 by omega)]
  refine Finset.sum_congr rfl fun d _ => ?_
  unfold keys
  congr 3
  exact Fin.ext (Nat.mod_eq_of_lt (show 256 * a + k.val < 4096 by omega))

theorem column_block (a : ℕ) (ha : a < 16) (k : Fin 256) (d : Fin 128) : vals x2 a (ix2 k d) = column x2 d (256 * a + k.val) := by
  have hk := k.isLt
  unfold column
  rw [ext_lt _ _ (show 256 * a + k.val < 4096 by omega)]
  unfold vals
  congr 2
  exact Fin.ext (Nat.mod_eq_of_lt (show 256 * a + k.val < 4096 by omega))

/-- The blocks before the row block's own are seen whole. -/
theorem seen_before (a k : ℕ) (hk : k < a) (s : ℕ → EReal) (r j : Fin 256) :
    seen (256 * a + r.val) s (256 * k + j.val) = s (256 * k + j.val) := by
  have hj := j.isLt
  exact if_pos (by omega)

/-- What the recursion over the blocks computes. -/
theorem run_eq (a : ℕ) (ha : a < 16) : ∀ k ≤ a,
    (∀ y, (run x0 x1 x2 k).1 y = top (seen (256 * a + (y 0).val) (score x0 x1 (y 0))) (256 * k))
    ∧ (∀ y, (run x0 x1 x2 k).2.1 y = acc (seen (256 * a + (y 0).val) (score x0 x1 (y 0))) (fun _ => 1) (256 * k))
    ∧ (∀ y, (run x0 x1 x2 k).2.2 y = acc (seen (256 * a + (y 0).val) (score x0 x1 (y 0))) (column x2 (y 1)) (256 * k)) := by
  intro k
  induction k with
  | zero =>
    refine fun _ => ⟨fun y => ?_, fun y => ?_, fun y => ?_⟩
    · show k0_pay2 y = ⊥
      pointwise [k0_pay2]
      exact neg_inf
    · show k0_pay3 y = 0
      pointwise [k0_pay3]
    · show k0_pay4 y = 0
      pointwise [k0_pay4]
  | succ k ih =>
    intro hk
    obtain ⟨h1, h2, h3⟩ := ih (by omega)
    have hS : ∀ r j : Fin 256, k0_pay5 x0 (keys x1 k) (ix2 r j) = seen (256 * a + r.val) (score x0 x1 r) (256 * k + j.val) := fun r j =>
      (score_block x0 x1 k (by omega) r j).trans (seen_before a k (by omega) _ r j).symm
    rw [Nat.mul_succ]
    refine ⟨fun y => ?_, fun y => ?_, fun y => ?_⟩
    · show shapeCast S256x1 (mNew (k0_pay5 x0 (keys x1 k)) (run x0 x1 x2 k).1) shapeCasts_S256x1_S256x1 y = _
      pointwise
      exact mNew_top (hS (y 0)) (h1 y)
    · exact lNew_acc (hS (y 0)) (h1 y) (h2 y)
    · exact aNew_acc (hS (y 0)) (fun j => column_block x2 k (by omega) j (y 1)) (h1 (ix2 (y 0) 0)) (h3 y)

/-- The masked block of scores. -/
theorem masked_block (a : ℕ) (ha : a < 16) (r k : Fin 256) :
    select mask (k0_pay19 x0 (keys x1 a)) k0_pay23 (ix2 r k) = seen (256 * a + r.val) (score x0 x1 r) (256 * a + k.val) := by
  have hk := k.isLt
  have hr := r.isLt
  have hm := mask_apply (ix2 r k)
  have hm : mask (ix2 r k) = 1#1 ↔ k.val / 64 ≤ r.val / 64 := hm
  show (if mask (ix2 r k) = 1#1 then k0_pay5 x0 (keys x1 a) (ix2 r k) else k0_pay23 (ix2 r k)) = _
  unfold seen
  by_cases h : k.val / 64 ≤ r.val / 64
  · rw [if_pos (hm.mpr h), if_pos (by omega)]
    exact score_block x0 x1 a ha r k
  · rw [if_neg (fun hc => h (hm.mp hc)), if_neg (by omega)]
    pointwise [k0_pay23]
    exact neg_inf

/-- What a row block's body stores, where every score is a real number. -/
theorem block_eq (a : ℕ) (ha : a < 16) (x3 : Vec Ideal S256x128 .bf16)
    (hf : ∀ (r : Fin 256) (x : ℕ), x < 4096 → score x0 x1 r x ≠ ⊥ ∧ score x0 x1 r x ≠ ⊤) (y : S256x128.Idx) :
    block a x0 x1 x2 x3 y
      = attend (seen (256 * a + (y 0).val) (score x0 x1 (y 0))) (column x2 (y 1)) * gated (x3 y) := by
  obtain ⟨h1, h2, h3⟩ := run_eq x0 x1 x2 a ha a le_rfl
  have hS := masked_block x0 x1 a ha
  have hr : (y 0).val < 256 := (y 0).isLt
  generalize hs : seen (256 * a + (y 0).val) (score x0 x1 (y 0)) = s at *
  have hL : k0_pay28 (k0_pay19 x0 (keys x1 a)) mask k0_pay23 (run x0 x1 x2 a).1 (run x0 x1 x2 a).2.1 (ix2 (y 0) 0)
      = acc s (fun _ => 1) (256 * a + 256) := by
    subst hs
    exact lNew_acc (y := ix2 (y 0) 0) (hS (y 0)) (h1 (ix2 (y 0) 0)) (h2 (ix2 (y 0) 0))
  have hA : k0_pay29 (vals x2 a) (k0_pay19 x0 (keys x1 a)) mask k0_pay23 (run x0 x1 x2 a).1 (run x0 x1 x2 a).2.2 y
      = acc s (column x2 (y 1)) (256 * a + 256) := by
    subst hs
    exact aNew_acc (hS (y 0)) (fun j => column_block x2 a ha j (y 1)) (h1 (ix2 (y 0) 0)) (h3 y)
  have hbot : ∀ x, 256 * a + 256 ≤ x → s x = ⊥ := by
    subst hs
    exact fun x hx => if_neg (by omega)
  have hown : s (256 * a + (y 0).val) = score x0 x1 (y 0) (256 * a + (y 0).val) := by
    subst hs
    exact if_pos le_rfl
  have hle : ∀ x, s x ≤ score x0 x1 (y 0) x := by
    subst hs
    intro x
    unfold seen
    split_ifs
    · exact le_rfl
    · exact bot_le
  have ht1 : top s 4096 ≠ ⊥ := by
    refine ne_bot_of_le_ne_bot ?_ (le_top s (show 256 * a + (y 0).val < 4096 by omega))
    rw [hown]
    exact (hf (y 0) _ (by omega)).1
  have ht2 : top s 4096 ≠ ⊤ := by
    refine ((Finset.sup_lt_iff (bot_lt_top)).mpr fun x hx => ?_).ne
    exact (hle x).trans_lt (lt_top_iff_ne_top.mpr (hf (y 0) x (Finset.mem_range.mp hx)).2)
  unfold block
  generalize k0_pay29 (vals x2 a) (k0_pay19 x0 (keys x1 a)) mask k0_pay23 (run x0 x1 x2 a).1 (run x0 x1 x2 a).2.2 = A at *
  generalize k0_pay28 (k0_pay19 x0 (keys x1 a)) mask k0_pay23 (run x0 x1 x2 a).1 (run x0 x1 x2 a).2.1 = L at *
  pointwise [k0_pay1, k0_pay31]
  rw [hA, hL, ← acc_extend s _ (show 256 * a + 256 ≤ 4096 by omega) hbot, ← acc_extend s _ (show 256 * a + 256 ≤ 4096 by omega) hbot]
  rw [acc_div s _ 4096 ht1 ht2, zero_sub]
  rfl

end Cert.AttnIdeal.Calc

end
-- ==== Proof.AttnRead.lean ====
module

public import proofs.«01_k».proof.Proof.Online
public import proofs.«01_k».proof.Proof.Gen.AttnRefIdeal.Run
public import Idealize.ShloMosaic.Lib.Pipeline.ValueKit
public import Idealize.ShloMosaic.Lib.Pointwise
public import Idealize.ShloMosaic.Lib.IdealHost

/-! The reference attention read at an index. -/

@[expose] public section

set_option maxRecDepth 16384

noncomputable section

namespace Cert.AttnRefIdeal.Calc

open Cert.AttnRefIdeal Cert.AttnRefIdeal.Gen Idealize.ShloMosaic Idealize.ShloMosaic.TcCoe Idealize.SL.Sem
open Cert.Online

/-- The quotient by 64, rounded down, of a vector of words. -/
def chunks (S : Shape) (hb : S_.BroadcastsInDim S ![]) (X : IVec S 32) : IVec S 32 :=
  select (andi (cmpi .ne (signi X) (broadcastInDim S ![] hb (signi (id (constantI S_ 32 64#32)))))
      (cmpi .ne (Host.remsi X (broadcastInDim S ![] hb (id (constantI S_ 32 64#32)))) (broadcastInDim S ![] hb (constantI S_ 32 0#32))))
    (subi (Host.divsi X (broadcastInDim S ![] hb (id (constantI S_ 32 64#32)))) (broadcastInDim S ![] hb (constantI S_ 32 1#32)))
    (Host.divsi X (broadcastInDim S ![] hb (id (constantI S_ 32 64#32))))

/-- The chunk mask over rows and columns. -/
def okMask : IVec S4096x4096 1 :=
  cmpi .sle (broadcastInDim S4096x4096 ![0, 1] bcast_S1x4096_S4096x4096_0_1
      (chunks S1x4096 bcast_S_S1x4096 (broadcastInDim S1x4096 ![1] bcast_S4096_S1x4096_1 (iotaInDim S4096 32 0))))
    (broadcastInDim S4096x4096 ![0, 1] bcast_S4096x1_S4096x4096_0_1
      (chunks S4096x1 bcast_S_S4096x1 (broadcastInDim S4096x1 ![0] bcast_S4096_S4096x1_0 (iotaInDim S4096 32 0))))

/-- The scores of every row against every key. -/
def scores (q k : FVec Ideal S16384x4096 .bf16) : FVec Ideal S4x16x4096x4096 .f32 :=
  Host.dotGeneral dot_S4x4096x16x256_S4x4096x16x256_S4x16x4096x4096_3_3_1_1_02_02 none
    (shapeCast _ (extf .f32 q bitsLt_bf16_f32) shapeCasts_S16384x4096_S4x4096x16x256)
    (shapeCast _ (extf .f32 k bitsLt_bf16_f32) shapeCasts_S16384x4096_S4x4096x16x256)

/-- The scores with the chunks behind the row's own at minus infinity. -/
def masked (w : FVec Ideal S4x16x4096x4096 .f32) : FVec Ideal S4x16x4096x4096 .f32 :=
  select (broadcastInDim S4x16x4096x4096 ![2, 3] bcast_S4096x4096_S4x16x4096x4096_2_3 okMask) w
    (broadcastInDim S4x16x4096x4096 ![] bcast_S_S4x16x4096x4096 (id (constant S_ .f32 0xFF800000#32)))

/-- The largest score of each row. -/
def rowTop (w : FVec Ideal S4x16x4096x4096 .f32) : FVec Ideal S4x16x4096 .f32 :=
  maximumf (broadcastInDim S4x16x4096 ![] bcast_S_S4x16x4096 (constant S_ .f32 0xFF800000#32))
    (Host.reduce FloatOps.maximumf w (constant S_ .f32 0xFF800000#32) reducesTo_S4x16x4096x4096_S4x16x4096_d3 h_S_)

/-- The weights before their division. -/
def weights (w : FVec Ideal S4x16x4096x4096 .f32) : FVec Ideal S4x16x4096x4096 .f32 :=
  Host.exp (subf w (broadcastInDim S4x16x4096x4096 ![0, 1, 2, 3] bcast_S4x16x4096x1_S4x16x4096x4096_0_1_2_3
    (broadcastInDim S4x16x4096x1 ![0, 1, 2] bcast_S4x16x4096_S4x16x4096x1_0_1_2 (rowTop w))))

/-- The softmax of each row. -/
def soft (w : FVec Ideal S4x16x4096x4096 .f32) : FVec Ideal S4x16x4096x4096 .f32 :=
  Host.divf (weights w) (broadcastInDim S4x16x4096x4096 ![0, 1, 2, 3] bcast_S4x16x4096x1_S4x16x4096x4096_0_1_2_3
    (broadcastInDim S4x16x4096x1 ![0, 1, 2] bcast_S4x16x4096_S4x16x4096x1_0_1_2
      (Host.reduceAdd (weights w) (constant S_ .f32 0x00000000#32) reducesTo_S4x16x4096x4096_S4x16x4096_d3 h_S_)))

/-- The weighted sums of the values, back in rows. -/
def mixed (p : FVec Ideal S4x16x4096x4096 .f32) (v : FVec Ideal S16384x2048 .bf16) : FVec Ideal S16384x2048 .f32 :=
  shapeCast _ (transpose S4x4096x16x128 [0, 3, 1, 2]
    (Host.dotGeneral dot_S4x4096x16x128_S4x16x4096x4096_S4x16x128x4096_1_3_3_2_02_01 none
      (shapeCast _ (extf .f32 v bitsLt_bf16_f32) shapeCasts_S16384x2048_S4x4096x16x128) p)
    transposes_S4x16x128x4096_S4x4096x16x128_0_3_1_2) shapeCasts_S4x4096x16x128_S16384x2048

/-- The gate of each entry. -/
def gate (h : FVec Ideal S16384x3072 .bf16) : FVec Ideal S16384x2048 .f32 :=
  mulf (extractStridedSlice S16384x2048 ![0, 0] (extf .f32 h bitsLt_bf16_f32) slices_S16384x3072_S16384x2048_0_0)
    (Host.divf (broadcastInDim S16384x2048 ![] bcast_S_S16384x2048 (constant S_ .f32 0x3F800000#32))
      (addf (broadcastInDim S16384x2048 ![] bcast_S_S16384x2048 (constant S_ .f32 0x3F800000#32))
        (Host.exp (Host.negf (extractStridedSlice S16384x2048 ![0, 0] (extf .f32 h bitsLt_bf16_f32) slices_S16384x3072_S16384x2048_0_0)))))

theorem chunks_word : ∀ x : Fin 4096, chunks S_ (by decide) (fun _ => BitVec.ofNat 32 x.val) (fun a => a.elim0)
    = BitVec.ofNat 32 (x.val / 64) := by decide +kernel

theorem chunks_apply (S : Shape) (hb) (X : IVec S 32) (y : S.Idx) (x : Fin 4096) (h : X y = BitVec.ofNat 32 x.val) :
    chunks S hb X y = BitVec.ofNat 32 (x.val / 64) := by
  rw [← chunks_word x, ← h]
  rfl

theorem okMask_apply (y : S4096x4096.Idx) : okMask y = 1#1 ↔ (y 1).val / 64 ≤ (y 0).val / 64 := by
  unfold okMask
  pointwise
  rw [chunks_apply S1x4096 _ _ _ (y 1) rfl, chunks_apply S4096x1 _ _ _ (y 0) rfl]
  have h0 : (y 0).val < 4096 := (y 0).isLt
  have h1 : (y 1).val < 4096 := (y 1).isLt
  have hd : ∀ a b : Fin 64, (Scalar.cmpi .sle (BitVec.ofNat 32 a.val) (BitVec.ofNat 32 b.val) : BitVec 1) = 1#1 ↔ a.val ≤ b.val := by
    decide +kernel
  exact hd ⟨(y 1).val / 64, by omega⟩ ⟨(y 0).val / 64, by omega⟩

theorem reduces_last : S4x16x4096x4096.Reduces [3] S4x16x4096 := by decide

theorem lift_last (y : S4x16x4096.Idx) (x : Fin 4096) : reduces_last.lift y x = ix4 (y 0) (y 1) (y 2) x := by
  funext a
  fin_cases a <;> rfl

theorem reduce_last (w : FVec Ideal S4x16x4096x4096 .f32) (y : S4x16x4096.Idx) :
    Host.reduce FloatOps.maximumf w (constant S_ .f32 0xFF800000#32) reducesTo_S4x16x4096x4096_S4x16x4096_d3 h_S_ y
      = Finset.univ.fold max (Ideal.ofBits .f32 0xFF800000#32) fun x : Fin 4096 => w (ix4 (y 0) (y 1) (y 2) x) := by
  refine (Host.reduce_eq_fold_single FloatOps.maximumf w _ reducesTo_S4x16x4096x4096_S4x16x4096_d3 reduces_last h_S_ y).trans ?_
  exact congrArg (Finset.univ.fold max (Ideal.ofBits .f32 0xFF800000#32)) (funext fun x => congrArg w (lift_last y x))

theorem neg_inf : Ideal.ofBits .f32 0xFF800000#32 = ⊥ := by simp [Ideal.ofBits, Ideal.ieee]

theorem max_with (R : FVec Ideal S4x16x4096 .f32) (y : S4x16x4096.Idx) :
    maximumf (broadcastInDim S4x16x4096 ![] bcast_S_S4x16x4096 (constant S_ .f32 0xFF800000#32)) R y = max ⊥ (R y) := by
  rw [← neg_inf]
  rfl

theorem rowTop_apply (w : FVec Ideal S4x16x4096x4096 .f32) (y : S4x16x4096.Idx) :
    rowTop w y = Finset.univ.fold max ⊥ fun x : Fin 4096 => w (ix4 (y 0) (y 1) (y 2) x) := by
  unfold rowTop
  rw [max_with, reduce_last, neg_inf, bot_sup_eq]

theorem masked_apply (w : FVec Ideal S4x16x4096x4096 .f32) (b : Fin 4) (h : Fin 16) (r x : Fin 4096) :
    masked w (ix4 b h r x) = if x.val / 64 ≤ r.val / 64 then w (ix4 b h r x) else ⊥ := by
  pointwise [masked]
  rw [show (id (constant (F := Ideal) S_ .f32 0xFF800000#32) ix0) = (⊥ : EReal) from neg_inf]
  have hm : okMask (ix2 r x) = 1#1 ↔ x.val / 64 ≤ r.val / 64 := okMask_apply (ix2 r x)
  unfold Scalar.select
  by_cases hx : x.val / 64 ≤ r.val / 64
  · rw [if_pos hx]
    exact if_pos (hm.mpr hx)
  · rw [if_neg hx]
    exact if_neg fun hc => hx (hm.mp hc)

/-- The score of a row of a batch and head against a key, `⊥` behind the last key. -/
def score (q k : FVec Ideal S16384x4096 .bf16) (b : Fin 4) (h : Fin 16) (r : Fin 4096) : ℕ → EReal :=
  ext ⊥ fun x : Fin 4096 => ∑ d : Fin 256, q (ix2 ⟨b.val * 4096 + r.val, by omega⟩ ⟨h.val * 256 + d.val, by omega⟩)
    * k (ix2 ⟨b.val * 4096 + x.val, by omega⟩ ⟨h.val * 256 + d.val, by omega⟩)

/-- A column of a batch's values. -/
def column (v : FVec Ideal S16384x2048 .bf16) (b : Fin 4) (d : Fin 2048) : ℕ → EReal :=
  ext 0 fun x : Fin 4096 => v (ix2 ⟨b.val * 4096 + x.val, by omega⟩ d)

/-- The attention's result from its arguments, at an index. -/
def target (q k : FVec Ideal S16384x4096 .bf16) (v : FVec Ideal S16384x2048 .bf16) (h : FVec Ideal S16384x3072 .bf16) :
    FVec Ideal S16384x2048 .bf16 := fun y =>
  have h0 : (y 0).val < 16384 := (y 0).isLt
  have h1 : (y 1).val < 2048 := (y 1).isLt
  attend (seen ((y 0).val % 4096) (score q k ⟨(y 0).val / 4096, by omega⟩ ⟨(y 1).val / 128, by omega⟩
      ⟨(y 0).val % 4096, by omega⟩)) (column v ⟨(y 0).val / 4096, by omega⟩ (y 1))
    * gated (h (ix2 (y 0) ⟨(y 1).val, by omega⟩))

theorem scores_apply (q k : FVec Ideal S16384x4096 .bf16) (b : Fin 4) (h : Fin 16) (r x : Fin 4096) :
    masked (scores q k) (ix4 b h r x) = seen r.val (score q k b h r) x.val := by
  rw [masked_apply]
  unfold seen score
  rw [ext_val]
  congr 1
  pointwise [scores]

/-- The softmax of a row whose scores are given as a sequence. -/
theorem soft_apply (w : FVec Ideal S4x16x4096x4096 .f32) (b : Fin 4) (h : Fin 16) (r : Fin 4096) (s : ℕ → EReal)
    (hs : ∀ x : Fin 4096, w (ix4 b h r x) = s x.val) (x : Fin 4096) :
    soft w (ix4 b h r x) = Ideal.div (Ideal.exp (s x.val - top s 4096)) (acc s (fun _ => 1) 4096) := by
  have ht : rowTop w (ix3 b h r) = top s 4096 := by
    rw [top_all, rowTop_apply]
    exact congrArg (Finset.univ.fold max ⊥) (funext hs)
  have hw : ∀ x : Fin 4096, weights w (ix4 b h r x) = Ideal.exp (s x.val - top s 4096) := fun x => by
    rw [← hs x, ← ht]
    pointwise [weights]
  rw [acc_all]
  pointwise [soft]
  simp only [hw]

theorem mixed_apply (p : FVec Ideal S4x16x4096x4096 .f32) (v : FVec Ideal S16384x2048 .bf16) (y : S16384x2048.Idx)
    (h0 : (y 0).val < 16384) (h1 : (y 1).val < 2048) (s : ℕ → EReal)
    (hs : ∀ x : Fin 4096, p (ix4 ⟨(y 0).val / 4096, by omega⟩ ⟨(y 1).val / 128, by omega⟩ ⟨(y 0).val % 4096, by omega⟩ x)
      = Ideal.div (Ideal.exp (s x.val - top s 4096)) (acc s (fun _ => 1) 4096)) :
    mixed p v y = attend s (column v ⟨(y 0).val / 4096, by omega⟩ (y 1)) := by
  rw [attend_all]
  pointwise [mixed]
  refine Finset.sum_congr rfl fun x _ => ?_
  unfold column
  rw [hs x, ext_val, mul_comm]

theorem gate_apply (h : FVec Ideal S16384x3072 .bf16) (y : S16384x2048.Idx) (h1 : (y 1).val < 2048) :
    gate h y = gated (h (ix2 (y 0) ⟨(y 1).val, by omega⟩)) := by
  unfold gated
  pointwise [gate]

variable (m : (ℓ : Loc nD τ sig) → Buf (Elt Ideal) ℓ)

theorem res_eq (c : Dev nD) : Value.res_main_v35 m c
    = truncf .bf16 (mulf (mixed (soft (masked (scores (m ((c.tc : Thread nD τ).loc main_arg0)) (m ((c.tc : Thread nD τ).loc main_arg1)))))
        (m ((c.tc : Thread nD τ).loc main_arg2))) (gate (m ((c.tc : Thread nD τ).loc main_arg3)))) bitsLt_bf16_f32 := rfl

/-- The reference's result, from its arguments. -/
theorem res_target (c : Dev nD) : Value.res_main_v35 m c
    = target (m ((c.tc : Thread nD τ).loc main_arg0)) (m ((c.tc : Thread nD τ).loc main_arg1))
        (m ((c.tc : Thread nD τ).loc main_arg2)) (m ((c.tc : Thread nD τ).loc main_arg3)) := by
  rw [res_eq]
  funext y
  have h0 : (y 0).val < 16384 := (y 0).isLt
  have h1 : (y 1).val < 2048 := (y 1).isLt
  exact congrArg₂ (· * ·) (mixed_apply _ _ y h0 h1 _ fun x => soft_apply _ _ _ _ _ (scores_apply _ _ _ _ _) x) (gate_apply _ y h1)

end Cert.AttnRefIdeal.Calc

end
-- ==== Proof.AttnValue.lean ====
module

public import proofs.«01_k».proof.Proof.AttnBlock
public import proofs.«01_k».proof.Proof.AttnRead
public import proofs.«01_k».proof.Proof.Gen.AttnIdeal.Value
public import proofs.«01_k».proof.Pre_finite_queries_keys

/-! The attention kernel's result is the reference's, where no entry of the queries and keys is infinite. -/

@[expose] public section

set_option maxRecDepth 16384

noncomputable section

namespace Cert.AttnIdeal.Calc

open Cert.AttnIdeal Cert.AttnIdeal.Gen Idealize.ShloMosaic Idealize.ShloMosaic.TcCoe Idealize.SL.Sem
open Idealize.ShloMosaic.Pipeline (Dat)
open Cert.Online

variable (m : (ℓ : Loc nD τ sig) → Buf (Elt Ideal) ℓ)

/-- The block each window is on at each grid point. -/
theorem maps : ∀ t : Fin cfg0.N, win0_0.index t = ![t.val / 256 * 16 + t.val % 16, t.val / 16 % 16]
    ∧ win0_1.index t = ![t.val / 256, t.val / 16 % 16] ∧ win0_2.index t = ![t.val / 256, t.val / 16 % 16]
    ∧ win0_3.index t = ![t.val / 256 * 16 + t.val % 16, t.val / 16 % 16]
    ∧ win0_4.index t = ![t.val / 256 * 16 + t.val % 16, t.val / 16 % 16] ∧ (grid0.coords t 2).val = t.val % 16 :=
  (by decide +kernel : ∀ t : Fin grid0.N, _)

abbrev Q (c : Dev nD) : FVec Ideal S16384x4096 .bf16 := m ((c : Thread nD τ).loc main_arg0)
abbrev K (c : Dev nD) : FVec Ideal S16384x4096 .bf16 := m ((c : Thread nD τ).loc main_arg1)
abbrev Vals (c : Dev nD) : FVec Ideal S16384x2048 .bf16 := m ((c : Thread nD τ).loc main_arg2)
abbrev Hid (c : Dev nD) : FVec Ideal S16384x3072 .bf16 := m ((c : Thread nD τ).loc main_arg3)

/-- The queries' block. -/
theorem blk_q (c : Dev nD) (t : Fin cfg0.N) (y : S256x256.Idx) (i : S16384x4096.Idx)
    (h0 : (i 0).val = (t.val / 256 * 16 + t.val % 16) * 256 + (y 0).val) (h1 : (i 1).val = t.val / 16 % 16 * 256 + (y 1).val) :
    iblk m c 0 t y = Q m c i := by
  show Q m c (((cfg0.win 0).blk t).view.emb y) = _
  congr 1
  blk_ext [maps t, h0, h1]

/-- The keys' block. -/
theorem blk_k (c : Dev nD) (t : Fin cfg0.N) (y : S4096x256.Idx) (i : S16384x4096.Idx)
    (h0 : (i 0).val = t.val / 256 * 4096 + (y 0).val) (h1 : (i 1).val = t.val / 16 % 16 * 256 + (y 1).val) :
    iblk m c 1 t y = K m c i := by
  show K m c (((cfg0.win 1).blk t).view.emb y) = _
  congr 1
  blk_ext [maps t, h0, h1]

/-- The values' block. -/
theorem blk_v (c : Dev nD) (t : Fin cfg0.N) (y : S4096x128.Idx) (i : S16384x2048.Idx)
    (h0 : (i 0).val = t.val / 256 * 4096 + (y 0).val) (h1 : (i 1).val = t.val / 16 % 16 * 128 + (y 1).val) :
    iblk m c 2 t y = Vals m c i := by
  show Vals m c (((cfg0.win 2).blk t).view.emb y) = _
  congr 1
  blk_ext [maps t, h0, h1]

/-- The gates' block. -/
theorem blk_h (c : Dev nD) (t : Fin cfg0.N) (y : S256x128.Idx) (i : S16384x3072.Idx)
    (h0 : (i 0).val = (t.val / 256 * 16 + t.val % 16) * 256 + (y 0).val) (h1 : (i 1).val = t.val / 16 % 16 * 128 + (y 1).val) :
    iblk m c 3 t y = Hid m c i := by
  show Hid m c (((cfg0.win 3).blk t).view.emb y) = _
  congr 1
  blk_ext [maps t, h0, h1]

/-- The result's block: where an entry of it lies. -/
theorem emb_out (t : Fin cfg0.N) (y : S256x128.Idx) :
    (((cfg0.win 4).blk t).view.emb y 0).val = (t.val / 256 * 16 + t.val % 16) * 256 + (y 0).val
    ∧ (((cfg0.win 4).blk t).view.emb y 1).val = t.val / 16 % 16 * 128 + (y 1).val := by
  constructor <;> blk_simp <;> simp [maps t]

/-- What a grid point stores, at an index of its block, is the target at the array index under it. -/
theorem stored (c : Dev nD) (hq : ∀ i, Finite (Q m c i)) (hk : ∀ i, Finite (K m c i)) (t : Fin cfg0.N) (y : S256x128.Idx) :
    block (grid0.coords t 2).val (iblk m c 0 t) (iblk m c 1 t) (iblk m c 2 t) (iblk m c 3 t) y
      = Cert.AttnRefIdeal.Calc.target (Q m c) (K m c) (Vals m c) (Hid m c) (((cfg0.win 4).blk t).view.emb y) := by
  have ht : t.val < 1024 := t.isLt
  have y0 : (y 0).val < 256 := (y 0).isLt
  have y1 : (y 1).val < 128 := (y 1).isLt
  obtain ⟨e0, e1⟩ := emb_out t y
  have ha := (maps t).2.2.2.2.2
  have hsc : ∀ (r : Fin 256) (x : ℕ), score (iblk m c 0 t) (iblk m c 1 t) r x
      = Cert.AttnRefIdeal.Calc.score (Q m c) (K m c) ⟨t.val / 256, by omega⟩ ⟨t.val / 16 % 16, by omega⟩
          ⟨256 * (t.val % 16) + r.val, by omega⟩ x := by
    intro r x
    unfold score Cert.AttnRefIdeal.Calc.score
    congr 1
    funext x
    refine Finset.sum_congr rfl fun d _ => ?_
    refine congrArg₂ (· * ·) (blk_q m c t _ _ ?_ ?_) (blk_k m c t _ _ ?_ ?_)
    · show t.val / 256 * 4096 + (256 * (t.val % 16) + r.val) = (t.val / 256 * 16 + t.val % 16) * 256 + r.val
      ring
    · rfl
    · rfl
    · rfl
  rw [block_eq _ _ _ _ (by rw [ha]; omega)]
  · unfold Cert.AttnRefIdeal.Calc.target
    dsimp only
    refine congrArg₂ (· * ·) ?_ (congrArg gated (blk_h m c t y _ e0 e1))
    refine congrArg₂ attend ?_ ?_
    · have hr : (((cfg0.win 4).blk t).view.emb y 0).val % 4096 = 256 * (t.val % 16) + (y 0).val := by rw [e0]; omega
      refine congrArg₂ seen ((congrArg (256 * · + (y 0).val) ha).trans hr.symm) ((funext (hsc (y 0))).trans ?_)
      congr 1
      · exact Fin.ext (show t.val / 256 = (((cfg0.win 4).blk t).view.emb y 0).val / 4096 by rw [e0]; omega)
      · exact Fin.ext (show t.val / 16 % 16 = (((cfg0.win 4).blk t).view.emb y 1).val / 128 by rw [e1]; omega)
      · exact Fin.ext hr.symm
    · unfold column Cert.AttnRefIdeal.Calc.column
      congr 1
      funext x
      refine blk_v m c t _ _ ?_ ?_
      · show (((cfg0.win 4).blk t).view.emb y 0).val / 4096 * 4096 + x.val = t.val / 256 * 4096 + x.val
        rw [e0]
        omega
      · exact e1
  · intro r x hx
    unfold score
    rw [ext_lt _ _ hx]
    exact finite_sum_mul _ _ (fun d => hq _) (fun d => hk _)

/-- The result array after the whole grid. -/
theorem result (c : Dev nD) (hq : ∀ i, Finite (Q m c i)) (hk : ∀ i, Finite (K m c i)) : (dats m 0 c).arrAt 4 cfg0.N
    = Cert.AttnRefIdeal.Calc.target (Q m c) (K m c) (Vals m c) (Hid m c) := by
  refine (dats m 0 c).arrAt_eq_of_covers 4 _ (by decide +kernel) fun t _ y => ?_
  blk_simp
  rw [after0_4]
  exact (congrFun (out_eq ..) y).trans (stored m c hq hk t y)

/-- What the precondition says of an array whose comparison it is. -/
theorem finite_of_mask [Cert.Pre_finite_queries_keys.Facts] (q : FVec Ideal S16384x4096 .bf16)
    (h : cmpf .olt (Host.absf q) (broadcastInDim S16384x4096 ![] Cert.Pre_finite_queries_keys.Facts.bcast_S_S16384x4096
      (constant Cert.Pre_finite_queries_keys.S_ .bf16 0x7F80#16)) = fun _ => 1#1) (i : S16384x4096.Idx) : Finite (q i) := by
  have hi := congrFun h i
  revert hi
  pointwise
  intro hi
  have hb : ∀ b : Bool, BitVec.ofBool b = 1#1 → b = true := by decide
  have hlt := of_decide_eq_true (hb _ hi)
  rw [show Ideal.ofBits .bf16 0x7F80#16 = ⊤ by simp [Ideal.ofBits, Ideal.ieee]] at hlt
  exact finite_of_abs hlt

end Cert.AttnIdeal.Calc

end
-- ==== Proof.ProjAValue.lean ====
module

public import proofs.«01_k».proof.Proof.Gen.ProjAIdeal.Value
public import proofs.«01_k».proof.Proof.Gen.ProjARefIdeal.Run
public import Idealize.ShloMosaic.Lib.Pipeline.ValueKit
public import Idealize.ShloMosaic.Lib.Pointwise
public import Idealize.ShloMosaic.Lib.Claim

/-! The normalised projection to 8192 columns: the array the grid leaves is the reference's term of the arguments. The
scratch holds, at every grid point, the normalised rows of the row block the point is on. -/

@[expose] public section

set_option maxRecDepth 16384

noncomputable section

namespace Cert.ProjAIdeal.Calc

open Cert.ProjAIdeal Cert.ProjAIdeal.Gen Idealize.ShloMosaic Idealize.ShloMosaic.TcCoe Idealize.SL.Sem
open Idealize.ShloMosaic.Pipeline (Dat)

variable (m : (ℓ : Loc nD τ sig) → Buf (Elt Ideal) ℓ)

/-- The rows of `x` normalised by their root mean square and scaled by `g`, as the reference computes them. -/
abbrev normed (x : FVec Ideal S16384x2048 .f32) (g : FVec Ideal Cert.ProjARefIdeal.S2048 .f32) : FVec Ideal S16384x2048 .f32 :=
  mulf (mulf x (broadcastInDim Cert.ProjARefIdeal.S16384x2048 ![0, 1] Cert.ProjARefIdeal.Gen.bcast_S16384x1_S16384x2048_0_1
      (Host.rsqrt (addf (Host.divf (broadcastInDim Cert.ProjARefIdeal.S16384x1 ![0] Cert.ProjARefIdeal.Gen.bcast_S16384_S16384x1_0
          (Host.reduceAdd (mulf x x) (constant Cert.ProjARefIdeal.S_ .f32 0x00000000#32)
            Cert.ProjARefIdeal.Gen.reducesTo_S16384x2048_S16384_d1 Cert.ProjARefIdeal.Gen.h_S_))
        (broadcastInDim Cert.ProjARefIdeal.S16384x1 ![] Cert.ProjARefIdeal.Gen.bcast_S_S16384x1
          (constant Cert.ProjARefIdeal.S_ .f32 0x45000000#32)))
        (broadcastInDim Cert.ProjARefIdeal.S16384x1 ![] Cert.ProjARefIdeal.Gen.bcast_S_S16384x1
          (constant Cert.ProjARefIdeal.S_ .f32 0x358637BD#32))))))
    (broadcastInDim Cert.ProjARefIdeal.S16384x2048 ![0, 1] Cert.ProjARefIdeal.Gen.bcast_S1x2048_S16384x2048_0_1
      (broadcastInDim Cert.ProjARefIdeal.S1x2048 ![1] Cert.ProjARefIdeal.Gen.bcast_S2048_S1x2048_1 g))

/-- The reference's result from its arguments. -/
abbrev target (x : FVec Ideal S16384x2048 .f32) (g : FVec Ideal Cert.ProjARefIdeal.S2048 .f32) (w : FVec Ideal S2048x8192 .f32) :
    FVec Ideal S16384x8192 .bf16 :=
  truncf .bf16 (Host.dotGeneral Cert.ProjARefIdeal.dot_S16384x2048_S2048x8192_S16384x8192_1_0_0_1_n_n none (normed x g) w)
    Cert.ProjARefIdeal.Gen.bitsLt_bf16_f32

/-- The block each window is on at each grid point. -/
theorem maps : ∀ t : Fin cfg0.N, win0_0.index t = ![t.val / 8, 0] ∧ win0_1.index t = ![0, 0]
    ∧ win0_2.index t = ![0, t.val % 8] ∧ win0_3.index t = ![t.val / 8, t.val % 8] :=
  (by decide +kernel : ∀ t : Fin grid0.N, _)

/-- The rows the first column's body computes, at an index of the block: the normalised rows of the array. -/
theorem fresh (c : Dev nD) (t : Fin cfg0.N) (y : S1024x2048.Idx) :
    k0_pay1 (iblk m c 0 t) (iblk m c 1 t) y
      = normed (m ((c : Thread nD τ).loc main_arg0)) (m ((c : Thread nD τ).loc main_arg1))
          (((cfg0.win 0).blk t).view.emb y) := by
  pointwise [k0_pay1, normed]
  blk_point [iblk, V, maps t]

/-- The scratch after grid point `n` holds the normalised rows of that point's row block. -/
theorem kept (c : Dev nD) : ∀ (n : ℕ) (hn : n < cfg0.N) (y : S1024x2048.Idx),
    (outsAt0 m c n hn).2 y
      = normed (m ((c : Thread nD τ).loc main_arg0)) (m ((c : Thread nD τ).loc main_arg1))
          (((cfg0.win 0).blk ⟨n, hn⟩).view.emb y) := by
  intro n
  induction n with
  | zero =>
    intro hn y
    rw [outsAt0_A m c ⟨0, hn⟩ (Nat.zero_mod _)]
    frame_out
    exact fresh m c ⟨0, hn⟩ y
  | succ n ih =>
    intro hn y
    by_cases h0 : (n + 1) % 8 = 0
    · rw [outsAt0_A m c ⟨n + 1, hn⟩ h0]
      frame_out
      exact fresh m c ⟨n + 1, hn⟩ y
    · rw [outsAt0_B m c ⟨n + 1, hn⟩ h0]
      have e : (((cfg0.win 0).blk ⟨n + 1, hn⟩).view.emb y) = (((cfg0.win 0).blk ⟨n, Nat.lt_of_succ_lt hn⟩).view.emb y) := by
        have hq : (n + 1) / 8 = n / 8 := by omega
        blk_ext [maps ⟨n + 1, hn⟩, maps ⟨n, Nat.lt_of_succ_lt hn⟩, hq]
      rw [e]
      frame_out
      exact ih (Nat.lt_of_succ_lt hn) y

/-- The product a grid point stores, from the rows in the scratch. -/
theorem stored (c : Dev nD) (t : Fin cfg0.N) (s : FVec Ideal S1024x2048 .bf16)
    (hs : ∀ y, s y = normed (m ((c : Thread nD τ).loc main_arg0)) (m ((c : Thread nD τ).loc main_arg1))
          (((cfg0.win 0).blk t).view.emb y)) (y : S1024x1024.Idx) :
    k0_pay2 s (iblk m c 2 t) y
      = target (m ((c : Thread nD τ).loc main_arg0)) (m ((c : Thread nD τ).loc main_arg1))
          (m ((c : Thread nD τ).loc main_arg2)) (((cfg0.win 3).blk t).view.emb y) := by
  unfold target
  generalize hn : normed (m ((c : Thread nD τ).loc main_arg0)) (m ((c : Thread nD τ).loc main_arg1)) = nm at hs ⊢
  clear hn
  pointwise [k0_pay2]
  simp only [hs]
  blk_point [iblk, V, maps t]

/-- What the output block holds after grid point `t`. -/
theorem left (c : Dev nD) (t : Fin cfg0.N) (y : S1024x1024.Idx) :
    (outsAt0 m c t.val t.isLt).1 y
      = target (m ((c : Thread nD τ).loc main_arg0)) (m ((c : Thread nD τ).loc main_arg1))
          (m ((c : Thread nD τ).loc main_arg2)) (((cfg0.win 3).blk t).view.emb y) := by
  by_cases h0 : t.val % 8 = 0
  · rw [outsAt0_A m c t h0]
    frame_out
    exact stored m c t _ (fresh m c t) y
  · have hp := kept m c t.val t.isLt
    rw [outsAt0_B m c t h0] at hp ⊢
    frame_out
    refine stored m c t _ (fun y => ?_) y
    rw [← hp y]
    exact congrFun (Memref.IsWhole.read_unread _ _) y

/-- The result array after the whole grid. -/
theorem result (c : Dev nD) : (dats m 0 c).arrAt 3 cfg0.N
    = target (m ((c : Thread nD τ).loc main_arg0)) (m ((c : Thread nD τ).loc main_arg1))
        (m ((c : Thread nD τ).loc main_arg2)) := by
  refine (dats m 0 c).arrAt_eq_of_covers 3 _ (by decide +kernel) fun t _ y => ?_
  blk_simp
  rw [after0_3]
  exact left m c t y

end Cert.ProjAIdeal.Calc

end
-- ==== Proof.ProjCValue.lean ====
module

public import proofs.«01_k».proof.Proof.Gen.ProjCIdeal.Value
public import proofs.«01_k».proof.Proof.Gen.ProjCRefIdeal.Run
public import Idealize.ShloMosaic.Lib.Pipeline.ValueKit
public import Idealize.ShloMosaic.Lib.Pointwise
public import Idealize.ShloMosaic.Lib.Claim

/-! The normalised projection to 3072 columns: the array the grid leaves is the reference's term of the arguments. The
scratch holds, at every grid point, the normalised rows of the row block the point is on. -/

@[expose] public section

set_option maxRecDepth 16384

noncomputable section

namespace Cert.ProjCIdeal.Calc

open Cert.ProjCIdeal Cert.ProjCIdeal.Gen Idealize.ShloMosaic Idealize.ShloMosaic.TcCoe Idealize.SL.Sem
open Idealize.ShloMosaic.Pipeline (Dat)

variable (m : (ℓ : Loc nD τ sig) → Buf (Elt Ideal) ℓ)

/-- The rows of `x` normalised by their root mean square and scaled by `g`, as the reference computes them. -/
abbrev normed (x : FVec Ideal S16384x2048 .f32) (g : FVec Ideal Cert.ProjCRefIdeal.S2048 .f32) : FVec Ideal S16384x2048 .f32 :=
  mulf (mulf x (broadcastInDim Cert.ProjCRefIdeal.S16384x2048 ![0, 1] Cert.ProjCRefIdeal.Gen.bcast_S16384x1_S16384x2048_0_1
      (Host.rsqrt (addf (Host.divf (broadcastInDim Cert.ProjCRefIdeal.S16384x1 ![0] Cert.ProjCRefIdeal.Gen.bcast_S16384_S16384x1_0
          (Host.reduceAdd (mulf x x) (constant Cert.ProjCRefIdeal.S_ .f32 0x00000000#32)
            Cert.ProjCRefIdeal.Gen.reducesTo_S16384x2048_S16384_d1 Cert.ProjCRefIdeal.Gen.h_S_))
        (broadcastInDim Cert.ProjCRefIdeal.S16384x1 ![] Cert.ProjCRefIdeal.Gen.bcast_S_S16384x1
          (constant Cert.ProjCRefIdeal.S_ .f32 0x45000000#32)))
        (broadcastInDim Cert.ProjCRefIdeal.S16384x1 ![] Cert.ProjCRefIdeal.Gen.bcast_S_S16384x1
          (constant Cert.ProjCRefIdeal.S_ .f32 0x358637BD#32))))))
    (broadcastInDim Cert.ProjCRefIdeal.S16384x2048 ![0, 1] Cert.ProjCRefIdeal.Gen.bcast_S1x2048_S16384x2048_0_1
      (broadcastInDim Cert.ProjCRefIdeal.S1x2048 ![1] Cert.ProjCRefIdeal.Gen.bcast_S2048_S1x2048_1 g))

/-- The reference's result from its arguments. -/
abbrev target (x : FVec Ideal S16384x2048 .f32) (g : FVec Ideal Cert.ProjCRefIdeal.S2048 .f32) (w : FVec Ideal S2048x3072 .f32) :
    FVec Ideal S16384x3072 .bf16 :=
  truncf .bf16 (Host.dotGeneral Cert.ProjCRefIdeal.dot_S16384x2048_S2048x3072_S16384x3072_1_0_0_1_n_n none (normed x g) w)
    Cert.ProjCRefIdeal.Gen.bitsLt_bf16_f32

/-- The block each window is on at each grid point. -/
theorem maps : ∀ t : Fin cfg0.N, win0_0.index t = ![t.val / 3, 0] ∧ win0_1.index t = ![0, 0]
    ∧ win0_2.index t = ![0, t.val % 3] ∧ win0_3.index t = ![t.val / 3, t.val % 3] :=
  (by decide +kernel : ∀ t : Fin grid0.N, _)

/-- The rows the first column's body computes, at an index of the block: the normalised rows of the array. -/
theorem fresh (c : Dev nD) (t : Fin cfg0.N) (y : S1024x2048.Idx) :
    k0_pay1 (iblk m c 0 t) (iblk m c 1 t) y
      = normed (m ((c : Thread nD τ).loc main_arg0)) (m ((c : Thread nD τ).loc main_arg1))
          (((cfg0.win 0).blk t).view.emb y) := by
  pointwise [k0_pay1, normed]
  blk_point [iblk, V, maps t]

/-- The scratch after grid point `n` holds the normalised rows of that point's row block. -/
theorem kept (c : Dev nD) : ∀ (n : ℕ) (hn : n < cfg0.N) (y : S1024x2048.Idx),
    (outsAt0 m c n hn).2 y
      = normed (m ((c : Thread nD τ).loc main_arg0)) (m ((c : Thread nD τ).loc main_arg1))
          (((cfg0.win 0).blk ⟨n, hn⟩).view.emb y) := by
  intro n
  induction n with
  | zero =>
    intro hn y
    rw [outsAt0_A m c ⟨0, hn⟩ (Nat.zero_mod _)]
    frame_out
    exact fresh m c ⟨0, hn⟩ y
  | succ n ih =>
    intro hn y
    by_cases h0 : (n + 1) % 3 = 0
    · rw [outsAt0_A m c ⟨n + 1, hn⟩ h0]
      frame_out
      exact fresh m c ⟨n + 1, hn⟩ y
    · rw [outsAt0_B m c ⟨n + 1, hn⟩ h0]
      have e : (((cfg0.win 0).blk ⟨n + 1, hn⟩).view.emb y) = (((cfg0.win 0).blk ⟨n, Nat.lt_of_succ_lt hn⟩).view.emb y) := by
        have hq : (n + 1) / 3 = n / 3 := by omega
        blk_ext [maps ⟨n + 1, hn⟩, maps ⟨n, Nat.lt_of_succ_lt hn⟩, hq]
      rw [e]
      frame_out
      exact ih (Nat.lt_of_succ_lt hn) y

/-- The product a grid point stores, from the rows in the scratch. -/
theorem stored (c : Dev nD) (t : Fin cfg0.N) (s : FVec Ideal S1024x2048 .bf16)
    (hs : ∀ y, s y = normed (m ((c : Thread nD τ).loc main_arg0)) (m ((c : Thread nD τ).loc main_arg1))
          (((cfg0.win 0).blk t).view.emb y)) (y : S1024x1024.Idx) :
    k0_pay2 s (iblk m c 2 t) y
      = target (m ((c : Thread nD τ).loc main_arg0)) (m ((c : Thread nD τ).loc main_arg1))
          (m ((c : Thread nD τ).loc main_arg2)) (((cfg0.win 3).blk t).view.emb y) := by
  unfold target
  generalize hn : normed (m ((c : Thread nD τ).loc main_arg0)) (m ((c : Thread nD τ).loc main_arg1)) = nm at hs ⊢
  clear hn
  pointwise [k0_pay2]
  simp only [hs]
  blk_point [iblk, V, maps t]

/-- What the output block holds after grid point `t`. -/
theorem left (c : Dev nD) (t : Fin cfg0.N) (y : S1024x1024.Idx) :
    (outsAt0 m c t.val t.isLt).1 y
      = target (m ((c : Thread nD τ).loc main_arg0)) (m ((c : Thread nD τ).loc main_arg1))
          (m ((c : Thread nD τ).loc main_arg2)) (((cfg0.win 3).blk t).view.emb y) := by
  by_cases h0 : t.val % 3 = 0
  · rw [outsAt0_A m c t h0]
    frame_out
    exact stored m c t _ (fresh m c t) y
  · have hp := kept m c t.val t.isLt
    rw [outsAt0_B m c t h0] at hp ⊢
    frame_out
    refine stored m c t _ (fun y => ?_) y
    rw [← hp y]
    exact congrFun (Memref.IsWhole.read_unread _ _) y

/-- The result array after the whole grid. -/
theorem result (c : Dev nD) : (dats m 0 c).arrAt 3 cfg0.N
    = target (m ((c : Thread nD τ).loc main_arg0)) (m ((c : Thread nD τ).loc main_arg1))
        (m ((c : Thread nD τ).loc main_arg2)) := by
  refine (dats m 0 c).arrAt_eq_of_covers 3 _ (by decide +kernel) fun t _ y => ?_
  blk_simp
  rw [after0_3]
  exact left m c t y

end Cert.ProjCIdeal.Calc

end
-- ==== Proof.ProjDValue.lean ====
module

public import proofs.«01_k».proof.Proof.Gen.ProjDIdeal.Value
public import proofs.«01_k».proof.Proof.Gen.ProjDRefIdeal.Run
public import Idealize.ShloMosaic.Lib.Pipeline.ValueKit
public import Idealize.ShloMosaic.Lib.Pointwise
public import Idealize.ShloMosaic.Lib.Claim

/-! The normalised projection to 12288 columns: the array the grid leaves is the reference's term of the arguments. The
scratch holds, at every grid point, the normalised rows of the row block the point is on. -/

@[expose] public section

set_option maxRecDepth 16384

noncomputable section

namespace Cert.ProjDIdeal.Calc

open Cert.ProjDIdeal Cert.ProjDIdeal.Gen Idealize.ShloMosaic Idealize.ShloMosaic.TcCoe Idealize.SL.Sem
open Idealize.ShloMosaic.Pipeline (Dat)

variable (m : (ℓ : Loc nD τ sig) → Buf (Elt Ideal) ℓ)

/-- The rows of `x` normalised by their root mean square and scaled by `g`, as the reference computes them. -/
abbrev normed (x : FVec Ideal S16384x2048 .f32) (g : FVec Ideal Cert.ProjDRefIdeal.S2048 .f32) : FVec Ideal S16384x2048 .f32 :=
  mulf (mulf x (broadcastInDim Cert.ProjDRefIdeal.S16384x2048 ![0, 1] Cert.ProjDRefIdeal.Gen.bcast_S16384x1_S16384x2048_0_1
      (Host.rsqrt (addf (Host.divf (broadcastInDim Cert.ProjDRefIdeal.S16384x1 ![0] Cert.ProjDRefIdeal.Gen.bcast_S16384_S16384x1_0
          (Host.reduceAdd (mulf x x) (constant Cert.ProjDRefIdeal.S_ .f32 0x00000000#32)
            Cert.ProjDRefIdeal.Gen.reducesTo_S16384x2048_S16384_d1 Cert.ProjDRefIdeal.Gen.h_S_))
        (broadcastInDim Cert.ProjDRefIdeal.S16384x1 ![] Cert.ProjDRefIdeal.Gen.bcast_S_S16384x1
          (constant Cert.ProjDRefIdeal.S_ .f32 0x45000000#32)))
        (broadcastInDim Cert.ProjDRefIdeal.S16384x1 ![] Cert.ProjDRefIdeal.Gen.bcast_S_S16384x1
          (constant Cert.ProjDRefIdeal.S_ .f32 0x358637BD#32))))))
    (broadcastInDim Cert.ProjDRefIdeal.S16384x2048 ![0, 1] Cert.ProjDRefIdeal.Gen.bcast_S1x2048_S16384x2048_0_1
      (broadcastInDim Cert.ProjDRefIdeal.S1x2048 ![1] Cert.ProjDRefIdeal.Gen.bcast_S2048_S1x2048_1 g))

/-- The reference's result from its arguments. -/
abbrev target (x : FVec Ideal S16384x2048 .f32) (g : FVec Ideal Cert.ProjDRefIdeal.S2048 .f32) (w : FVec Ideal S2048x12288 .f32) :
    FVec Ideal S16384x12288 .bf16 :=
  truncf .bf16 (Host.dotGeneral Cert.ProjDRefIdeal.dot_S16384x2048_S2048x12288_S16384x12288_1_0_0_1_n_n none (normed x g) w)
    Cert.ProjDRefIdeal.Gen.bitsLt_bf16_f32

/-- The block each window is on at each grid point. -/
theorem maps : ∀ t : Fin cfg0.N, win0_0.index t = ![t.val / 12, 0] ∧ win0_1.index t = ![0, 0]
    ∧ win0_2.index t = ![0, t.val % 12] ∧ win0_3.index t = ![t.val / 12, t.val % 12] :=
  (by decide +kernel : ∀ t : Fin grid0.N, _)

/-- The rows the first column's body computes, at an index of the block: the normalised rows of the array. -/
theorem fresh (c : Dev nD) (t : Fin cfg0.N) (y : S1024x2048.Idx) :
    k0_pay1 (iblk m c 0 t) (iblk m c 1 t) y
      = normed (m ((c : Thread nD τ).loc main_arg0)) (m ((c : Thread nD τ).loc main_arg1))
          (((cfg0.win 0).blk t).view.emb y) := by
  pointwise [k0_pay1, normed]
  blk_point [iblk, V, maps t]

/-- The scratch after grid point `n` holds the normalised rows of that point's row block. -/
theorem kept (c : Dev nD) : ∀ (n : ℕ) (hn : n < cfg0.N) (y : S1024x2048.Idx),
    (outsAt0 m c n hn).2 y
      = normed (m ((c : Thread nD τ).loc main_arg0)) (m ((c : Thread nD τ).loc main_arg1))
          (((cfg0.win 0).blk ⟨n, hn⟩).view.emb y) := by
  intro n
  induction n with
  | zero =>
    intro hn y
    rw [outsAt0_A m c ⟨0, hn⟩ (Nat.zero_mod _)]
    frame_out
    exact fresh m c ⟨0, hn⟩ y
  | succ n ih =>
    intro hn y
    by_cases h0 : (n + 1) % 12 = 0
    · rw [outsAt0_A m c ⟨n + 1, hn⟩ h0]
      frame_out
      exact fresh m c ⟨n + 1, hn⟩ y
    · rw [outsAt0_B m c ⟨n + 1, hn⟩ h0]
      have e : (((cfg0.win 0).blk ⟨n + 1, hn⟩).view.emb y) = (((cfg0.win 0).blk ⟨n, Nat.lt_of_succ_lt hn⟩).view.emb y) := by
        have hq : (n + 1) / 12 = n / 12 := by omega
        blk_ext [maps ⟨n + 1, hn⟩, maps ⟨n, Nat.lt_of_succ_lt hn⟩, hq]
      rw [e]
      frame_out
      exact ih (Nat.lt_of_succ_lt hn) y

/-- The product a grid point stores, from the rows in the scratch. -/
theorem stored (c : Dev nD) (t : Fin cfg0.N) (s : FVec Ideal S1024x2048 .bf16)
    (hs : ∀ y, s y = normed (m ((c : Thread nD τ).loc main_arg0)) (m ((c : Thread nD τ).loc main_arg1))
          (((cfg0.win 0).blk t).view.emb y)) (y : S1024x1024.Idx) :
    k0_pay2 s (iblk m c 2 t) y
      = target (m ((c : Thread nD τ).loc main_arg0)) (m ((c : Thread nD τ).loc main_arg1))
          (m ((c : Thread nD τ).loc main_arg2)) (((cfg0.win 3).blk t).view.emb y) := by
  unfold target
  generalize hn : normed (m ((c : Thread nD τ).loc main_arg0)) (m ((c : Thread nD τ).loc main_arg1)) = nm at hs ⊢
  clear hn
  pointwise [k0_pay2]
  simp only [hs]
  blk_point [iblk, V, maps t]

/-- What the output block holds after grid point `t`. -/
theorem left (c : Dev nD) (t : Fin cfg0.N) (y : S1024x1024.Idx) :
    (outsAt0 m c t.val t.isLt).1 y
      = target (m ((c : Thread nD τ).loc main_arg0)) (m ((c : Thread nD τ).loc main_arg1))
          (m ((c : Thread nD τ).loc main_arg2)) (((cfg0.win 3).blk t).view.emb y) := by
  by_cases h0 : t.val % 12 = 0
  · rw [outsAt0_A m c t h0]
    frame_out
    exact stored m c t _ (fresh m c t) y
  · have hp := kept m c t.val t.isLt
    rw [outsAt0_B m c t h0] at hp ⊢
    frame_out
    refine stored m c t _ (fun y => ?_) y
    rw [← hp y]
    exact congrFun (Memref.IsWhole.read_unread _ _) y

/-- The result array after the whole grid. -/
theorem result (c : Dev nD) : (dats m 0 c).arrAt 3 cfg0.N
    = target (m ((c : Thread nD τ).loc main_arg0)) (m ((c : Thread nD τ).loc main_arg1))
        (m ((c : Thread nD τ).loc main_arg2)) := by
  refine (dats m 0 c).arrAt_eq_of_covers 3 _ (by decide +kernel) fun t _ y => ?_
  blk_simp
  rw [after0_3]
  exact left m c t y

end Cert.ProjDIdeal.Calc

end
-- ==== Proof.OutAValue.lean ====
module

public import proofs.«01_k».proof.Proof.Gen.OutAIdeal.Value
public import proofs.«01_k».proof.Proof.Gen.OutARefIdeal.Run
public import Idealize.ShloMosaic.Lib.Pipeline.ValueKit
public import Idealize.ShloMosaic.Lib.Pointwise
public import Idealize.ShloMosaic.Lib.Claim

/-! The output projection with its residual sum, for layers of inner width 2048: the array the grid leaves is the
reference's term of the arguments. -/

@[expose] public section

set_option maxRecDepth 16384

noncomputable section

namespace Cert.OutAIdeal.Calc

open Cert.OutAIdeal Cert.OutAIdeal.Gen Idealize.ShloMosaic Idealize.ShloMosaic.TcCoe Idealize.SL.Sem
open Idealize.ShloMosaic.Pipeline (Dat)

variable (m : (ℓ : Loc nD τ sig) → Buf (Elt Ideal) ℓ)

/-- The reference's result from its arguments. -/
abbrev target (z : FVec Ideal S16384x2048 .bf16) (w : FVec Ideal S2048x2048 .f32) (x : FVec Ideal S16384x2048 .f32) :
    FVec Ideal S16384x2048 .f32 :=
  addf x (Host.dotGeneral Cert.OutARefIdeal.dot_S16384x2048_S2048x2048_S16384x2048_1_0_0_1_n_n none
    (extf .f32 z Cert.OutARefIdeal.Gen.bitsLt_bf16_f32) w)

/-- The block each window is on at each grid point. -/
theorem maps : ∀ t : Fin cfg0.N, win0_0.index t = ![t.val / 2, 0] ∧ win0_1.index t = ![0, t.val % 2]
    ∧ win0_2.index t = ![t.val / 2, t.val % 2] ∧ win0_3.index t = ![t.val / 2, t.val % 2] :=
  (by decide +kernel : ∀ t : Fin grid0.N, _)

/-- What a grid point stores, at an index of its block, is the target at the array index under it. -/
theorem stored (c : Dev nD) (t : Fin cfg0.N) (y : S1024x1024.Idx) :
    k0_pay1 (iblk m c 2 t) (iblk m c 0 t) (iblk m c 1 t) y
      = target (m ((c : Thread nD τ).loc main_arg0)) (m ((c : Thread nD τ).loc main_arg1))
          (m ((c : Thread nD τ).loc main_arg2)) (((cfg0.win 3).blk t).view.emb y) := by
  pointwise [k0_pay1, target]
  blk_point [iblk, V, maps t]

/-- The result array after the whole grid. -/
theorem result (c : Dev nD) : (dats m 0 c).arrAt 3 cfg0.N
    = target (m ((c : Thread nD τ).loc main_arg0)) (m ((c : Thread nD τ).loc main_arg1))
        (m ((c : Thread nD τ).loc main_arg2)) := by
  refine (dats m 0 c).arrAt_eq_of_covers 3 _ (by decide +kernel) fun t _ y => ?_
  blk_simp
  rw [after0_3]
  frame_out
  exact stored m c t y

end Cert.OutAIdeal.Calc

end
-- ==== Proof.OutDValue.lean ====
module

public import proofs.«01_k».proof.Proof.Gen.OutDIdeal.Value
public import proofs.«01_k».proof.Proof.Gen.OutDRefIdeal.Run
public import Idealize.ShloMosaic.Lib.Pipeline.ValueKit
public import Idealize.ShloMosaic.Lib.Pointwise
public import Idealize.ShloMosaic.Lib.Claim

/-! The output projection with its residual sum, for layers of inner width 4096: the array the grid leaves is the
reference's term of the arguments. -/

@[expose] public section

set_option maxRecDepth 16384

noncomputable section

namespace Cert.OutDIdeal.Calc

open Cert.OutDIdeal Cert.OutDIdeal.Gen Idealize.ShloMosaic Idealize.ShloMosaic.TcCoe Idealize.SL.Sem
open Idealize.ShloMosaic.Pipeline (Dat)

variable (m : (ℓ : Loc nD τ sig) → Buf (Elt Ideal) ℓ)

/-- The reference's result from its arguments. -/
abbrev target (z : FVec Ideal S16384x4096 .bf16) (w : FVec Ideal S4096x2048 .f32) (x : FVec Ideal S16384x2048 .f32) :
    FVec Ideal S16384x2048 .f32 :=
  addf x (Host.dotGeneral Cert.OutDRefIdeal.dot_S16384x4096_S4096x2048_S16384x2048_1_0_0_1_n_n none
    (extf .f32 z Cert.OutDRefIdeal.Gen.bitsLt_bf16_f32) w)

/-- The block each window is on at each grid point. -/
theorem maps : ∀ t : Fin cfg0.N, win0_0.index t = ![t.val / 4, 0] ∧ win0_1.index t = ![0, t.val % 4]
    ∧ win0_2.index t = ![t.val / 4, t.val % 4] ∧ win0_3.index t = ![t.val / 4, t.val % 4] :=
  (by decide +kernel : ∀ t : Fin grid0.N, _)

/-- What a grid point stores, at an index of its block, is the target at the array index under it. -/
theorem stored (c : Dev nD) (t : Fin cfg0.N) (y : S1024x512.Idx) :
    k0_pay1 (iblk m c 2 t) (iblk m c 0 t) (iblk m c 1 t) y
      = target (m ((c : Thread nD τ).loc main_arg0)) (m ((c : Thread nD τ).loc main_arg1))
          (m ((c : Thread nD τ).loc main_arg2)) (((cfg0.win 3).blk t).view.emb y) := by
  pointwise [k0_pay1, target]
  blk_point [iblk, V, maps t]

/-- The result array after the whole grid. -/
theorem result (c : Dev nD) : (dats m 0 c).arrAt 3 cfg0.N
    = target (m ((c : Thread nD τ).loc main_arg0)) (m ((c : Thread nD τ).loc main_arg1))
        (m ((c : Thread nD τ).loc main_arg2)) := by
  refine (dats m 0 c).arrAt_eq_of_covers 3 _ (by decide +kernel) fun t _ y => ?_
  blk_simp
  rw [after0_3]
  frame_out
  exact stored m c t y

end Cert.OutDIdeal.Calc

end
-- ==== Proof.OwnSteps.lean ====
/-
  Steps of a program through buffers owned at stated contents: a load reads the rectangle of the contents, and a
  store over the whole buffer leaves the stored values.
-/
module

public import Idealize.ShloMosaic.Lib.Pipeline.FrameBody
public import Idealize.ShloMosaic.Lib.Tactic
public import Idealize.ShloMosaic.Lib.Pipeline.ValueKit

@[expose] public section

noncomputable section

namespace Idealize.ShloMosaic.OwnSteps

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

variable {nD : Nat} {τ : Topo} {sig : RefSig} {Ix : Type} [DecidableEq Ix]
variable {Val : EltTy → Type} {Name : Type} [DecidableEq Name] [∀ e, Inhabited (Val e)]
variable {U : Type} [URA U]
variable {Lvl : Type} {Λ : Labels}
variable [Preorder Lvl] {defs : Defs nD τ sig Val Λ} (𝒱 : Variants) (c : Thread nD τ) (bd : Option 𝒱.V) (E : Set Name)
variable {s : Shape} {e : EltTy} {α : Type} {Q : α → sProp (MT nD τ sig Ix Val Name U Lvl)}

/-- A load from a buffer owned at `X` reads `X` at the rectangle. -/
theorem load_owns {cs : CoreSpace} {m : Memref sig c.2.kind cs s e} {r : Rect s} {hl : m.view.LoadsAt r.toLoadRect}
    {k : (r.shape.Idx → Val e) → Prog (TpuEff nD τ sig Val Λ c.2) α} {q : PosShare TreeShare} (X : s.Idx → Val e) :
    owns c m q X ⊢ iprop((owns c m q X -∗ wp frame (wpE defs 𝒱 c bd) E (k (View.ld X r)) Q)
        -∗ wp frame (wpE defs 𝒱 c bd) E (.op (.load m r.toLoadRect hl) k) Q) := by
  unfold owns
  iintro ⟨%f, %hf, H⟩ Hk
  iapply (wp_load 𝒱 c bd E (m := m) (View.setOn_subset_set _ _)) $$ H
  iintro H
  rw [View.readAt_eq_ld, hf]
  iapply Hk
  iexists f
  isplitr
  · ipureintro; exact hf
  iexact H

/-- A store over the whole of an owned buffer leaves it owned at the stored values. -/
theorem store_owns {cs : CoreSpace} {m : Memref sig c.2.kind cs s e} {off : Fin s.rank → Nat} (h : off = fun _ => 0)
    {inb : ∀ a, off a + s.size a ≤ s.size a} {w : s.Idx → Val e} {hx : (m.access (Rect.unit off s.size inb)).Stores Finset.univ}
    {hm : (Finset.univ : Finset (Rect.unit off s.size inb).shape.Idx) = Finset.univ ∨ ∀ a, (Rect.unit off s.size inb).stride a = 1}
    {k : PUnit → Prog (TpuEff nD τ sig Val Λ c.2) α} (X : s.Idx → Val e) :
    owns c m fullShare X ⊢ iprop((owns c m fullShare w -∗ wp frame (wpE defs 𝒱 c bd) E (k ⟨⟩) Q)
        -∗ wp frame (wpE defs 𝒱 c bd) E (.op (.store m (Rect.unit off s.size inb) w Finset.univ hx hm) k) Q) := by
  unfold owns
  iintro ⟨%f, %hf, H⟩ Hk
  iapply (wp_store_writes₀ 𝒱 c bd E (m := m) (View.set_slice_subset _ _)) $$ H
  iintro H
  iapply Hk
  iexists _
  isplitr
  swap
  · iexact H
  ipureintro
  rw [View.read_writes_eq_canon, View.canon_cons_unit_zero h]
  subst h
  exact fun y => ⟨_, List.mem_cons_self, by show y ∈ (Rect.whole s).set; rw [Rect.set_whole]; exact Finset.mem_univ y⟩

end Idealize.ShloMosaic.OwnSteps

end
-- ==== Proof.SbIdealBody.lean ====
/-
  The kernel of `SbIdeal`: what its loop leaves after the trips still to run, and the frame of the whole program.
  The loop runs over the key blocks downwards from the block of the rows, and stops early once every row's log weight
  is below the literal.
-/
module

public import proofs.«01_k».proof.Proof.OwnSteps
public import proofs.«01_k».proof.Proof.Gen.SbIdeal.Launch
public import proofs.«01_k».proof.Proof.Gen.SbIdeal.Skeleton
public import proofs.«01_k».proof.Proof.Gen.SbIdeal.Points
public import Idealize.ShloMosaic.Lib.Pipeline.FrameBody
public import Idealize.ShloMosaic.Lib.Tactic
public import Idealize.ShloMosaic.Lib.Claim

@[expose] public section

set_option maxRecDepth 16384

noncomputable section

namespace Cert.SbIdeal.Body

open Cert.SbIdeal Cert.SbIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.OwnSteps

variable {F : FTy → Type} [FloatOps F] [Named F]

local notation "𝕄" => MT nD τ sig Unit (Elt F) ℕ (UR sig nD τ) ℕ

/-! ## What the loop computes -/

/-- The 256 rows of `x` in block `n`. -/
def rows (x : Vec F S4096x128 .bf16) (n : ℕ) : Vec F S256x128 .bf16 :=
  if h : k0_chk1 (BitVec.ofNat 32 n) then
    View.ld x (Rect.unit (s := S4096x128) (k0_off1 (BitVec.ofNat 32 n)) S256x128.size (k0_off1_inb (BitVec.ofNat 32 n) h))
  else fun _ => x (Shape.Idx.first (by decide))

/-- The columns of a block as words. -/
abbrev cols : IVec S256x256 32 := iota .tc S256x256 32 [1] iota_S256x256_d1_w32

/-- The logs that key block `n` passes on to the blocks below it. -/
def logs (i : grid0.Coords) (x0 : Vec F S256x128 .bf16) (x1 : Vec F S4096x128 .bf16) (n : ℕ) : FVec F S256x256 .f32 :=
  k0_pay13 x0 cols (k0_pay8 i) (BitVec.ofNat 32 n) (rows x1 n)

/-- The sum after key block `n`. -/
def stepA (i : grid0.Coords) (x0 : Vec F S256x128 .bf16) (x1 x2 : Vec F S4096x128 .bf16) (n : ℕ) (R : Vec F S256x1 .f32)
    (A : Vec F S256x128 .f32) : Vec F S256x128 .f32 :=
  k0_pay1 (k0_pay14 x0 cols (k0_pay8 i) (k0_pay7 (F := F)) (BitVec.ofNat 32 n) (rows x1 n) (rows x2 n) R A)

/-- The sum after the `n` key blocks below `n`, from the last, and whether the loop goes on decided before each. -/
def run (i : grid0.Coords) (x0 : Vec F S256x128 .bf16) (x1 x2 : Vec F S4096x128 .bf16) :
    ℕ → Vec F S256x1 .f32 → Vec F S256x128 .f32 → F .f32 → Vec F S256x128 .f32
  | 0, _, A, _ => A
  | n + 1, R, A, x =>
    if Scalar.cmpf .oge x (Named.named κ "log_zero" 0xC2D00000#32) = 1#1 then
      run i x0 x1 x2 n (k0_pay3 (logs i x0 x1 n) R) (stepA i x0 x1 x2 n R A) (k0_pay4 (logs i x0 x1 n) R)
    else A

/-- What the kernel leaves in its output block. -/
def block (i : grid0.Coords) (x0 : Vec F S256x128 .bf16) (x1 x2 : Vec F S4096x128 .bf16) (x3 : Vec F S256x128 .bf16) : Vec F S256x128 .bf16 :=
  k0_pay9 (run i x0 x1 x2 ((i 2).val + 1) (k0_pay6 (F := F)) (k0_pay5 (F := F)) (Scalar.ofBits .f32 0x00000000#32)) x3

/-! ## The loop's counter -/

theorem zero_off : (![0, 0] : Fin 2 → Nat) = fun _ => 0 := by funext a; fin_cases a <;> rfl

/-- Below the first block the loop ends, -/
theorem below : Scalar.cmpi .sge (Scalar.subi (BitVec.ofNat 32 0) 1#32) 0#32 = 0#1 := by decide
/-- the counter of `n + 1` blocks is block `n`, -/
theorem pred_eq : ∀ n < 16, Scalar.subi (BitVec.ofNat 32 (n + 1)) 1#32 = BitVec.ofNat 32 n := by decide
/-- which is one to run, -/
theorem above : ∀ n < 16, Scalar.cmpi .sge (BitVec.ofNat 32 n) 0#32 = 1#1 := by decide
/-- lies in the arrays, -/
theorem chk : ∀ n < 16, k0_chk1 (BitVec.ofNat 32 n) := by decide
/-- and the loop starts at the block of the rows. -/
theorem start : ∀ n < 16, Scalar.addi (Scalar.muli (BitVec.ofNat 32 n) 1#32) 0#32 = Scalar.subi (BitVec.ofNat 32 (n + 1)) 1#32 := by decide

theorem rows_eq (x : Vec F S4096x128 .bf16) (n : ℕ) (h : k0_chk1 (BitVec.ofNat 32 n)) :
    rows x n = View.ld x (Rect.unit (s := S4096x128) (k0_off1 (BitVec.ofNat 32 n)) S256x128.size (k0_off1_inb (BitVec.ofNat 32 n) h)) :=
  dif_pos h

section Loop

variable (c : Dev nD) (i : grid0.Coords) (arg3 : Memref sig .tc .vmem S256x128 .bf16) (harg3 : arg3.IsWhole)
  (arg4 : Memref sig .tc .vmem S4096x128 .bf16) (harg4 : arg4.IsWhole) (arg5 : Memref sig .tc .vmem S4096x128 .bf16) (harg5 : arg5.IsWhole)
  (arg6 : Memref sig .tc .vmem S256x128 .bf16) (harg6 : arg6.IsWhole) (arg7 : Memref sig .tc .vmem S256x128 .bf16) (harg7 : arg7.IsWhole)
  (arg8 : Memref sig .tc .vmem S256x128 .f32) (harg8 : arg8.IsWhole) (arg9 : Memref sig .tc .vmem S256x1 .f32) (harg9 : arg9.IsWhole)
  (x0 : Vec F S256x128 .bf16) (x1 x2 : Vec F S4096x128 .bf16) (x3 : Vec F S256x128 .bf16)

/-- The buffers the loop works on. -/
def held (R : Vec F S256x1 .f32) (A : Vec F S256x128 .f32) : sProp 𝕄 :=
  iprop(owns (c : Thread nD τ) arg4 fullShare x1 ∗ owns (c : Thread nD τ) arg5 fullShare x2
    ∗ owns (c : Thread nD τ) arg9 fullShare R ∗ owns (c : Thread nD τ) arg8 fullShare A)

/-- The loop with `n` blocks to run: it leaves the sum of `run` and anything as the rows' logs. -/
def spec (n : ℕ) (R : Vec F S256x1 .f32) (A : Vec F S256x128 .f32) (x : F .f32) : sWPT 𝕄 (BitVec 32 × F .f32) := do
  sWPT.consume (held c arg4 arg5 arg8 arg9 x1 x2 R A)
  let r ← sWPT.arbitrary
  sWPT.produce iprop(∃ R', held c arg4 arg5 arg8 arg9 x1 x2 R' (run i x0 x1 x2 n R A x))
  pure r

theorem spec_apply (n : ℕ) (R : Vec F S256x1 .f32) (A : Vec F S256x128 .f32) (x : F .f32) (K : BitVec 32 × F .f32 → sProp 𝕄) :
    spec c i arg4 arg5 arg8 arg9 x0 x1 x2 n R A x K
      = iprop(held c arg4 arg5 arg8 arg9 x1 x2 R A
        ∗ ∀ r : BitVec 32 × F .f32, ((∃ R', held c arg4 arg5 arg8 arg9 x1 x2 R' (run i x0 x1 x2 n R A x)) -∗ K r)) := rfl

/-- The loop's function meets its specification. -/
theorem spec_le (E : Set ℕ) : ∀ n, n ≤ 16 → ∀ R A x K, spec c i arg4 arg5 arg8 arg9 x0 x1 x2 n R A x K
      ⊢ wp frame (wpE (defs₀ (F := F)) Variants.nat (c : Thread nD τ) (some n)) E
          (defs₀ (F := F) .tc 1 ⟨i, arg4, harg4, arg5, harg5, x0, cols, k0_pay8 i, k0_pay7 (F := F), arg9, harg9, arg8, harg8,
            Scalar.subi (BitVec.ofNat 32 n) 1#32, x⟩) K := by
  intro n
  induction n with
  | zero =>
    intro _ R A x K
    rw [spec_apply]
    show _ ⊢ wp frame (wpE (defs₀ (F := F)) Variants.nat (c : Thread nD τ) (some 0)) E
      (cc0_while1 i arg4 harg4 arg5 harg5 x0 cols (k0_pay8 i) (k0_pay7 (F := F)) arg9 harg9 arg8 harg8 (Scalar.subi (BitVec.ofNat 32 0) 1#32) x) K
    simp only [cc0_while1_eq_skeleton]; unfold cc0_while1_skel
    have hno : ∀ b : BitVec 1, ¬ (Scalar.andi (0#1 : BitVec 1) b = 1#1) := by decide
    simp only [below, hno, ↓reduceIte, Prog.pure_eq_ret]
    iintro ⟨H, Hk⟩
    rw [wp_ret]; imodintro
    iapply Hk
    iexists R
    simp only [run]; iexact H
  | succ n ih =>
    intro hn R A x K
    have hn' : n < 16 := hn
    rw [spec_apply]
    show _ ⊢ wp frame (wpE (defs₀ (F := F)) Variants.nat (c : Thread nD τ) (some (n + 1))) E
      (cc0_while1 i arg4 harg4 arg5 harg5 x0 cols (k0_pay8 i) (k0_pay7 (F := F)) arg9 harg9 arg8 harg8 (Scalar.subi (BitVec.ofNat 32 (n + 1)) 1#32) x) K
    rw [pred_eq n hn']
    simp only [cc0_while1_eq_skeleton]; unfold cc0_while1_skel
    rw [run]
    by_cases hx : Scalar.cmpf .oge x (Named.named κ "log_zero" 0xC2D00000#32) = 1#1
    · have hyes : Scalar.andi (1#1 : BitVec 1) 1#1 = 1#1 := by decide
      simp only [above n hn', hx, hyes, ↓reduceIte, k0_part2_eq_skeleton]
      unfold k0_part2_skel
      simp only [Prog.lift, Prog.bind_op, Prog.bind_ret, Prog.pure_eq_ret]
      unfold held
      iintro ⟨⟨H4, H5, H9, H8⟩, Hk⟩
      iapply (wp_assume Variants.nat (c : Thread nD τ) (some (n + 1)) E (chk n hn'))
      iapply (load_owns Variants.nat (c : Thread nD τ) (some (n + 1)) E x1) $$ H4; iintro H4
      iapply (load_owns Variants.nat (c : Thread nD τ) (some (n + 1)) E x2) $$ H5; iintro H5
      iapply (load_owns Variants.nat (c : Thread nD τ) (some (n + 1)) E R) $$ H9; iintro H9
      iapply (load_owns Variants.nat (c : Thread nD τ) (some (n + 1)) E A) $$ H8; iintro H8
      iapply (load_owns Variants.nat (c : Thread nD τ) (some (n + 1)) E A) $$ H8; iintro H8
      iapply (store_owns Variants.nat (c : Thread nD τ) (some (n + 1)) E zero_off A) $$ H8; iintro H8
      iapply (load_owns Variants.nat (c : Thread nD τ) (some (n + 1)) E R) $$ H9; iintro H9
      iapply (store_owns Variants.nat (c : Thread nD τ) (some (n + 1)) E zero_off R) $$ H9; iintro H9
      rw [View.ld_unit_zero (S := S256x1) zero_off, View.ld_unit_zero (S := S256x128) zero_off, ← rows_eq x1 n (chk n hn'), ← rows_eq x2 n (chk n hn')]
      iapply (wp_call_spec Variants.nat (c : Thread nD τ) (some (n + 1)) E
        (spec c i arg4 arg5 arg8 arg9 x0 x1 x2 n (k0_pay3 (logs i x0 x1 n) R) (stepA i x0 x1 x2 n R A) (k0_pay4 (logs i x0 x1 n) R)) n
        (fun u hu => by cases hu; exact Nat.lt_succ_self n) (ih (by omega) _ _ _))
      rw [spec_apply]; unfold held
      isplitl [H4 H5 H9 H8]
      · isplitl [H4]; · iexact H4
        isplitl [H5]; · iexact H5
        isplitl [H9]; · iexact H9
        iexact H8
      iintro %r H
      rw [wp_ret]; imodintro
      iapply Hk
      iexact H
    · have hno : ∀ b : BitVec 1, ¬ b = 1#1 → ¬ (Scalar.andi (1#1 : BitVec 1) b = 1#1) := by decide
      simp only [above n hn', hno _ hx, hx, ↓reduceIte, Prog.pure_eq_ret]
      iintro ⟨H, Hk⟩
      rw [wp_ret]; imodintro
      iapply Hk
      iexists R
      iexact H

/-- The kernel's body leaves `block` in the output and its inputs as they were. -/
theorem body_run (E : Set ℕ) (K : PUnit → sProp 𝕄) :
    iprop(owns (c : Thread nD τ) arg3 fullShare x0 ∗ owns (c : Thread nD τ) arg4 fullShare x1 ∗ owns (c : Thread nD τ) arg5 fullShare x2
      ∗ owns (c : Thread nD τ) arg6 fullShare x3 ∗ (∃ d, owns (c : Thread nD τ) arg7 fullShare d) ∗ (∃ d, owns (c : Thread nD τ) arg8 fullShare d)
      ∗ (∃ d, owns (c : Thread nD τ) arg9 fullShare d)
      ∗ (iprop(owns (c : Thread nD τ) arg3 fullShare x0 ∗ owns (c : Thread nD τ) arg4 fullShare x1 ∗ owns (c : Thread nD τ) arg5 fullShare x2
        ∗ owns (c : Thread nD τ) arg6 fullShare x3 ∗ owns (c : Thread nD τ) arg7 fullShare (block i x0 x1 x2 x3)
        ∗ (∃ d, owns (c : Thread nD τ) arg8 fullShare d) ∗ (∃ d, owns (c : Thread nD τ) arg9 fullShare d)) -∗ K ⟨⟩))
      ⊢ wp frame (wpE (defs₀ (F := F)) Variants.nat (c : Thread nD τ) none) E
        (cc0_sb_attention i arg3 harg3 arg4 harg4 arg5 harg5 arg6 harg6 arg7 harg7 arg8 harg8 arg9 harg9) K := by
  have hi : (i 2).val < 16 := (i 2).isLt
  simp only [cc0_sb_attention_eq_skeleton]; unfold cc0_sb_attention_skel
  simp only [k0_part1_eq_skeleton]; unfold k0_part1_skel
  simp only [Prog.lift, Prog.bind_op, Prog.bind_ret, Prog.pure_eq_ret]
  iintro ⟨H3, H4, H5, H6, ⟨%d7, H7⟩, ⟨%d8, H8⟩, ⟨%d9, H9⟩, Hk⟩
  iapply (load_owns Variants.nat (c : Thread nD τ) none E x0) $$ H3; iintro H3
  iapply (load_owns Variants.nat (c : Thread nD τ) none E d8) $$ H8; iintro H8
  iapply (store_owns Variants.nat (c : Thread nD τ) none E zero_off d8) $$ H8; iintro H8
  iapply (load_owns Variants.nat (c : Thread nD τ) none E d9) $$ H9; iintro H9
  iapply (store_owns Variants.nat (c : Thread nD τ) none E zero_off d9) $$ H9; iintro H9
  rw [View.ld_unit_zero (S := S256x128) zero_off, start (i 2).val hi]
  iapply (wp_call_spec Variants.nat (c : Thread nD τ) none E
    (spec c i arg4 arg5 arg8 arg9 x0 x1 x2 ((i 2).val + 1) (k0_pay6 (F := F)) (k0_pay5 (F := F)) (Scalar.ofBits .f32 0x00000000#32)) ((i 2).val + 1)
    (fun u hu => nomatch hu) (spec_le c i arg4 harg4 arg5 harg5 arg8 harg8 arg9 harg9 x0 x1 x2 E ((i 2).val + 1) (by omega) _ _ _))
  rw [spec_apply]; unfold held
  isplitl [H4 H5 H9 H8]
  · isplitl [H4]; · iexact H4
    isplitl [H5]; · iexact H5
    isplitl [H9]; · iexact H9
    iexact H8
  iintro %r ⟨%R', H4, H5, H9, H8⟩
  iapply (load_owns Variants.nat (c : Thread nD τ) none E _) $$ H8; iintro H8
  iapply (load_owns Variants.nat (c : Thread nD τ) none E x3) $$ H6; iintro H6
  iapply (load_owns Variants.nat (c : Thread nD τ) none E d7) $$ H7; iintro H7
  iapply (store_owns Variants.nat (c : Thread nD τ) none E zero_off d7) $$ H7; iintro H7
  rw [wp_ret]; imodintro
  iapply Hk
  isplitl [H3]; · iexact H3
  isplitl [H4]; · iexact H4
  isplitl [H5]; · iexact H5
  isplitl [H6]; · iexact H6
  isplitl [H7]
  · rw [View.ld_unit_zero (S := S256x128) zero_off, View.ld_unit_zero (S := S256x128) zero_off]
    iexact H7
  isplitl [H8]; · iexists _; iexact H8
  iexists _; iexact H9

end Loop

/-! ## The pipeline -/

variable (m : (ℓ : Loc nD τ sig) → Buf (Elt F) ℓ) (ρ : Dev nD → PrngReg)

/-- The arrays as the pipeline finds them. -/
abbrev V (c : Dev nD) (b : Ref sig .tc) : Buf (Elt F) ((c : Thread nD τ).loc b) := m ((c : Thread nD τ).loc b)

set_option maxHeartbeats 800000 in
theorem hmain : Pipeline.HMain (Ix := Unit) (Name := ℕ) (U := UR sig nD τ) (Lvl := ℕ) cfgs 0 defs₀ Variants.nat m (main (F := F)) (V m) :=
  Pipeline.hmain_region cfgs 0 defs₀ Variants.nat m main fun c => (main_chain c).trans rfl

/-- A window's block at a point. -/
def iblk (c : Dev nD) (w : Fin (cfg0 (F := F)).W) (t : Fin (cfg0 (F := F)).N) :
    (((cfg0 (F := F)).win w).xblock ((cfg0 (F := F)).grid.coords t)).Idx → Elt F ((cfg0 (F := F)).win w).elt :=
  (((cfg0 (F := F)).win w).blk t).view.read (Elt F) (V m c (Pipeline.arrRef spec0 w))

abbrev ms0_0 (t : Fin (cfg0 (F := F)).N) : Memref sig .tc .vmem S256x128 .bf16 := win0_0.stage ((cfg0 (F := F)).slots t 0)
abbrev ms0_1 (t : Fin (cfg0 (F := F)).N) : Memref sig .tc .vmem S4096x128 .bf16 := win0_1.stage ((cfg0 (F := F)).slots t 1)
abbrev ms0_2 (t : Fin (cfg0 (F := F)).N) : Memref sig .tc .vmem S4096x128 .bf16 := win0_2.stage ((cfg0 (F := F)).slots t 2)
abbrev ms0_3 (t : Fin (cfg0 (F := F)).N) : Memref sig .tc .vmem S256x128 .bf16 := win0_3.stage ((cfg0 (F := F)).slots t 3)
abbrev ms0_4 (t : Fin (cfg0 (F := F)).N) : Memref sig .tc .vmem S256x128 .bf16 := win0_4.stage ((cfg0 (F := F)).slots t 4)
abbrev scM0_0 : Memref sig .tc .vmem S256x128 .f32 := Memref.whole cc0_scratch0
abbrev scM0_1 : Memref sig .tc .vmem S256x1 .f32 := Memref.whole cc0_scratch1

/-- The invariant between points: the scratch buffers at anything. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

/-- What the output block holds after a point. -/
def outsAt0 (c : Dev nD) (t : Fin (cfg0 (F := F)).N) : Vec F S256x128 .bf16 :=
  block (grid0.coords t) (iblk m c 0 t) (iblk m c 1 t) (iblk m c 2 t) (iblk m c 3 t)

/-- The proof data of the pipeline. -/
def dats (_ : Fin 1) (c : Dev nD) : Dat τ (Elt F) Unit ℕ (UR sig nD τ) ℕ (cfg0 (F := F)) c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => (outsAt0 m c t)
  Φ _ := Pipeline.ΦA spec0 c
  q w := Pipeline.shareOf spec0 w
  owed _ := 0

theorem A_eq (c : Dev nD) (w : Fin (cfg0 (F := F)).W) : (dats m 0 c).A w = V m c (Pipeline.arrRef spec0 w) := by
  dsimp only [dats]

theorem after0_0 (c : Dev nD) (t : Fin (cfg0 (F := F)).N) : (dats m 0 c).after 0 t = iblk m c 0 t := rfl
theorem after0_1 (c : Dev nD) (t : Fin (cfg0 (F := F)).N) : (dats m 0 c).after 1 t = iblk m c 1 t := rfl
theorem after0_2 (c : Dev nD) (t : Fin (cfg0 (F := F)).N) : (dats m 0 c).after 2 t = iblk m c 2 t := rfl
theorem after0_3 (c : Dev nD) (t : Fin (cfg0 (F := F)).N) : (dats m 0 c).after 3 t = iblk m c 3 t := rfl
theorem after0_4 (c : Dev nD) (t : Fin (cfg0 (F := F)).N) : (dats m 0 c).after 4 t = (outsAt0 m c t) := rfl

theorem before0_0 (c : Dev nD) (t : Fin (cfg0 (F := F)).N) (d) : (dats m 0 c).before 0 t d = iblk m c 0 t :=
  ((dats m 0 c).before_in_eq_fetched 0 rfl (fun _ => rfl) (fun _ _ _ => rfl) (fun t => by rw [after0_0]; unfold Dat.blockOf iblk; rw [A_eq]; try rfl) t d).trans
    (by unfold Dat.fetched Dat.blockOf iblk; rw [A_eq]; try rfl)
theorem before0_1 (c : Dev nD) (t : Fin (cfg0 (F := F)).N) (d) : (dats m 0 c).before 1 t d = iblk m c 1 t :=
  ((dats m 0 c).before_in_eq_fetched 1 rfl (fun _ => rfl) (fun _ _ _ => rfl) (fun t => by rw [after0_1]; unfold Dat.blockOf iblk; rw [A_eq]; try rfl) t d).trans
    (by unfold Dat.fetched Dat.blockOf iblk; rw [A_eq]; try rfl)
theorem before0_2 (c : Dev nD) (t : Fin (cfg0 (F := F)).N) (d) : (dats m 0 c).before 2 t d = iblk m c 2 t :=
  ((dats m 0 c).before_in_eq_fetched 2 rfl (fun _ => rfl) (fun _ _ _ => rfl) (fun t => by rw [after0_2]; unfold Dat.blockOf iblk; rw [A_eq]; try rfl) t d).trans
    (by unfold Dat.fetched Dat.blockOf iblk; rw [A_eq]; try rfl)
theorem before0_3 (c : Dev nD) (t : Fin (cfg0 (F := F)).N) (d) : (dats m 0 c).before 3 t d = iblk m c 3 t :=
  ((dats m 0 c).before_in_eq_fetched 3 rfl (fun _ => rfl) (fun _ _ _ => rfl) (fun t => by rw [after0_3]; unfold Dat.blockOf iblk; rw [A_eq]; try rfl) t d).trans
    (by unfold Dat.fetched Dat.blockOf iblk; rw [A_eq]; try rfl)

/-- What the body is called with at a point, -/
def bodyPre (c : Dev nD) (t : Fin (cfg0 (F := F)).N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d)))

/-- and what it returns. -/
def bodyPost (c : Dev nD) (t : Fin (cfg0 (F := F)).N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t))

set_option maxHeartbeats 800000 in
theorem sound_body (c : Dev nD) (t : Fin (cfg0 (F := F)).N) :
    bodyPre m c t ⊢ wp frame (wpE (defs₀ (F := F)) Variants.nat c none) Set.univ (bodyAt0 t) (fun _ => bodyPost m c t) := by
  unfold bodyPre bodyPost bodyAt0
  simp only [before0_0, before0_1, before0_2, before0_3]
  rw [show (dats m 0 c).Φ t.succ = (dats m 0 c).Φ t.castSucc from rfl,
    show (dats m 0 c).owesAt () t.succ = (dats m 0 c).owesAt () t.castSucc from rfl,
    after0_0, after0_1, after0_2, after0_3, after0_4]
  rw [show (dats m 0 c).Φ t.castSucc = Pipeline.ΦA spec0 c from rfl, PhiA0_eq]
  unfold outsAt0
  iintro ⟨⟨⟨HS0, HS1⟩, Hg⟩, Ho, ⟨%d0, H0⟩, ⟨%d1, H1⟩, ⟨%d2, H2⟩, ⟨%d3, H3⟩, ⟨%d4, H4⟩⟩
  iapply (body_run c (grid0.coords t) _ _ _ _ _ _ _ _ _ _ _ _ _ _ (iblk m c 0 t) (iblk m c 1 t) (iblk m c 2 t) (iblk m c 3 t) Set.univ _)
  isplitl [H0]; · iexact H0
  isplitl [H1]; · iexact H1
  isplitl [H2]; · iexact H2
  isplitl [H3]; · iexact H3
  isplitl [H4]; · iexists _; iexact H4
  isplitl [HS0]; · iexact HS0
  isplitl [HS1]; · iexact HS1
  iintro ⟨H0, H1, H2, H3, H4, HS0, HS1⟩
  isplitl [HS0 HS1 Hg]
  · isplitl [HS0 HS1]
    · isplitl [HS0]
      · iexact HS0
      iexact HS1
    iexact Hg
  isplitl [Ho]; · iexact Ho
  isplitl [H0]; · iexact H0
  isplitl [H1]; · iexact H1
  isplitl [H2]; · iexact H2
  isplitl [H3]; · iexact H3
  iexact H4

theorem defs₀_row (t : Fin (cfg0 (F := F)).N) :
    defs₀ (F := F) .tc (cfg0 (F := F)).body ((cfg0 (F := F)).bodyArgs t ((cfg0 (F := F)).slots t)) = bodyAt0 t := by
  unfold defs₀; rw [Defs.onTc_tc]

theorem body_obligation (c : Dev nD) : BodyObligation (dats (F := F) m 0 c) (defs₀ (F := F)) Variants.nat () Set.univ := fun t => by
  rw [bigSep_W0, bigSep_W0, defs₀_row]
  exact triple_restated (sound_body m c t) rfl .rfl fun _ => .rfl

/-! ## The run and the frame -/

set_option backward.isDefEq.respectTransparency.types false in
theorem run_main_quiescent : θ_run defs (onTc (τ := τ) (main (F := F))) (s₀ m ρ) (fun r => (Pipeline.FramePost cfgs (dats m) 0 (V m)) r ∧ r.2.sem = fun _ => 0) :=
  Pipeline.θ_run_frame_shared (Q' := _) cfgs (dats m) (0 : Fin 1) launch₀0 defs₀ Variants.nat m ρ main
    (hbody := fun c => (body_obligation m c).loose) (hq := fun _ _ _ => rfl)
    (howed := fun _ _ => rfl) (V := V m) (hmain := hmain m) (hA := A_eq m) (hΦ := fun _ _ => rfl)

/-- Every run ends, with the pipeline's arrays at what the proof data say. -/
theorem run_main : θ_run defs (onTc (τ := τ) (main (F := F))) (s₀ m ρ) (Pipeline.FramePost cfgs (dats m) 0 (V m)) :=
  (θ_run defs _ _).mono (fun _ h => h.1) (run_main_quiescent m ρ)

/-- The argument ends as it was, and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0))
      ∧ r.2.sem = fun _ => 0) :=
  θ_run_and ((θ_run defs _ _).mono (fun _ h c => ((h c).1 0).trans (((dats m 0 c).arrAt_in 0 rfl _).trans (A_eq m c 0))) (run_main m ρ))
    ((θ_run defs _ _).mono (fun _ h => h.2) (run_main_quiescent m ρ))

end Cert.SbIdeal.Body

end
-- ==== Proof.ConvRead.lean ====
module

public import proofs.«01_k».proof.Proof.Online
public import proofs.«01_k».proof.Proof.Gen.ConvRefIdeal.Run
public import Idealize.ShloMosaic.Lib.Pipeline.ValueKit
public import Idealize.ShloMosaic.Lib.Pointwise
public import Idealize.ShloMosaic.Lib.IdealHost
public import Idealize.ShloMosaic.Lib.KernelVsHost

/-! The reference short convolution read at an index. -/

@[expose] public section

set_option maxRecDepth 16384

noncomputable section

namespace Cert.ConvRefIdeal.Calc

open Cert.ConvRefIdeal Cert.ConvRefIdeal.Gen Idealize.ShloMosaic Idealize.ShloMosaic.TcCoe Idealize.SL.Sem
open Cert.Online (gated)

/-- The rows of each sequence. -/
def rows (h : FVec Ideal S16384x8192 .bf16) : FVec Ideal S4x4096x8192 .f32 :=
  shapeCast _ (extf .f32 h bitsLt_bf16_f32) shapeCasts_S16384x8192_S4x4096x8192

/-- The products the convolution runs over, two rows of zeros before each sequence. -/
def padded (h : FVec Ideal S16384x8192 .bf16) : FVec Ideal S4x4098x2048 .f32 :=
  pad S4x4098x2048 ![0, 2, 0] ![0, 0, 0] ![0, 0, 0]
    (mulf (extractStridedSlice S4x4096x2048 ![0, 0, 2048] (rows h) slices_S4x4096x8192_S4x4096x2048_0_0_2048)
      (extractStridedSlice S4x4096x2048 ![0, 0, 4096] (rows h) slices_S4x4096x8192_S4x4096x2048_0_0_4096))
    (sitofp .f32 (constantI S_ 32 0#32)) pads_S4x4096x2048_S4x4098x2048_000_200_000 h_S_

/-- The gates before the sigmoid. -/
def gates (h : FVec Ideal S16384x8192 .bf16) : FVec Ideal S4x4096x2048 .f32 :=
  extractStridedSlice S4x4096x2048 ![0, 0, 6144] (rows h) slices_S4x4096x8192_S4x4096x2048_0_0_6144

/-- A row of the weights, over the array. -/
abbrev spread (v : FVec Ideal S2048 .f32) : FVec Ideal S4x4096x2048 .f32 :=
  broadcastInDim S4x4096x2048 ![0, 1, 2] bcast_S1x1x2048_S4x4096x2048_0_1_2 (broadcastInDim S1x1x2048 ![2] bcast_S2048_S1x1x2048_2 v)

/-- The reference's result as it computes it. -/
def res (h : FVec Ideal S16384x8192 .bf16) (w : FVec Ideal S3x2048 .f32) (b : FVec Ideal S2048 .f32) : FVec Ideal S16384x2048 .bf16 :=
  shapeCast _ (truncf .bf16 (mulf
    (mulf (extractStridedSlice S4x4096x2048 ![0, 0, 0] (rows h) slices_S4x4096x8192_S4x4096x2048_0_0_0)
      (addf (addf (addf
        (mulf (spread (shapeCast _ (extractStridedSlice S1x2048 ![0, 0] w slices_S3x2048_S1x2048_0_0) shapeCasts_S1x2048_S2048))
          (extractStridedSlice S4x4096x2048 ![0, 0, 0] (padded h) slices_S4x4098x2048_S4x4096x2048_0_0_0))
        (mulf (spread (shapeCast _ (extractStridedSlice S1x2048 ![1, 0] w slices_S3x2048_S1x2048_1_0) shapeCasts_S1x2048_S2048))
          (extractStridedSlice S4x4096x2048 ![0, 1, 0] (padded h) slices_S4x4098x2048_S4x4096x2048_0_1_0)))
        (mulf (spread (shapeCast _ (extractStridedSlice S1x2048 ![2, 0] w slices_S3x2048_S1x2048_2_0) shapeCasts_S1x2048_S2048))
          (extractStridedSlice S4x4096x2048 ![0, 2, 0] (padded h) slices_S4x4098x2048_S4x4096x2048_0_2_0)))
        (spread b)))
    (mulf (gates h) (Host.divf (broadcastInDim S4x4096x2048 ![] bcast_S_S4x4096x2048 (constant S_ .f32 0x3F800000#32))
      (addf (broadcastInDim S4x4096x2048 ![] bcast_S_S4x4096x2048 (constant S_ .f32 0x3F800000#32)) (Host.exp (Host.negf (gates h)))))))
    bitsLt_bf16_f32) shapeCasts_S4x4096x2048_S16384x2048

/-- The product of a row, at a column. -/
def prod (h : FVec Ideal S16384x8192 .bf16) (r : ℕ) (j : Fin 2048) : EReal :=
  if hr : r < 16384 then h (ix2 ⟨r, hr⟩ ⟨2048 + j.val, by omega⟩) * h (ix2 ⟨r, hr⟩ ⟨4096 + j.val, by omega⟩) else 0

/-- The product of the row `k` before, and zero before the sequence's first. -/
def back (h : FVec Ideal S16384x8192 .bf16) (k r : ℕ) (j : Fin 2048) : EReal :=
  if r % 4096 < k then 0 else prod h (r - k) j

/-- The convolution's result from its arguments, at an index. -/
def target (h : FVec Ideal S16384x8192 .bf16) (w : FVec Ideal S3x2048 .f32) (b : FVec Ideal S2048 .f32) : FVec Ideal S16384x2048 .bf16 :=
  fun y =>
    have h1 : (y 1).val < 2048 := (y 1).isLt
    h (ix2 (y 0) ⟨(y 1).val, by omega⟩)
        * (w (ix2 0 (y 1)) * back h 2 (y 0).val (y 1) + w (ix2 1 (y 1)) * back h 1 (y 0).val (y 1)
          + w (ix2 2 (y 1)) * back h 0 (y 0).val (y 1) + b (ix1 (y 1)))
      * gated (h (ix2 (y 0) ⟨6144 + (y 1).val, by omega⟩))

theorem padded_apply (h : FVec Ideal S16384x8192 .bf16) (b : Fin 4) (r : Fin 4096) (k : ℕ) (hk : k ≤ 2) (j : Fin 2048)
    (x : Fin 4098) (hx : x.val = r.val + (2 - k)) : padded h (ix3 b x j) = back h k (b.val * 4096 + r.val) j := by
  have hlt : r.val + (2 - k) < 4098 := by omega
  obtain rfl : x = ⟨r.val + (2 - k), hlt⟩ := Fin.ext hx
  unfold back padded
  have hm : (b.val * 4096 + r.val) % 4096 = r.val := by omega
  rw [hm]
  by_cases hr : r.val < k
  · rw [if_pos hr, pad_apply_of_not_inside _ _ _ _ _ _ _ _ (1 : Fin 3)]
    · show (((0#32 : BitVec 32).toInt : ℝ) : EReal) = 0
      simp
    · intro hin
      have h2 : 2 ≤ r.val + (2 - k) := hin.1
      omega
  · rw [if_neg hr, pad_apply_of_inside _ _ _ _ _ _ _ _ (ix3 b ⟨r.val - k, by omega⟩ j)]
    · unfold prod
      rw [dif_pos (show b.val * 4096 + r.val - k < 16384 by omega)]
      have e : b.val * 4096 + r.val - k = b.val * 4096 + (r.val - k) := by omega
      simp only [e]
      pointwise [rows]
    · intro a
      fin_cases a
      · show b.val = 0 + b.val * 1
        omega
      · show r.val + (2 - k) = 2 + (r.val - k) * 1
        omega
      · show j.val = 0 + j.val * 1
        omega

theorem res_target (h : FVec Ideal S16384x8192 .bf16) (w : FVec Ideal S3x2048 .f32) (b : FVec Ideal S2048 .f32) :
    res h w b = target h w b := by
  funext y
  have h0 : (y 0).val < 16384 := (y 0).isLt
  have h1 : (y 1).val < 2048 := (y 1).isLt
  unfold target gated
  pointwise [res, rows, gates]
  have e : (y 0).val = (y 0).val / 4096 * 4096 + (y 0).val % 4096 := by omega
  have ed : ∀ (k : ℕ) (hk : k ≤ 2) (x : Fin 4098) (hx : x.val = (y 0).val % 4096 + (2 - k)),
      padded h (ix3 ⟨(y 0).val / 4096, by omega⟩ x (y 1)) = back h k (y 0).val (y 1) := fun k hk x hx => by
    rw [padded_apply h ⟨(y 0).val / 4096, by omega⟩ ⟨(y 0).val % 4096, by omega⟩ k hk (y 1) x hx]
    exact congrArg (fun r => back h k r (y 1)) e.symm
  rw [ed 2 (by omega) _ (by simp only []; omega), ed 1 (by omega) _ (by simp only []; omega), ed 0 (by omega) _ (by simp only []; omega)]

end Cert.ConvRefIdeal.Calc

end
-- ==== Proof.ConvValue.lean ====
module

public import proofs.«01_k».proof.Proof.ConvRead
public import proofs.«01_k».proof.Proof.Gen.ConvIdeal.Value
public import Idealize.ShloMosaic.Lib.Pipeline.ValueKit
public import Idealize.ShloMosaic.Lib.Pointwise
public import Idealize.ShloMosaic.Lib.WordCmp

/-! The short convolution: the array the grid leaves is the reference's result. The scratch holds the products of the
last eight rows of the block before. -/

@[expose] public section

set_option maxRecDepth 16384

noncomputable section

namespace Cert.ConvIdeal.Calc

open Cert.ConvIdeal Cert.ConvIdeal.Gen Idealize.ShloMosaic Idealize.ShloMosaic.TcCoe Idealize.SL.Sem
open Idealize.ShloMosaic.Pipeline (Dat)
open Cert.ConvRefIdeal.Calc (prod back target)
open Cert.Online (gated)

variable (m : (ℓ : Loc nD τ sig) → Buf (Elt Ideal) ℓ)

/-- The block each window is on at each grid point. -/
theorem maps : ∀ t : Fin cfg0.N, win0_0.index t = ![t.val, 0] ∧ win0_1.index t = ![t.val, 1] ∧ win0_2.index t = ![t.val, 2]
    ∧ win0_3.index t = ![t.val, 3] ∧ win0_4.index t = ![0, 0] ∧ win0_5.index t = ![0, 0] ∧ win0_6.index t = ![t.val, 0] :=
  (by decide +kernel : ∀ t : Fin grid0.N, _)

/-- The input array. -/
abbrev H (c : Dev nD) : FVec Ideal S16384x8192 .bf16 := m ((c : Thread nD τ).loc main_arg0)

theorem point_lt (t : Fin cfg0.N) : t.val < 64 := t.isLt

/-- The products of a block are the array's at the block's rows. -/
theorem prod_blk (c : Dev nD) (t : Fin cfg0.N) (r : Fin 256) (j : Fin 2048) :
    k0_pay2 (iblk m c 1 t) (iblk m c 2 t) (ix2 r j) = prod (H m c) (256 * t.val + r.val) j := by
  have ht := point_lt t
  unfold prod
  rw [dif_pos (show 256 * t.val + r.val < 16384 by omega)]
  pointwise [k0_pay2]
  blk_point [iblk, V, maps t]

/-- What a grid point leaves in the scratch. -/
theorem kept (c : Dev nD) (t : Fin cfg0.N) (q : Fin 8) (j : Fin 2048) :
    (outsAt0 m c t.val t.isLt).2 (ix2 q j) = prod (H m c) (256 * t.val + (248 + q.val)) j := by
  have e : k0_pay9 (k0_pay2 (iblk m c 1 t) (iblk m c 2 t)) (ix2 q j) = prod (H m c) (256 * t.val + (248 + q.val)) j := by
    rw [← prod_blk m c t ⟨248 + q.val, by omega⟩ j]
    generalize k0_pay2 (iblk m c 1 t) (iblk m c 2 t) = x
    pointwise [k0_pay9]
  by_cases h0 : t.val % 16 = 0
  · rw [outsAt0_A m c t h0]
    frame_out
    exact e
  · rw [outsAt0_B m c t h0]
    frame_out
    exact e

theorem picked {α : Type} (a b : ℕ) (ha : a < 2 ^ 32) (hb : b < 2 ^ 32) (x y : α) :
    Scalar.select (IntOp.cmpi .eq (BitVec.ofNat 32 a) (BitVec.ofNat 32 b)) x y = if a = b then x else y := by
  unfold Scalar.select
  exact if_congr (WordCmp.cmpi_eq_ofNat_eq_one_iff ha hb) rfl rfl

/-- The row before, from the block and the scratch. -/
theorem before_one (h : FVec Ideal S16384x8192 .bf16) (n r : ℕ) (hn : n < 64) (hr : r < 256) (j : Fin 2048) (s7 b : EReal)
    (hs : s7 = if n % 16 = 0 then 0 else prod h (256 * (n - 1) + (248 + 7)) j)
    (hb : b = prod h (256 * n + (r + 256 - 1) % 256) j) :
    Scalar.select (IntOp.cmpi .eq (BitVec.ofNat 32 r) 0#32) s7 b = back h 1 (256 * n + r) j := by
  rw [picked r 0 (by omega) (by omega), hs, hb]
  unfold back
  by_cases h0 : r = 0
  · rw [if_pos h0]
    refine if_ctx_congr (by omega) (fun _ => rfl) fun _ => ?_
    exact congrArg (fun i => prod h i j) (by omega)
  · rw [if_neg h0, if_neg (by omega)]
    exact congrArg (fun i => prod h i j) (by omega)

/-- The row two before, from the block and the scratch. -/
theorem before_two (h : FVec Ideal S16384x8192 .bf16) (n r : ℕ) (hn : n < 64) (hr : r < 256) (j : Fin 2048) (s6 s7 b : EReal)
    (hs6 : s6 = if n % 16 = 0 then 0 else prod h (256 * (n - 1) + (248 + 6)) j)
    (hs7 : s7 = if n % 16 = 0 then 0 else prod h (256 * (n - 1) + (248 + 7)) j)
    (hb : b = prod h (256 * n + (r + 256 - 2) % 256) j) :
    Scalar.select (IntOp.cmpi .eq (BitVec.ofNat 32 r) 0#32) s6
      (Scalar.select (IntOp.cmpi .eq (BitVec.ofNat 32 r) 1#32) s7 b) = back h 2 (256 * n + r) j := by
  rw [picked r 0 (by omega) (by omega), picked r 1 (by omega) (by omega), hs6, hs7, hb]
  unfold back
  by_cases h0 : r = 0
  · rw [if_pos h0]
    refine if_ctx_congr (by omega) (fun _ => rfl) fun _ => ?_
    exact congrArg (fun i => prod h i j) (by omega)
  · rw [if_neg h0]
    by_cases h1 : r = 1
    · rw [if_pos h1]
      refine if_ctx_congr (by omega) (fun _ => rfl) fun _ => ?_
      exact congrArg (fun i => prod h i j) (by omega)
    · rw [if_neg h1, if_neg (by omega)]
      exact congrArg (fun i => prod h i j) (by omega)

/-- The payload at an index, from the products, the scratch and the blocks. -/
theorem payload (x0 x1 x2 x3 : FVec Ideal S256x2048 .bf16) (w : FVec Ideal S3x2048 .f32) (b : FVec Ideal S1x2048 .f32)
    (s : FVec Ideal S8x2048 .f32) (y : S256x2048.Idx) :
    k0_pay10 (k0_pay2 x1 x2) (k0_pay3 x1 x2 s) k0_pay4 (k0_pay5 s) (k0_pay6 x1 x2) k0_pay7 (k0_pay8 s) w b x0 x3 y
      = (x0 y : EReal) * ((w (ix2 0 (y 1)) : EReal) * Scalar.select (IntOp.cmpi .eq (BitVec.ofNat 32 (y 0).val) 0#32) (s (ix2 6 (y 1)))
            (Scalar.select (IntOp.cmpi .eq (BitVec.ofNat 32 (y 0).val) 1#32) (s (ix2 7 (y 1)))
              (k0_pay2 (F := Ideal) x1 x2 (ix2 ⟨((y 0).val + 256 - 2) % 256, Nat.mod_lt _ (by decide)⟩ (y 1))))
          + (w (ix2 1 (y 1)) : EReal) * Scalar.select (IntOp.cmpi .eq (BitVec.ofNat 32 (y 0).val) 0#32) (s (ix2 7 (y 1)))
            (k0_pay2 (F := Ideal) x1 x2 (ix2 ⟨((y 0).val + 256 - 1) % 256, Nat.mod_lt _ (by decide)⟩ (y 1)))
          + (w (ix2 2 (y 1)) : EReal) * (k0_pay2 (F := Ideal) x1 x2 (ix2 (y 0) (y 1)) : EReal) + (b (ix2 0 (y 1)) : EReal)) * gated (x3 y) := by
  unfold gated k0_pay3 k0_pay6
  generalize k0_pay2 (F := Ideal) x1 x2 = x
  pointwise [k0_pay10, k0_pay4, k0_pay5, k0_pay7, k0_pay8]
  rw [zero_sub]

theorem blk_b (c : Dev nD) (t : Fin cfg0.N) (y : S256x2048.Idx) (r : Fin 16384) (j : Fin 8192) (hr : r.val = 256 * t.val + (y 0).val)
    (hj : j.val = (y 1).val) : iblk m c 0 t y = H m c (ix2 r j) := by
  blk_point [iblk, V, maps t, hr, hj]

theorem blk_g (c : Dev nD) (t : Fin cfg0.N) (y : S256x2048.Idx) (r : Fin 16384) (j : Fin 8192) (hr : r.val = 256 * t.val + (y 0).val)
    (hj : j.val = 6144 + (y 1).val) : iblk m c 3 t y = H m c (ix2 r j) := by
  blk_point [iblk, V, maps t, hr, hj]

theorem blk_w (c : Dev nD) (t : Fin cfg0.N) (k : Fin 3) (j : Fin 2048) :
    iblk m c 4 t (ix2 k j) = (m ((c : Thread nD τ).loc main_arg1) : FVec Ideal S3x2048 .f32) (ix2 k j) := by
  blk_point [iblk, V, maps t]

theorem blk_bias (c : Dev nD) (t : Fin cfg0.N) (j : Fin 2048) :
    iblk m c 5 t (ix2 0 j) = (m ((c : Thread nD τ).loc main_arg2) : FVec Ideal Cert.ConvRefIdeal.S2048 .f32) (ix1 j) := by
  blk_point [iblk, V, maps t]

/-- What a grid point stores, from the scratch it reads. -/
theorem stored (c : Dev nD) (t : Fin cfg0.N) (s : FVec Ideal S8x2048 .f32)
    (hs : ∀ (q : Fin 8) (j : Fin 2048), s (ix2 q j) = if t.val % 16 = 0 then 0 else prod (H m c) (256 * (t.val - 1) + (248 + q.val)) j)
    (y : S256x2048.Idx) :
    k0_pay10 (k0_pay2 (iblk m c 1 t) (iblk m c 2 t)) (k0_pay3 (iblk m c 1 t) (iblk m c 2 t) s) k0_pay4 (k0_pay5 s)
        (k0_pay6 (iblk m c 1 t) (iblk m c 2 t)) k0_pay7 (k0_pay8 s) (iblk m c 4 t) (iblk m c 5 t) (iblk m c 0 t) (iblk m c 3 t) y
      = target (H m c) (m ((c : Thread nD τ).loc main_arg1)) (m ((c : Thread nD τ).loc main_arg2))
          (((cfg0.win 6).blk t).view.emb y) := by
  have ht := point_lt t
  have y0 : (y 0).val < 256 := (y 0).isLt
  have y1 : (y 1).val < 2048 := (y 1).isLt
  have e : ((cfg0.win 6).blk t).view.emb y = (ix2 ⟨256 * t.val + (y 0).val, by omega⟩ (y 1) : S16384x2048.Idx) := by
    blk_ext [maps t]
  refine (payload _ _ _ _ _ _ s y).trans ((?_ : _ = _).trans (congrArg _ e.symm))
  have e1 := before_one (H m c) t.val (y 0).val ht y0 (y 1) _ _ (hs 7 (y 1))
    (prod_blk m c t ⟨((y 0).val + 256 - 1) % 256, Nat.mod_lt _ (by decide)⟩ (y 1))
  have e2 := before_two (H m c) t.val (y 0).val ht y0 (y 1) _ _ _ (hs 6 (y 1)) (hs 7 (y 1))
    (prod_blk m c t ⟨((y 0).val + 256 - 2) % 256, Nat.mod_lt _ (by decide)⟩ (y 1))
  have e0 : prod (H m c) (256 * t.val + (y 0).val) (y 1) = back (H m c) 0 (256 * t.val + (y 0).val) (y 1) := rfl
  exact congrArg₂ (· * ·)
    (congrArg₂ (· * ·) (blk_b m c t y ⟨256 * t.val + (y 0).val, by omega⟩ ⟨(y 1).val, by omega⟩ rfl rfl)
      (congrArg₂ (· + ·) (congrArg₂ (· + ·) (congrArg₂ (· + ·) (congrArg₂ (· * ·) (blk_w m c t 0 (y 1)) e2)
        (congrArg₂ (· * ·) (blk_w m c t 1 (y 1)) e1)) (congrArg₂ (· * ·) (blk_w m c t 2 (y 1)) ((prod_blk m c t (y 0) (y 1)).trans e0)))
        (blk_bias m c t (y 1))))
    (congrArg gated (blk_g m c t y ⟨256 * t.val + (y 0).val, by omega⟩ ⟨6144 + (y 1).val, by omega⟩ rfl rfl))

/-- What the output block holds after grid point `t`. -/
theorem left (c : Dev nD) (t : Fin cfg0.N) (y : S256x2048.Idx) :
    (outsAt0 m c t.val t.isLt).1 y
      = target (H m c) (m ((c : Thread nD τ).loc main_arg1)) (m ((c : Thread nD τ).loc main_arg2))
          (((cfg0.win 6).blk t).view.emb y) := by
  by_cases h0 : t.val % 16 = 0
  · rw [outsAt0_A m c t h0]
    frame_out
    refine stored m c t _ (fun q j => ?_) y
    rw [if_pos h0]
    pointwise [k0_pay1]
  · have hp := kept m c ⟨t.val - 1, Nat.lt_of_le_of_lt (Nat.sub_le _ _) t.isLt⟩
    rw [outsAt0_B m c t h0]
    frame_out
    refine stored m c t _ (fun q j => ?_) y
    rw [if_neg h0, ← hp q j]
    exact congrFun (Memref.IsWhole.read_unread _ _) _

/-- The result array after the whole grid. -/
theorem result (c : Dev nD) : (dats m 0 c).arrAt 6 cfg0.N
    = target (H m c) (m ((c : Thread nD τ).loc main_arg1)) (m ((c : Thread nD τ).loc main_arg2)) := by
  refine (dats m 0 c).arrAt_eq_of_covers 6 _ (by decide +kernel) fun t _ y => ?_
  blk_simp
  rw [after0_6]
  exact left m c t y

end Cert.ConvIdeal.Calc

end
-- ==== Proof.Stick.lean ====
module

public import proofs.«01_k».proof.Proof.Online

/-! Stick-breaking weights over the extended reals: the logs of the weights of a row, their sums over the later keys, and the
weighted sum of the values gathered block by block from the last block to the first. -/

@[expose] public section

noncomputable section

namespace Cert.Stick

open Idealize.ShloMosaic Finset
open Cert.Online (Finite)

/-- The factor of the scores. -/
def scale : EReal := Ideal.ofBits .f32 0x3DB504F3#32

theorem scale_finite : Finite scale := by
  unfold scale
  simp only [Ideal.ofBits, Ideal.ieee]
  norm_num
  exact ⟨EReal.coe_ne_bot _, EReal.coe_ne_top _⟩

/-- A scaled sum of products of real numbers is a real number. -/
theorem scaled_finite {n : ℕ} (f g : Fin n → EReal) (hf : ∀ d, Finite (f d)) (hg : ∀ d, Finite (g d)) :
    Finite ((∑ d, f d * g d) * scale) := by
  have h := Cert.Online.finite_sum_mul f g hf hg
  have hs := scale_finite
  generalize (∑ d, f d * g d) = a at h
  generalize scale = b at hs
  lift a to ℝ using ⟨h.2, h.1⟩
  lift b to ℝ using ⟨hs.2, hs.1⟩
  rw [← EReal.coe_mul]
  exact ⟨EReal.coe_ne_bot _, EReal.coe_ne_top _⟩

/-- The log of the sigmoid, as the kernel forms it. -/
def lb (z : EReal) : EReal := min z 0 - Ideal.log1p (Ideal.exp (0 - max z (-z)))

/-- The log of the sigmoid as the reference forms it from the negated argument. -/
def lbRef (w : EReal) : EReal := -(max w 0 + Ideal.log1p (Ideal.exp (-(max (w - 0) (-(w - 0))))))

theorem log1p_exp (x : ℝ) : Ideal.log1p (Ideal.exp (x : EReal)) = ((Real.log (1 + Real.exp x) : ℝ) : EReal) := by
  have h : ¬ (1 + Real.exp x) ≤ 0 := by have := Real.exp_pos x; linarith
  show Ideal.log (((1 : ℝ) : EReal) + (Real.exp x : EReal)) = _
  rw [← EReal.coe_add]
  exact if_neg h

theorem coe_max (a b : ℝ) : max (a : EReal) (b : EReal) = ((max a b : ℝ) : EReal) :=
  (EReal.coe_strictMono.monotone.map_max).symm
theorem coe_min (a b : ℝ) : min (a : EReal) (b : EReal) = ((min a b : ℝ) : EReal) :=
  (EReal.coe_strictMono.monotone.map_min).symm

theorem lb_coe (z : ℝ) : lb (z : EReal) = ((min z 0 - Real.log (1 + Real.exp (-|z|)) : ℝ) : EReal) := by
  unfold lb
  rw [← EReal.coe_zero, ← EReal.coe_neg, coe_max, coe_min, ← EReal.coe_sub, log1p_exp, ← EReal.coe_sub, zero_sub]
  rfl

theorem lbRef_coe (w : ℝ) : lbRef (w : EReal) = ((-(max w 0 + Real.log (1 + Real.exp (-|w|))) : ℝ) : EReal) := by
  unfold lbRef
  rw [← EReal.coe_zero, ← EReal.coe_sub, ← EReal.coe_neg, coe_max, coe_max, ← EReal.coe_neg, log1p_exp, ← EReal.coe_add, ← EReal.coe_neg,
    sub_zero]
  rfl

theorem lb_finite {z : EReal} (h : Finite z) : Finite (lb z) := by
  lift z to ℝ using ⟨h.2, h.1⟩
  rw [lb_coe]
  exact ⟨EReal.coe_ne_bot _, EReal.coe_ne_top _⟩

theorem finite_sub {x y : EReal} (hx : Finite x) (hy : Finite y) : Finite (x - y) := by
  lift x to ℝ using ⟨hx.2, hx.1⟩
  lift y to ℝ using ⟨hy.2, hy.1⟩
  rw [← EReal.coe_sub]
  exact ⟨EReal.coe_ne_bot _, EReal.coe_ne_top _⟩

/-- The log of the weight, both ways. -/
theorem lbRef_neg {z : EReal} (h : Finite z) : lbRef (-z) = lb z := by
  lift z to ℝ using ⟨h.2, h.1⟩
  rw [← EReal.coe_neg, lbRef_coe, lb_coe, abs_neg]
  congr 1
  rcases le_total z 0 with hz | hz
  · rw [max_eq_left (by linarith), min_eq_left hz]; ring
  · rw [max_eq_right (by linarith), min_eq_right hz]; ring

/-- The log of what the weight leaves over, both ways. -/
theorem lbRef_pos {z : EReal} (h : Finite z) : lbRef (- -z) = lb z - z := by
  lift z to ℝ using ⟨h.2, h.1⟩
  rw [neg_neg, lbRef_coe, lb_coe, ← EReal.coe_sub]
  congr 1
  rcases le_total z 0 with hz | hz
  · rw [max_eq_right hz, min_eq_left hz]; ring
  · rw [max_eq_left hz, min_eq_right hz]; ring

/-- The log of what key `x` leaves over for the keys before it, nothing from row `r` on. -/
def left (r : ℕ) (z : ℕ → EReal) (x : ℕ) : EReal := if x < r then lb (z x) - z x else 0

/-- The logs of the later keys together. -/
def after (r : ℕ) (z : ℕ → EReal) (x : ℕ) : EReal := ∑ j ∈ Ico (x + 1) 4096, left r z j

/-- The weight of key `x` in row `r`. -/
def weight (r : ℕ) (z : ℕ → EReal) (x : ℕ) : EReal := if x < r then Ideal.exp (lb (z x) + after r z x) else 0

/-- The weighted sum of the values. -/
def attend (r : ℕ) (z v : ℕ → EReal) : EReal := ∑ x ∈ range 4096, weight r z x * v x

theorem left_finite (r : ℕ) (z : ℕ → EReal) (x : ℕ) (h : Finite (z x)) : Finite (left r z x) := by
  unfold left
  split
  · exact finite_sub (lb_finite h) h
  · exact ⟨EReal.zero_ne_bot, EReal.zero_ne_top⟩

/-- A sum over a block is a sum over its keys. -/
theorem sum_block (f : ℕ → EReal) (n w : ℕ) : ∑ k : Fin w, f (n + k.val) = ∑ x ∈ Ico n (n + w), f x := by
  rw [sum_Ico_eq_sum_range, Nat.add_sub_cancel_left, Finset.sum_range]

/-- The later keys of a block. -/
theorem sum_later (f : ℕ → EReal) (n w k : ℕ) (hk : k < w) :
    ∑ j : Fin w, f (n + j.val) * (if k < j.val then 1 else 0) = ∑ x ∈ Ico (n + k + 1) (n + w), f x := by
  have h := sum_block (fun x => f x * if n + k < x then 1 else 0) n w
  simp only [Nat.add_lt_add_iff_left] at h
  rw [h, ← sum_Ico_consecutive _ (show n ≤ n + k + 1 by omega) (show n + k + 1 ≤ n + w by omega)]
  rw [sum_eq_zero, zero_add]
  · refine sum_congr rfl fun x hx => ?_
    rw [if_pos (by have := mem_Ico.mp hx; omega), mul_one]
  · intro x hx
    rw [if_neg (by have := mem_Ico.mp hx; omega), mul_zero]

/-- From row `r` on nothing is left to add. -/
theorem after_eq (r : ℕ) (z : ℕ → EReal) (x N : ℕ) (hN : N ≤ 4096) (hr : r ≤ N) (hx : x + 1 ≤ N) :
    after r z x = ∑ j ∈ Ico (x + 1) N, left r z j := by
  unfold after
  rw [← sum_Ico_consecutive _ hx hN, sum_eq_zero (s := Ico N 4096), add_zero]
  exact fun j hj => if_neg (by have := mem_Ico.mp hj; omega)

theorem attend_eq (r : ℕ) (z v : ℕ → EReal) (N : ℕ) (hN : N ≤ 4096) (hr : r ≤ N) :
    attend r z v = ∑ x ∈ Ico 0 N, weight r z x * v x := by
  unfold attend
  rw [range_eq_Ico, ← sum_Ico_consecutive _ (Nat.zero_le N) hN, sum_eq_zero (s := Ico N 4096), add_zero]
  intro j hj
  unfold weight
  rw [if_neg (by have := mem_Ico.mp hj; omega), zero_mul]

/-- The exponent of a key: its own log, the later keys of its block, and the later blocks. -/
theorem exponent (r : ℕ) (z : ℕ → EReal) (n N k : ℕ) (hk : k < 256) (hN : N ≤ 4096) (hr : r ≤ N) (hn : n + 256 ≤ N) :
    lb (z (n + k)) + (∑ j : Fin 256, left r z (n + j.val) * (if k < j.val then 1 else 0)) + ∑ j ∈ Ico (n + 256) N, left r z j
      = lb (z (n + k)) + after r z (n + k) := by
  rw [sum_later _ n 256 k hk, after_eq r z (n + k) N hN hr (by omega), add_assoc, sum_Ico_consecutive _ (by omega) hn]

/-- Taking the own log away from the sum from a key on leaves the later ones. -/
theorem sum_sub_own (f : ℕ → EReal) (x N : ℕ) (hx : x < N) (h : Finite (f x)) :
    (∑ j ∈ Ico x N, f j) - f x = ∑ j ∈ Ico (x + 1) N, f j := by
  rw [Finset.sum_eq_sum_Ico_succ_bot hx]
  generalize f x = a at h ⊢
  lift a to ℝ using ⟨h.2, h.1⟩
  exact EReal.add_sub_cancel_left
end Cert.Stick

end
-- ==== Proof.SbBlock.lean ====
module

public import proofs.«01_k».proof.Proof.SbIdealBody
public import proofs.«01_k».proof.Proof.Stick
public import Idealize.ShloMosaic.Lib.Pipeline.ValueKit
public import Idealize.ShloMosaic.Lib.Pointwise
public import Idealize.ShloMosaic.Lib.IdealHost
public import Idealize.ShloMosaic.Lib.WordCmp

/-! The value of one row block of the stick-breaking kernel: the loop adds the key blocks' weighted values from the block of the
rows downwards, and the block stored is the row's weighted sum times the gate. -/

@[expose] public section

set_option maxRecDepth 16384

noncomputable section

namespace Cert.SbIdeal.Calc

open Cert.SbIdeal Cert.SbIdeal.Gen Cert.SbIdeal.Body Idealize.ShloMosaic Idealize.ShloMosaic.TcCoe Idealize.SL.Sem
open Cert.Online (ext ext_lt ext_val gated Finite)
open Cert.Stick Finset

/-- The score of a row of the block against a key. -/
def score (x0 : Vec Ideal S256x128 .bf16) (x1 : Vec Ideal S4096x128 .bf16) (r : Fin 256) : ℕ → EReal :=
  ext 0 fun x : Fin 4096 => (∑ d : Fin 128, x0 (ix2 r d) * x1 (ix2 x d)) * scale

/-- A column of the values. -/
def column (x2 : Vec Ideal S4096x128 .bf16) (d : Fin 128) : ℕ → EReal := ext 0 fun x : Fin 4096 => x2 (ix2 x d)

variable (i : grid0.Coords) (x0 : Vec Ideal S256x128 .bf16) (x1 x2 : Vec Ideal S4096x128 .bf16)

theorem rows_apply (x : Vec Ideal S4096x128 .bf16) (n : ℕ) (hn : n < 16) (k : Fin 256) (d : Fin 128) :
    rows x n (ix2 k d) = x (ix2 ⟨256 * n + k.val, by omega⟩ d) := by
  rw [rows_eq x n (chk n hn)]
  have ho : ∀ n < 16, k0_off1 (BitVec.ofNat 32 n) = ![256 * n, 0] := by decide +kernel
  have h := ho n hn
  refine congrArg x ?_
  funext a
  refine Fin.ext ?_
  show k0_off1 (BitVec.ofNat 32 n) a + 1 * (ix2 k d a).val = _
  rw [h]
  fin_cases a
  · show 256 * n + 1 * k.val = 256 * n + k.val
    omega
  · show 0 + 1 * d.val = d.val
    omega

/-- A block of scores. -/
theorem score_block (n : ℕ) (hn : n < 16) (r k : Fin 256) :
    k0_pay10 x0 (rows x1 n) (ix2 r k) = score x0 x1 r (256 * n + k.val) := by
  have hk := k.isLt
  unfold score
  rw [ext_lt _ _ (show 256 * n + k.val < 4096 by omega)]
  pointwise [k0_pay10]
  exact congrArg (· * scale) (Finset.sum_congr rfl fun d _ => congrArg (x0 (ix2 r d) * ·) (rows_apply x1 n hn k d))

/-- The comparison of keys and rows, from their words. -/
theorem before_words (w : BitVec 32) (y : S256x256.Idx) (a b : BitVec 32) (ha : cols y = a)
    (hb : iota .tc S256x256 32 [0] iota_S256x256_d0_w32 y = b) :
    k0_pay11 cols (k0_pay8 i) w y
      = IntOp.cmpi .slt (a + w * 256#32) (BitVec.ofNat 32 (i 2).val * 256#32 + b) := by
  rw [← ha, ← hb]
  rfl

/-- Which keys of a block come before a row. -/
theorem before_apply (n : ℕ) (hn : n < 16) (r k : Fin 256) :
    k0_pay11 cols (k0_pay8 i) (BitVec.ofNat 32 n) (ix2 r k) = 1#1 ↔ 256 * n + k.val < 256 * (i 2).val + r.val := by
  have hi : (i 2).val < 16 := (i 2).isLt
  have hm : ∀ n < 16, BitVec.ofNat 32 n * 256#32 = BitVec.ofNat 32 (256 * n) := by decide +kernel
  rw [before_words i _ _ (BitVec.ofNat 32 k.val) (BitVec.ofNat 32 r.val) (by simp [iota]) (by simp [iota]), hm n hn, hm _ hi,
    ← BitVec.ofNat_add, ← BitVec.ofNat_add, Nat.add_comm k.val]
  exact WordCmp.cmpi_slt_ofNat_eq_one_iff (by omega) (by omega)

/-- The comparison of the keys of a block, from their words. -/
theorem later_words (y : S256x256.Idx) (a b : BitVec 32) (ha : iota .tc S256x256 32 [0] iota_S256x256_d0_w32 y = a)
    (hb : iota .tc S256x256 32 [1] iota_S256x256_d1_w32 y = b) :
    (k0_pay7 (F := Ideal)) y = (((IntOp.cmpi .sgt a b).setWidth 32).toInt : ℝ) := by
  rw [← ha, ← hb]
  rfl

/-- Which keys of a block come after a key of it. -/
theorem later_apply (j k : Fin 256) : (k0_pay7 (F := Ideal)) (ix2 j k) = if k.val < j.val then 1 else 0 := by
  rw [later_words _ (BitVec.ofNat 32 j.val) (BitVec.ofNat 32 k.val) (by simp [iota]) (by simp [iota]),
    WordCmp.cmpi_sgt_ofNat (by omega) (by omega)]
  by_cases h : k.val < j.val
  · simp [h]
  · simp [h]

theorem own_block (n : ℕ) (hn : n < 16) (r k : Fin 256) :
    k0_pay12 x0 (rows x1 n) (ix2 r k) = lb (score x0 x1 r (256 * n + k.val)) := by
  rw [← score_block x0 x1 n hn r k]
  unfold lb
  pointwise [k0_pay12]
  rfl

theorem logs_block (n : ℕ) (hn : n < 16) (r k : Fin 256) :
    logs i x0 x1 n (ix2 r k) = left (256 * (i 2).val + r.val) (score x0 x1 r) (256 * n + k.val) := by
  have hm := before_apply i n hn r k
  unfold left
  rw [← own_block x0 x1 n hn r k, ← score_block x0 x1 n hn r k]
  show (if k0_pay11 cols (k0_pay8 i) (BitVec.ofNat 32 n) (ix2 r k) = 1#1 then _ else Ideal.ofBits .f32 0x00000000#32) = _
  simp only [hm]
  split
  · rfl
  · simp [Ideal.ofBits, Ideal.ieee]

theorem sumR_apply (L : FVec Ideal S256x256 .f32) (R : Vec Ideal S256x1 .f32) (y : S256x1.Idx) :
    k0_pay3 L R y = R y + ∑ k : Fin 256, L (ix2 (y 0) k) := by
  pointwise [k0_pay3, k0_pay2]

theorem stepA_apply (n : ℕ) (R : Vec Ideal S256x1 .f32) (A : Vec Ideal S256x128 .f32) (y : S256x128.Idx) :
    stepA i x0 x1 x2 n R A y = A y + ∑ k : Fin 256,
      (if k0_pay11 cols (k0_pay8 i) (BitVec.ofNat 32 n) (ix2 (y 0) k) = 1#1 then
        Ideal.exp (k0_pay12 x0 (rows x1 n) (ix2 (y 0) k)
          + ((∑ j : Fin 256, logs i x0 x1 n (ix2 (y 0) j) * (k0_pay7 (F := Ideal)) (ix2 j k))
            + ∑ j : Fin 256, (logs i x0 x1 n (ix2 (y 0) j) - logs i x0 x1 n (ix2 (y 0) j)) * (k0_pay7 (F := Ideal)) (ix2 j k))
          + R (ix2 (y 0) 0)) * rows x2 n (ix2 k (y 1)) else 0) := by
  unfold stepA
  pointwise [k0_pay1, k0_pay14]
  rfl

/-- The loop never ends early: nothing is below minus infinity. -/
theorem goes_on (x : EReal) : (Scalar.cmpf (F := Ideal) (φ := .f32) .oge x (Named.named κ "log_zero" 0xC2D00000#32)) = 1#1 := by
  have h : (Named.named (F := Ideal) (φ := .f32) κ "log_zero" 0xC2D00000#32) = (⊥ : EReal) := rfl
  rw [h]
  simp [Ideal.cmp]

section Row

variable (hs : ∀ (r : Fin 256) (x : ℕ), x < 4096 → Finite (score x0 x1 r x))

/-- One key block's logs extend the sum of the later blocks' downwards. -/
theorem sumR_step (n N : ℕ) (hn : n < 16) (hN : 256 * (n + 1) ≤ N) (R : Vec Ideal S256x1 .f32) (y : S256x1.Idx)
    (hR : R y = ∑ j ∈ Ico (256 * (n + 1)) N, left (256 * (i 2).val + (y 0).val) (score x0 x1 (y 0)) j) :
    k0_pay3 (logs i x0 x1 n) R y = ∑ j ∈ Ico (256 * n) N, left (256 * (i 2).val + (y 0).val) (score x0 x1 (y 0)) j := by
  rw [sumR_apply, hR, ← sum_Ico_consecutive _ (show 256 * n ≤ 256 * (n + 1) by omega) hN, add_comm]
  refine congrArg (· + _) ?_
  rw [Nat.mul_succ, ← sum_block]
  exact Finset.sum_congr rfl fun k _ => logs_block i x0 x1 n hn (y 0) k

include hs in
/-- One key block extends the weighted sum downwards. -/
theorem stepA_step (n : ℕ) (hn : n ≤ (i 2).val) (R : Vec Ideal S256x1 .f32) (A : Vec Ideal S256x128 .f32) (y : S256x128.Idx)
    (hR : R (ix2 (y 0) 0) = ∑ j ∈ Ico (256 * (n + 1)) (256 * ((i 2).val + 1)),
      left (256 * (i 2).val + (y 0).val) (score x0 x1 (y 0)) j)
    (hA : A y = ∑ x ∈ Ico (256 * (n + 1)) (256 * ((i 2).val + 1)),
      weight (256 * (i 2).val + (y 0).val) (score x0 x1 (y 0)) x * column x2 (y 1) x) :
    stepA i x0 x1 x2 n R A y = ∑ x ∈ Ico (256 * n) (256 * ((i 2).val + 1)),
      weight (256 * (i 2).val + (y 0).val) (score x0 x1 (y 0)) x * column x2 (y 1) x := by
  have hi : (i 2).val < 16 := (i 2).isLt
  have hy : (y 0).val < 256 := (y 0).isLt
  have hn' : n < 16 := by omega
  rw [stepA_apply, hA, ← sum_Ico_consecutive _ (show 256 * n ≤ 256 * (n + 1) by omega)
    (show 256 * (n + 1) ≤ 256 * ((i 2).val + 1) by omega), add_comm]
  refine congrArg (· + _) ?_
  rw [Nat.mul_succ, ← sum_block]
  refine Finset.sum_congr rfl fun k _ => ?_
  have hk := k.isLt
  have hzero : ∑ j : Fin 256, (logs i x0 x1 n (ix2 (y 0) j) - logs i x0 x1 n (ix2 (y 0) j)) * (k0_pay7 (F := Ideal)) (ix2 j k) = 0 := by
    refine Finset.sum_eq_zero fun j _ => ?_
    have hj := j.isLt
    have hf := left_finite (256 * (i 2).val + (y 0).val) (score x0 x1 (y 0)) _ (hs (y 0) (256 * n + j.val) (by omega))
    rw [logs_block i x0 x1 n hn' (y 0) j, EReal.sub_self hf.2 hf.1, zero_mul]
  have hlater : ∑ j : Fin 256, logs i x0 x1 n (ix2 (y 0) j) * (k0_pay7 (F := Ideal)) (ix2 j k)
      = ∑ j : Fin 256, left (256 * (i 2).val + (y 0).val) (score x0 x1 (y 0)) (256 * n + j.val) * (if k.val < j.val then 1 else 0) :=
    Finset.sum_congr rfl fun j _ => congrArg₂ (· * ·) (logs_block i x0 x1 n hn' (y 0) j) (later_apply j k)
  have hcol : rows x2 n (ix2 k (y 1)) = column x2 (y 1) (256 * n + k.val) := by
    unfold column
    rw [ext_lt _ _ (show 256 * n + k.val < 4096 by omega)]
    exact rows_apply x2 n hn' k (y 1)
  rw [hzero, add_zero, hlater, own_block x0 x1 n hn' (y 0) k, hR, hcol, Nat.mul_succ,
    exponent _ _ (256 * n) _ k.val hk (by omega) (by omega) (by omega)]
  unfold weight
  simp only [before_apply i n hn' (y 0) k, ite_mul, zero_mul]

include hs in
/-- What the loop computes from where it stands. -/
theorem run_eq : ∀ n ≤ (i 2).val + 1, ∀ (R : Vec Ideal S256x1 .f32) (A : Vec Ideal S256x128 .f32) (x : EReal),
    (∀ y, R y = ∑ j ∈ Ico (256 * n) (256 * ((i 2).val + 1)), left (256 * (i 2).val + (y 0).val) (score x0 x1 (y 0)) j) →
    (∀ y, A y = ∑ x ∈ Ico (256 * n) (256 * ((i 2).val + 1)),
      weight (256 * (i 2).val + (y 0).val) (score x0 x1 (y 0)) x * column x2 (y 1) x) →
    ∀ y, run (F := Ideal) i x0 x1 x2 n R A x y = attend (256 * (i 2).val + (y 0).val) (score x0 x1 (y 0)) (column x2 (y 1)) := by
  intro n
  have hi : (i 2).val < 16 := (i 2).isLt
  induction n with
  | zero =>
    intro _ R A x hR hA y
    have hy : (y 0).val < 256 := (y 0).isLt
    rw [attend_eq _ _ _ (256 * ((i 2).val + 1)) (by omega) (by omega)]
    exact hA y
  | succ n ih =>
    intro hn R A x hR hA y
    refine (congrFun (if_pos (goes_on x)) y).trans ?_
    exact ih (by omega) _ _ _ (fun y => sumR_step i x0 x1 n _ (by omega) (by omega) R y (hR y))
      (fun y => stepA_step i x0 x1 x2 hs n (by omega) R A y (hR (ix2 (y 0) 0)) (hA y)) y

include hs in
/-- What a row block's body stores, where every score is a real number. -/
theorem block_eq (x3 : Vec Ideal S256x128 .bf16) (y : S256x128.Idx) :
    block (F := Ideal) i x0 x1 x2 x3 y
      = attend (256 * (i 2).val + (y 0).val) (score x0 x1 (y 0)) (column x2 (y 1)) * gated (x3 y) := by
  unfold block
  have h := run_eq i x0 x1 x2 hs ((i 2).val + 1) le_rfl (k0_pay6 (F := Ideal)) (k0_pay5 (F := Ideal))
    (Scalar.ofBits (F := Ideal) .f32 0x00000000#32)
    (fun y => by rw [Ico_self, sum_empty]; pointwise [k0_pay6]) (fun y => by rw [Ico_self, sum_empty]; pointwise [k0_pay5]) y
  generalize run (F := Ideal) i x0 x1 x2 ((i 2).val + 1) _ _ _ = A at *
  pointwise [k0_pay9]
  rw [h, zero_sub]
  rfl

end Row

end Cert.SbIdeal.Calc

end
-- ==== Proof.SbRead.lean ====
module

public import proofs.«01_k».proof.Proof.Stick
public import proofs.«01_k».proof.Proof.Gen.SbRefIdeal.Run
public import Idealize.ShloMosaic.Lib.Pipeline.ValueKit
public import Idealize.ShloMosaic.Lib.Pointwise
public import Idealize.ShloMosaic.Lib.IdealHost
public import Idealize.ShloMosaic.Lib.ShapeFacts
public import Idealize.ShloMosaic.Lib.WordCmp

/-! The reference stick-breaking attention read at an index. -/

@[expose] public section

set_option maxRecDepth 16384

noncomputable section

namespace Cert.SbRefIdeal.Calc

open Cert.SbRefIdeal Cert.SbRefIdeal.Gen Idealize.ShloMosaic Idealize.ShloMosaic.TcCoe Idealize.SL.Sem
open Cert.Online (ext ext_lt ext_val gated Finite)
open Cert.Stick Finset

/-- The zeros the log of the sigmoid is formed with. -/
def zeros : FVec Ideal S4x16x4096x4096 .f32 := broadcastInDim S4x16x4096x4096 ![] bcast_S_S4x16x4096x4096 (constant S_ .f32 0x00000000#32)

/-- The keys before each row. -/
def strict : IVec S4x16x4096x4096 1 :=
  broadcastInDim S4x16x4096x4096 ![2, 3] bcast_S4096x4096_S4x16x4096x4096_2_3
    (cmpi .slt (broadcastInDim S4096x4096 ![0, 1] bcast_S1x4096_S4096x4096_0_1
        (broadcastInDim S1x4096 ![1] bcast_S4096_S1x4096_1 (iotaInDim S4096 32 0)))
      (broadcastInDim S4096x4096 ![0, 1] bcast_S4096x1_S4096x4096_0_1
        (broadcastInDim S4096x1 ![0] bcast_S4096_S4096x1_0 (iotaInDim S4096 32 0))))

/-- The scores of every row against every key. -/
def scores (h : FVec Ideal S16384x8192 .bf16) : FVec Ideal S4x16x4096x4096 .f32 :=
  mulf (Host.dotGeneral dot_S4x4096x16x128_S4x4096x16x128_S4x16x4096x4096_3_3_1_1_02_02 none
      (shapeCast _ (extractStridedSlice S16384x2048 ![0, 0] (extf .f32 h bitsLt_bf16_f32) slices_S16384x8192_S16384x2048_0_0)
        shapeCasts_S16384x2048_S4x4096x16x128)
      (shapeCast _ (extractStridedSlice S16384x2048 ![0, 2048] (extf .f32 h bitsLt_bf16_f32) slices_S16384x8192_S16384x2048_0_2048)
        shapeCasts_S16384x2048_S4x4096x16x128))
    (broadcastInDim S4x16x4096x4096 ![] bcast_S_S4x16x4096x4096 (constant S_ .f32 0x3DB504F3#32))

/-- The log of the sigmoid, of the negated argument. -/
def logSig (w : FVec Ideal S4x16x4096x4096 .f32) : FVec Ideal S4x16x4096x4096 .f32 :=
  Host.negf (select (cmpf .une (subf w zeros) (subf w zeros)) (addf w zeros)
    (addf (maximumf w zeros) (Host.log1p (Host.exp (Host.negf (Host.absf (subf w zeros)))))))

/-- The logs each key leaves over. -/
def lefts (z : FVec Ideal S4x16x4096x4096 .f32) : FVec Ideal S4x16x4096x4096 .f32 :=
  select strict (logSig (Host.negf (Host.negf z))) zeros

/-- The sums from each key on. -/
def cum (x : FVec Ideal S4x16x4096x4096 .f32) : FVec Ideal S4x16x4096x4096 .f32 :=
  Host.reduceWindowAdd ![1, 1, 1, 4096] ![1, 1, 1, 1] ![0, 0, 0, 0] ![0, 0, 0, 4095] x
    (broadcastInDim S_ ![] bcast_S_S_ (constant S_ .f32 0x00000000#32))
    reduceWindows_S4x16x4096x4096_S4x16x4096x4096_w1s1p0_0_w1s1p0_0_w1s1p0_0_w4096s1p0_4095 h_S_

/-- The weights. -/
def weights (z : FVec Ideal S4x16x4096x4096 .f32) : FVec Ideal S4x16x4096x4096 .f32 :=
  select strict (Host.exp (addf (logSig (Host.negf z)) (subf (cum (lefts z)) (lefts z)))) zeros

/-- The weighted sums of the values, back in rows. -/
def mixed (p : FVec Ideal S4x16x4096x4096 .f32) (h : FVec Ideal S16384x8192 .bf16) : FVec Ideal S16384x2048 .f32 :=
  shapeCast _ (transpose S4x4096x16x128 [0, 3, 1, 2]
    (Host.dotGeneral dot_S4x4096x16x128_S4x16x4096x4096_S4x16x128x4096_1_3_3_2_02_01 none
      (shapeCast _ (extractStridedSlice S16384x2048 ![0, 4096] (extf .f32 h bitsLt_bf16_f32) slices_S16384x8192_S16384x2048_0_4096)
        shapeCasts_S16384x2048_S4x4096x16x128) p)
    transposes_S4x16x128x4096_S4x4096x16x128_0_3_1_2) shapeCasts_S4x4096x16x128_S16384x2048

/-- The gate of each entry. -/
def gate (h : FVec Ideal S16384x8192 .bf16) : FVec Ideal S16384x2048 .f32 :=
  mulf (extractStridedSlice S16384x2048 ![0, 6144] (extf .f32 h bitsLt_bf16_f32) slices_S16384x8192_S16384x2048_0_6144)
    (Host.divf (broadcastInDim S16384x2048 ![] bcast_S_S16384x2048 (constant S_ .f32 0x3F800000#32))
      (addf (broadcastInDim S16384x2048 ![] bcast_S_S16384x2048 (constant S_ .f32 0x3F800000#32))
        (Host.exp (Host.negf (extractStridedSlice S16384x2048 ![0, 6144] (extf .f32 h bitsLt_bf16_f32) slices_S16384x8192_S16384x2048_0_6144)))))

variable (m : (ℓ : Loc nD τ sig) → Buf (Elt Ideal) ℓ)

theorem res_eq (c : Dev nD) : Value.res_main_v32 m c
    = truncf .bf16 (mulf (mixed (weights (scores (m ((c.tc : Thread nD τ).loc main_arg0)))) (m ((c.tc : Thread nD τ).loc main_arg0)))
        (gate (m ((c.tc : Thread nD τ).loc main_arg0)))) bitsLt_bf16_f32 := rfl

theorem strict_apply (b : Fin 4) (h : Fin 16) (r x : Fin 4096) : strict (ix4 b h r x) = 1#1 ↔ x.val < r.val := by
  have e : strict (ix4 b h r x) = IntOp.cmpi .slt (BitVec.ofNat 32 x.val) (BitVec.ofNat 32 r.val) := by
    pointwise [strict]
  rw [e]
  exact WordCmp.cmpi_slt_ofNat_eq_one_iff (by omega) (by omega)

theorem logSig_apply (w : FVec Ideal S4x16x4096x4096 .f32) (y : S4x16x4096x4096.Idx) : logSig w y = lbRef (w y) := by
  have hc : ∀ d : EReal, Ideal.cmp .une d d ≠ 1#1 := fun d => by simp [Ideal.cmp]
  have hz : zeros y = 0 := by pointwise [zeros]
  show -(if Ideal.cmp .une (w y - zeros y) (w y - zeros y) = 1#1 then w y + zeros y
    else max (w y) (zeros y) + Ideal.log1p (Ideal.exp (-(max (w y - zeros y) (-(w y - zeros y)))))) = _
  rw [if_neg (hc _), hz]
  rfl

theorem zeros_apply (y : S4x16x4096x4096.Idx) : zeros y = 0 := by pointwise [zeros]

theorem lefts_apply (z : FVec Ideal S4x16x4096x4096 .f32) (b : Fin 4) (h : Fin 16) (r x : Fin 4096) (s : ℕ → EReal)
    (hz : z (ix4 b h r x) = s x.val) (hf : Finite (s x.val)) : lefts z (ix4 b h r x) = left r.val s x.val := by
  have e : logSig (Host.negf (Host.negf z)) (ix4 b h r x) = lb (s x.val) - s x.val := by
    rw [← lbRef_pos hf, ← hz]
    exact logSig_apply _ _
  show (if strict (ix4 b h r x) = 1#1 then logSig (Host.negf (Host.negf z)) (ix4 b h r x) else zeros (ix4 b h r x)) = _
  unfold left
  rw [e, zeros_apply]
  simp only [strict_apply]

/-- The padded window of the sums has one entry per key. -/
theorem window_at (n : Fin (⟨4, ![1, 1, 1, 4096]⟩ : Shape).numel) : ((⟨4, ![1, 1, 1, 4096]⟩ : Shape).rowMajor.symm n 3).val = n.val
    ∧ ∀ a : Fin 4, a ≠ 3 → ((⟨4, ![1, 1, 1, 4096]⟩ : Shape).rowMajor.symm n a).val = 0 := by
  have h := Shape.rowMajor_val_four ((⟨4, ![1, 1, 1, 4096]⟩ : Shape).rowMajor.symm n)
  rw [Equiv.apply_symm_apply] at h
  have hlt : ∀ a : Fin 4, ((⟨4, ![1, 1, 1, 4096]⟩ : Shape).rowMajor.symm n a).val < (![1, 1, 1, 4096] : Fin 4 → ℕ) a :=
    fun a => ((⟨4, ![1, 1, 1, 4096]⟩ : Shape).rowMajor.symm n a).isLt
  have h0 : ((⟨4, ![1, 1, 1, 4096]⟩ : Shape).rowMajor.symm n 0).val = 0 := Nat.lt_one_iff.mp (hlt 0)
  have h1 : ((⟨4, ![1, 1, 1, 4096]⟩ : Shape).rowMajor.symm n 1).val = 0 := Nat.lt_one_iff.mp (hlt 1)
  have h2 : ((⟨4, ![1, 1, 1, 4096]⟩ : Shape).rowMajor.symm n 2).val = 0 := Nat.lt_one_iff.mp (hlt 2)
  refine ⟨?_, fun a ha => ?_⟩
  · rw [h, h0, h1, h2]
    simp
  · fin_cases a
    · exact h0
    · exact h1
    · exact h2
    · exact absurd rfl ha

theorem foldl_sum (n : ℕ) (f : Fin n → EReal) : (List.finRange n).foldl (fun r i => r + f i) 0 = ∑ i, f i := by
  rw [Fin.sum_univ_def, List.sum_eq_foldl, List.foldl_map]

/-- The sum over a window is the sum from its first entry on. -/
theorem window_sum (M : ℕ) (hM : M = 4096) (k : ℕ) (hk : k < 4096) (s : ℕ → EReal) (f : Fin M → EReal)
    (hf : ∀ n : Fin M, f n = if k + n.val < 4096 then s (k + n.val) else 0) : ∑ n, f n = ∑ j ∈ Ico k 4096, s j := by
  subst hM
  simp only [hf]
  rw [sum_block (fun x => if x < 4096 then s x else 0) k 4096, ← sum_Ico_consecutive _ hk.le (show 4096 ≤ k + 4096 by omega),
    sum_eq_zero (s := Ico 4096 (k + 4096)), add_zero]
  · exact sum_congr rfl fun x hx => if_pos (mem_Ico.mp hx).2
  · exact fun x hx => if_neg (by have := mem_Ico.mp hx; omega)

/-- One entry of a window: the array's where it lies in it, and zero behind. -/
theorem entry (x : S4x16x4096x4096.Idx → EReal) (b : Fin 4) (h : Fin 16) (r : Fin 4096) (s : ℕ → EReal)
    (hx : ∀ j : Fin 4096, x (ix4 b h r j) = s j.val) (j : ℕ) (q lo : Fin 4 → ℕ) (hlo : ∀ a, lo a = 0) (h0 : q 0 = b.val) (h1 : q 1 = h.val)
    (h2 : q 2 = r.val) (h3 : q 3 = j) {_ : Decidable (∀ a, lo a ≤ q a ∧ q a - lo a < (![4, 16, 4096, 4096] : Fin 4 → ℕ) a)} :
    (if hin : ∀ a, lo a ≤ q a ∧ q a - lo a < (![4, 16, 4096, 4096] : Fin 4 → ℕ) a then x (fun a => ⟨q a - lo a, (hin a).2⟩) else (0 : EReal))
      = if j < 4096 then s j else 0 := by
  by_cases hj : j < 4096
  · have hin : ∀ a, lo a ≤ q a ∧ q a - lo a < (![4, 16, 4096, 4096] : Fin 4 → ℕ) a := by
      intro a
      rw [hlo]
      refine ⟨Nat.zero_le _, ?_⟩
      fin_cases a
      · exact lt_of_eq_of_lt h0 b.isLt
      · exact lt_of_eq_of_lt h1 h.isLt
      · exact lt_of_eq_of_lt h2 r.isLt
      · exact lt_of_eq_of_lt h3 hj
    rw [dif_pos hin, if_pos hj, ← hx ⟨j, hj⟩]
    refine congrArg x ?_
    funext a
    refine Fin.ext ?_
    show q a - lo a = _
    rw [hlo]
    fin_cases a
    · exact h0
    · exact h1
    · exact h2
    · exact h3
  · rw [if_neg hj, dif_neg]
    intro hin
    have h4 := (hin 3).2
    rw [hlo, h3] at h4
    exact hj h4

theorem reduceWindow_apply (x : S4x16x4096x4096.Idx → EReal) (b : Fin 4) (h : Fin 16) (r k : Fin 4096) (s : ℕ → EReal)
    (hx : ∀ j : Fin 4096, x (ix4 b h r j) = s j.val)
    (hw : S4x16x4096x4096.ReduceWindows (![1, 1, 1, 4096] : Fin 4 → Nat) ![1, 1, 1, 1] ![0, 0, 0, 0] ![0, 0, 0, 4095] S4x16x4096x4096)
    (hu : 0 < (⟨0, ![]⟩ : Shape).numel) (v : EReal) (hv : v = 0) :
    Host.reduceWindow (· + ·) ![1, 1, 1, 4096] ![1, 1, 1, 1] ![0, 0, 0, 0] ![0, 0, 0, 4095] x (fun _ : (⟨0, ![]⟩ : Shape).Idx => v) hw hu
      (ix4 b h r k) = ∑ j ∈ Ico k.val 4096, s j := by
  subst hv
  unfold Host.reduceWindow
  dsimp only
  rw [foldl_sum]
  refine window_sum _ (Shape.numel_rank4 _) k.val k.isLt s _ fun n => ?_
  obtain ⟨h3, h0⟩ := window_at n
  refine entry x b h r s hx (k.val + n.val)
    (fun a => (ix4 b h r k (a.cast rfl)).val * (![1, 1, 1, 1] : Fin 4 → ℕ) a + ((⟨4, ![1, 1, 1, 4096]⟩ : Shape).rowMajor.symm n a).val)
    ![0, 0, 0, 0] (fun a => by fin_cases a <;> rfl) ?_ ?_ ?_ ?_
  · show b.val * 1 + _ = b.val
    rw [h0 0 (by decide), Nat.mul_one, Nat.add_zero]
  · show h.val * 1 + _ = h.val
    rw [h0 1 (by decide), Nat.mul_one, Nat.add_zero]
  · show r.val * 1 + _ = r.val
    rw [h0 2 (by decide), Nat.mul_one, Nat.add_zero]
  · show k.val * 1 + _ = k.val + n.val
    rw [h3, Nat.mul_one]

theorem reduceWindowAdd_apply (x : FVec Ideal S4x16x4096x4096 .f32) (b : Fin 4) (h : Fin 16) (r k : Fin 4096) (s : ℕ → EReal)
    (hx : ∀ j : Fin 4096, x (ix4 b h r j) = s j.val) (init : FVec Ideal S_ .f32) (hinit : ∀ i, init i = 0)
    (hw : S4x16x4096x4096.ReduceWindows (![1, 1, 1, 4096] : Fin 4 → Nat) ![1, 1, 1, 1] ![0, 0, 0, 0] ![0, 0, 0, 4095] S4x16x4096x4096)
    (hu : 0 < S_.numel) :
    Host.reduceWindowAdd ![1, 1, 1, 4096] ![1, 1, 1, 1] ![0, 0, 0, 0] ![0, 0, 0, 4095] x init hw hu (ix4 b h r k)
      = ∑ j ∈ Ico k.val 4096, s j := by
  unfold Host.reduceWindowAdd
  rw [hinit]
  show Ideal.hostReduceWindowAdd _ _ _ _ hw x 0 _ = _
  unfold Ideal.hostReduceWindowAdd
  exact reduceWindow_apply x b h r k s hx hw _ 0 rfl

theorem cum_apply (x : FVec Ideal S4x16x4096x4096 .f32) (b : Fin 4) (h : Fin 16) (r k : Fin 4096) (s : ℕ → EReal)
    (hx : ∀ j : Fin 4096, x (ix4 b h r j) = s j.val) : cum x (ix4 b h r k) = ∑ j ∈ Ico k.val 4096, s j := by
  unfold cum
  exact reduceWindowAdd_apply x b h r k s hx _ (fun i => by pointwise) _ _

/-- The score of a row of a batch and head against a key. -/
def score (h : FVec Ideal S16384x8192 .bf16) (b : Fin 4) (hh : Fin 16) (r : Fin 4096) : ℕ → EReal :=
  ext 0 fun x : Fin 4096 => (∑ d : Fin 128, h (ix2 ⟨b.val * 4096 + r.val, by omega⟩ ⟨hh.val * 128 + d.val, by omega⟩)
    * h (ix2 ⟨b.val * 4096 + x.val, by omega⟩ ⟨2048 + (hh.val * 128 + d.val), by omega⟩)) * scale

/-- A column of a batch's values. -/
def column (h : FVec Ideal S16384x8192 .bf16) (b : Fin 4) (d : Fin 2048) : ℕ → EReal :=
  ext 0 fun x : Fin 4096 => h (ix2 ⟨b.val * 4096 + x.val, by omega⟩ ⟨4096 + d.val, by omega⟩)

/-- The attention's result from its argument, at an index. -/
def target (h : FVec Ideal S16384x8192 .bf16) : FVec Ideal S16384x2048 .bf16 := fun y =>
  have h0 : (y 0).val < 16384 := (y 0).isLt
  have h1 : (y 1).val < 2048 := (y 1).isLt
  attend ((y 0).val % 4096) (score h ⟨(y 0).val / 4096, by omega⟩ ⟨(y 1).val / 128, by omega⟩ ⟨(y 0).val % 4096, by omega⟩)
      (column h ⟨(y 0).val / 4096, by omega⟩ (y 1))
    * gated (h (ix2 (y 0) ⟨6144 + (y 1).val, by omega⟩))

theorem scores_apply (h : FVec Ideal S16384x8192 .bf16) (b : Fin 4) (hh : Fin 16) (r x : Fin 4096) :
    scores h (ix4 b hh r x) = score h b hh r x.val := by
  unfold score
  rw [ext_val]
  pointwise [scores]
  rfl

/-- The weights of a row whose scores are given as a sequence. -/
theorem weights_apply (z : FVec Ideal S4x16x4096x4096 .f32) (b : Fin 4) (h : Fin 16) (r : Fin 4096) (s : ℕ → EReal)
    (hz : ∀ x : Fin 4096, z (ix4 b h r x) = s x.val) (hf : ∀ x < 4096, Finite (s x)) (x : Fin 4096) :
    weights z (ix4 b h r x) = weight r.val s x.val := by
  have hl : ∀ x : Fin 4096, lefts z (ix4 b h r x) = left r.val s x.val := fun x => lefts_apply z b h r x s (hz x) (hf x.val x.isLt)
  have e : cum (lefts z) (ix4 b h r x) - lefts z (ix4 b h r x) = after r.val s x.val := by
    rw [cum_apply _ b h r x _ hl, hl]
    exact sum_sub_own _ _ _ x.isLt (left_finite _ _ _ (hf x.val x.isLt))
  have eb : logSig (Host.negf z) (ix4 b h r x) = lb (s x.val) := by
    rw [← lbRef_neg (hf x.val x.isLt), ← hz]
    exact logSig_apply _ _
  show (if strict (ix4 b h r x) = 1#1 then Ideal.exp (logSig (Host.negf z) (ix4 b h r x)
    + (cum (lefts z) (ix4 b h r x) - lefts z (ix4 b h r x))) else zeros (ix4 b h r x)) = _
  unfold weight
  rw [e, eb, zeros_apply]
  simp only [strict_apply]

theorem mixed_apply (p : FVec Ideal S4x16x4096x4096 .f32) (h : FVec Ideal S16384x8192 .bf16) (y : S16384x2048.Idx)
    (h0 : (y 0).val < 16384) (h1 : (y 1).val < 2048) (s : ℕ → EReal)
    (hs : ∀ x : Fin 4096, p (ix4 ⟨(y 0).val / 4096, by omega⟩ ⟨(y 1).val / 128, by omega⟩ ⟨(y 0).val % 4096, by omega⟩ x)
      = weight ((y 0).val % 4096) s x.val) :
    mixed p h y = attend ((y 0).val % 4096) s (column h ⟨(y 0).val / 4096, by omega⟩ (y 1)) := by
  unfold attend
  rw [Finset.sum_range]
  pointwise [mixed]
  refine Finset.sum_congr rfl fun x _ => ?_
  unfold column
  rw [hs x, ext_val, mul_comm]

theorem gate_apply (h : FVec Ideal S16384x8192 .bf16) (y : S16384x2048.Idx) (h1 : (y 1).val < 2048) :
    gate h y = gated (h (ix2 (y 0) ⟨6144 + (y 1).val, by omega⟩)) := by
  unfold gated
  pointwise [gate]

/-- The reference's result, from its argument. -/
theorem res_target (c : Dev nD) (hf : ∀ (i : Fin 16384) (j : Fin 4096),
      Finite ((m ((c.tc : Thread nD τ).loc main_arg0) : FVec Ideal S16384x8192 .bf16) (ix2 i ⟨j.val, by omega⟩))) :
    Value.res_main_v32 m c = target (m ((c.tc : Thread nD τ).loc main_arg0)) := by
  rw [res_eq]
  funext y
  have h0 : (y 0).val < 16384 := (y 0).isLt
  have h1 : (y 1).val < 2048 := (y 1).isLt
  refine congrArg₂ (· * ·) (mixed_apply _ _ y h0 h1 _ fun x => weights_apply _ _ _ _ _ (scores_apply _ _ _ _) (fun x hx => ?_) x)
    (gate_apply _ y h1)
  unfold score
  rw [ext_lt _ _ hx]
  exact scaled_finite _ _ (fun d => hf _ ⟨_, by omega⟩) (fun d => hf _ ⟨_, by omega⟩)

end Cert.SbRefIdeal.Calc

end
-- ==== Proof.SbValue.lean ====
module

public import proofs.«01_k».proof.Proof.SbBlock
public import proofs.«01_k».proof.Proof.SbRead
public import proofs.«01_k».proof.Pre_finite_h

/-! The stick-breaking kernel's result is the reference's, where no entry of the queries and keys is infinite. -/

@[expose] public section

set_option maxRecDepth 16384

noncomputable section

namespace Cert.SbIdeal.Calc

open Cert.SbIdeal Cert.SbIdeal.Gen Cert.SbIdeal.Body Idealize.ShloMosaic Idealize.ShloMosaic.TcCoe Idealize.SL.Sem
open Idealize.ShloMosaic.Pipeline (Dat)
open Cert.Online (ext ext_lt gated Finite finite_of_abs)
open Cert.Stick

variable (m : (ℓ : Loc nD τ sig) → Buf (Elt Ideal) ℓ)

/-- The block each window is on at each grid point. -/
theorem maps : ∀ t : Fin (cfg0 (F := Ideal)).N, win0_0.index t = ![t.val / 256 * 16 + t.val % 16, t.val / 16 % 16]
    ∧ win0_1.index t = ![t.val / 256, 16 + t.val / 16 % 16] ∧ win0_2.index t = ![t.val / 256, 32 + t.val / 16 % 16]
    ∧ win0_3.index t = ![t.val / 256 * 16 + t.val % 16, 48 + t.val / 16 % 16]
    ∧ win0_4.index t = ![t.val / 256 * 16 + t.val % 16, t.val / 16 % 16] ∧ (grid0.coords t 2).val = t.val % 16 :=
  (by decide +kernel : ∀ t : Fin grid0.N, _)

/-- The argument. -/
abbrev H (c : Dev nD) : FVec Ideal S16384x8192 .bf16 := m ((c : Thread nD τ).loc main_arg0)

/-- The queries' block. -/
theorem blk_q (c : Dev nD) (t : Fin (cfg0 (F := Ideal)).N) (y : S256x128.Idx) (i : S16384x8192.Idx)
    (h0 : (i 0).val = (t.val / 256 * 16 + t.val % 16) * 256 + (y 0).val) (h1 : (i 1).val = t.val / 16 % 16 * 128 + (y 1).val) :
    iblk m c 0 t y = H m c i := by
  show H m c (((cfg0.win 0).blk t).view.emb y) = _
  congr 1
  blk_ext [maps t, h0, h1]

/-- The keys' block. -/
theorem blk_k (c : Dev nD) (t : Fin (cfg0 (F := Ideal)).N) (y : S4096x128.Idx) (i : S16384x8192.Idx)
    (h0 : (i 0).val = t.val / 256 * 4096 + (y 0).val) (h1 : (i 1).val = (16 + t.val / 16 % 16) * 128 + (y 1).val) :
    iblk m c 1 t y = H m c i := by
  show H m c (((cfg0.win 1).blk t).view.emb y) = _
  congr 1
  blk_ext [maps t, h0, h1]

/-- The values' block. -/
theorem blk_v (c : Dev nD) (t : Fin (cfg0 (F := Ideal)).N) (y : S4096x128.Idx) (i : S16384x8192.Idx)
    (h0 : (i 0).val = t.val / 256 * 4096 + (y 0).val) (h1 : (i 1).val = (32 + t.val / 16 % 16) * 128 + (y 1).val) :
    iblk m c 2 t y = H m c i := by
  show H m c (((cfg0.win 2).blk t).view.emb y) = _
  congr 1
  blk_ext [maps t, h0, h1]

/-- The gates' block. -/
theorem blk_h (c : Dev nD) (t : Fin (cfg0 (F := Ideal)).N) (y : S256x128.Idx) (i : S16384x8192.Idx)
    (h0 : (i 0).val = (t.val / 256 * 16 + t.val % 16) * 256 + (y 0).val) (h1 : (i 1).val = (48 + t.val / 16 % 16) * 128 + (y 1).val) :
    iblk m c 3 t y = H m c i := by
  show H m c (((cfg0.win 3).blk t).view.emb y) = _
  congr 1
  blk_ext [maps t, h0, h1]

/-- The result's block: where an entry of it lies. -/
theorem emb_out (t : Fin (cfg0 (F := Ideal)).N) (y : S256x128.Idx) :
    ((((cfg0 (F := Ideal)).win 4).blk t).view.emb y 0).val = (t.val / 256 * 16 + t.val % 16) * 256 + (y 0).val
    ∧ ((((cfg0 (F := Ideal)).win 4).blk t).view.emb y 1).val = t.val / 16 % 16 * 128 + (y 1).val := by
  constructor <;> blk_simp <;> simp [maps t]

/-- What a grid point stores, at an index of its block, is the target at the array index under it. -/
theorem stored (c : Dev nD) (hf : ∀ (i : Fin 16384) (j : Fin 4096), Finite (H m c (ix2 i ⟨j.val, by omega⟩)))
    (t : Fin (cfg0 (F := Ideal)).N) (y : S256x128.Idx) :
    block (grid0.coords t) (iblk m c 0 t) (iblk m c 1 t) (iblk m c 2 t) (iblk m c 3 t) y
      = Cert.SbRefIdeal.Calc.target (H m c) ((((cfg0 (F := Ideal)).win 4).blk t).view.emb y) := by
  have ht : t.val < 1024 := t.isLt
  have y0 : (y 0).val < 256 := (y 0).isLt
  have y1 : (y 1).val < 128 := (y 1).isLt
  obtain ⟨e0, e1⟩ := emb_out t y
  have ha := (maps t).2.2.2.2.2
  have hsc : ∀ (r : Fin 256) (x : ℕ), score (iblk m c 0 t) (iblk m c 1 t) r x
      = Cert.SbRefIdeal.Calc.score (H m c) ⟨t.val / 256, by omega⟩ ⟨t.val / 16 % 16, by omega⟩
          ⟨256 * (t.val % 16) + r.val, by omega⟩ x := by
    intro r x
    unfold score Cert.SbRefIdeal.Calc.score
    congr 1
    funext x
    refine congrArg (· * scale) (Finset.sum_congr rfl fun d _ => ?_)
    refine congrArg₂ (· * ·) (blk_q m c t _ _ ?_ ?_) (blk_k m c t _ _ ?_ ?_)
    · show t.val / 256 * 4096 + (256 * (t.val % 16) + r.val) = (t.val / 256 * 16 + t.val % 16) * 256 + r.val
      ring
    · rfl
    · rfl
    · show 2048 + (t.val / 16 % 16 * 128 + d.val) = (16 + t.val / 16 % 16) * 128 + d.val
      ring
  rw [block_eq]
  · unfold Cert.SbRefIdeal.Calc.target
    dsimp only
    refine congrArg₂ (· * ·) ?_ (congrArg gated (blk_h m c t y _ e0 ?_))
    · have hr : ((((cfg0 (F := Ideal)).win 4).blk t).view.emb y 0).val % 4096 = 256 * (t.val % 16) + (y 0).val := by rw [e0]; omega
      have h1 : 256 * (grid0.coords t 2).val + (y 0).val = ((((cfg0 (F := Ideal)).win 4).blk t).view.emb y 0).val % 4096 := by
        rw [ha, hr]
      rw [h1]
      refine congrArg₂ (attend _) ((funext (hsc (y 0))).trans ?_) ?_
      · congr 1
        · exact Fin.ext (show t.val / 256 = ((((cfg0 (F := Ideal)).win 4).blk t).view.emb y 0).val / 4096 by rw [e0]; omega)
        · exact Fin.ext (show t.val / 16 % 16 = ((((cfg0 (F := Ideal)).win 4).blk t).view.emb y 1).val / 128 by rw [e1]; omega)
        · exact Fin.ext hr.symm
      · unfold column Cert.SbRefIdeal.Calc.column
        congr 1
        funext x
        refine blk_v m c t _ _ ?_ ?_
        · show ((((cfg0 (F := Ideal)).win 4).blk t).view.emb y 0).val / 4096 * 4096 + x.val = t.val / 256 * 4096 + x.val
          rw [e0]
          omega
        · show 4096 + ((((cfg0 (F := Ideal)).win 4).blk t).view.emb y 1).val = (32 + t.val / 16 % 16) * 128 + (y 1).val
          rw [e1]
          ring
    · show 6144 + ((((cfg0 (F := Ideal)).win 4).blk t).view.emb y 1).val = (48 + t.val / 16 % 16) * 128 + (y 1).val
      rw [e1]
      ring
  · intro r x hx
    rw [hsc]
    unfold Cert.SbRefIdeal.Calc.score
    rw [ext_lt _ _ hx]
    exact scaled_finite _ _ (fun d => hf _ ⟨_, by omega⟩) (fun d => hf _ ⟨_, by omega⟩)

/-- The result array after the whole grid. -/
theorem result (c : Dev nD) (hf : ∀ (i : Fin 16384) (j : Fin 4096), Finite (H m c (ix2 i ⟨j.val, by omega⟩))) :
    (dats m 0 c).arrAt 4 (cfg0 (F := Ideal)).N = Cert.SbRefIdeal.Calc.target (H m c) := by
  refine (dats m 0 c).arrAt_eq_of_covers 4 _ (by decide +kernel) fun t _ y => ?_
  blk_simp
  rw [after0_4]
  exact stored m c hf t y

/-- What the precondition says of the argument. -/
theorem finite_of_mask [Cert.Pre_finite_h.Facts] (h : FVec Ideal S16384x8192 .bf16)
    (hm : Cert.Pre_finite_h.fn (F := Ideal) h = fun _ => 1#1) (i : Fin 16384) (j : Fin 4096) : Finite (h (ix2 i ⟨j.val, by omega⟩)) := by
  have hi := congrFun hm (ix2 i j)
  revert hi
  pointwise [Cert.Pre_finite_h.fn]
  intro hi
  have hb : ∀ b : Bool, BitVec.ofBool b = 1#1 → b = true := by decide
  have hlt := of_decide_eq_true (hb _ hi)
  rw [show Ideal.ofBits .bf16 0x7F80#16 = ⊤ by simp [Ideal.ofBits, Ideal.ieee]] at hlt
  exact finite_of_abs hlt

end Cert.SbIdeal.Calc

end
-- ==== Proof.RopeCValue.lean ====
module

public import proofs.«01_k».proof.Proof.Gen.RopeCIdeal.Value
public import proofs.«01_k».proof.Proof.Gen.RopeCRefIdeal.Run
public import Idealize.ShloMosaic.Lib.Pipeline.ValueKit
public import Idealize.ShloMosaic.Lib.Pointwise
public import Idealize.ShloMosaic.Lib.IdealHost
public import Idealize.ShloMosaic.Lib.Claim

/-! The tables of cosines and sines with 32 frequencies: the arrays the grid leaves are the cosines and the sines of
the reference's angles. -/

@[expose] public section

set_option maxRecDepth 16384

noncomputable section

namespace Cert.RopeCIdeal.Calc

open Cert.RopeCIdeal Cert.RopeCIdeal.Gen Idealize.ShloMosaic Idealize.ShloMosaic.TcCoe Idealize.SL.Sem
open Idealize.ShloMosaic.Pipeline (Dat)

/-- The reference's angles, as it computes them. -/
abbrev angles (p : IVec S4x4096 32) : FVec Ideal S16384x128 .f32 :=
  shapeCast _ (broadcastInDim Cert.RopeCRefIdeal.S4x4096x4x32 ![0, 1, 2, 3] Cert.RopeCRefIdeal.Gen.bcast_S4x4096x1x32_S4x4096x4x32_0_1_2_3
    (broadcastInDim Cert.RopeCRefIdeal.S4x4096x1x32 ![0, 1, 3] Cert.RopeCRefIdeal.Gen.bcast_S4x4096x32_S4x4096x1x32_0_1_3 (mulf
      (broadcastInDim Cert.RopeCRefIdeal.S4x4096x32 ![0, 1, 2] Cert.RopeCRefIdeal.Gen.bcast_S4x4096x1_S4x4096x32_0_1_2
        (broadcastInDim Cert.RopeCRefIdeal.S4x4096x1 ![0, 1] Cert.RopeCRefIdeal.Gen.bcast_S4x4096_S4x4096x1_0_1 (sitofp .f32 p)))
      (broadcastInDim Cert.RopeCRefIdeal.S4x4096x32 ![0, 1, 2] Cert.RopeCRefIdeal.Gen.bcast_S1x1x32_S4x4096x32_0_1_2
        (broadcastInDim Cert.RopeCRefIdeal.S1x1x32 ![2] Cert.RopeCRefIdeal.Gen.bcast_S32_S1x1x32_2 (Host.exp (Host.divf
          (mulf (broadcastInDim Cert.RopeCRefIdeal.S32 ![] Cert.RopeCRefIdeal.Gen.bcast_S_S32 (constant Cert.RopeCRefIdeal.S_ .f32 0xC1135D8E#32))
            (sitofp .f32 (iotaInDim Cert.RopeCRefIdeal.S32 32 0)))
          (broadcastInDim Cert.RopeCRefIdeal.S32 ![] Cert.RopeCRefIdeal.Gen.bcast_S_S32 (constant Cert.RopeCRefIdeal.S_ .f32 0x42000000#32))))))))
    ) Cert.RopeCRefIdeal.Gen.shapeCasts_S4x4096x4x32_S16384x128

/-- The words of a lane's number, as the kernel computes it: the remainder of the lane by 32. -/
theorem lane : ∀ j : Fin 128, Scalar.select
      (IntOp.andi
        (IntOp.xori (IntOp.cmpi .slt (IntOp.remsi ArithUnit.vector (BitVec.ofNat 32 j.val)
            (Scalar.select (Scalar.cmpi .eq 32#32 0#32) 1#32 32#32)) 0#32)
          (Scalar.cmpi .slt (Scalar.select (Scalar.cmpi .eq 32#32 0#32) 1#32 32#32) 0#32))
        (IntOp.cmpi .ne (IntOp.remsi ArithUnit.vector (BitVec.ofNat 32 j.val)
            (Scalar.select (Scalar.cmpi .eq 32#32 0#32) 1#32 32#32)) 0#32))
      (IntOp.addi (IntOp.remsi ArithUnit.vector (BitVec.ofNat 32 j.val)
          (Scalar.select (Scalar.cmpi .eq 32#32 0#32) 1#32 32#32))
        (Scalar.select (Scalar.cmpi .eq 32#32 0#32) 1#32 32#32))
      (IntOp.remsi ArithUnit.vector (BitVec.ofNat 32 j.val)
        (Scalar.select (Scalar.cmpi .eq 32#32 0#32) 1#32 32#32))
    = BitVec.ofNat 32 (j.val % 32) := by decide +kernel

/-- The logarithm of the base, negated, in f32. -/
theorem log_word : Ideal.ofBits .f32 0xC1135D8E#32 = ((-(9657742 / 1048576 : ℝ) : ℝ) : EReal) := by
  simp [Ideal.ofBits, Ideal.ieee, -EReal.coe_mul, -EReal.coe_neg]; norm_num

/-- The number of frequencies, in f32. -/
theorem half_word : Ideal.ofBits .f32 0x42000000#32 = ((32 : ℝ) : EReal) := by
  simp [Ideal.ofBits, Ideal.ieee, -EReal.coe_mul]; norm_num

/-- The kernel's one factor: the negated logarithm over the number of frequencies, exact in f32. -/
theorem factor_word : Ideal.ofBits .f32 0xBE935D8E#32 = ((-(9657742 / (1048576 * 32) : ℝ) : ℝ) : EReal) := by
  simp [Ideal.ofBits, Ideal.ieee, -EReal.coe_mul, -EReal.coe_neg]; norm_num

/-- The exponents agree. -/
theorem exponent (x : ℝ) : (x : EReal) * Ideal.ofBits .f32 0xBE935D8E#32
    = Ideal.div (Ideal.ofBits .f32 0xC1135D8E#32 * (x : EReal)) (Ideal.ofBits .f32 0x42000000#32) := by
  rw [log_word, half_word, factor_word, Ideal.div_coe (by norm_num), ← EReal.coe_mul, ← EReal.coe_mul, ← EReal.coe_mul]
  congr 1
  ring

/-- An angle from a position and a lane. -/
def angle (p : BitVec 32) (j : ℕ) : EReal :=
  (FloatOps.sitofp (F := Ideal) .f32 p : EReal) * Ideal.exp (Ideal.div
    (Ideal.ofBits .f32 0xC1135D8E#32 * (FloatOps.sitofp (F := Ideal) .f32 (BitVec.ofNat 32 (j % 32)) : EReal))
    (Ideal.ofBits .f32 0x42000000#32))

/-- The reference's angle at an index. -/
theorem angles_apply (p : IVec S4x4096 32) (y : S16384x128.Idx) :
    angles p y = angle (p (ix2 ⟨(y 0).val / 4096, by have h : (y 0).val < 16384 := (y 0).isLt; omega⟩
      ⟨(y 0).val % 4096, Nat.mod_lt _ (by decide)⟩)) (y 1).val := by
  have h0 : (y 0).val < 16384 := (y 0).isLt
  have h1 : (y 1).val < 128 := (y 1).isLt
  unfold angle
  pointwise [angles]

/-- The kernel's angle at an index of its block. -/
theorem pay (v : Vec Ideal S1024x1 .f32) (y : S1024x128.Idx) (p : BitVec 32)
    (hp : (v (ix2 (y 0) 0) : EReal) = (FloatOps.sitofp (F := Ideal) .f32 p : EReal)) :
    k0_pay1 v y = angle p (y 1).val := by
  unfold angle
  pointwise [k0_pay1]
  rw [lane (y 1), hp]
  exact congrArg (fun e => (FloatOps.sitofp (F := Ideal) .f32 p : EReal) * Ideal.exp e) (exponent _)

variable (m : (ℓ : Loc nD τ sig) → Buf (Elt Ideal) ℓ)

/-- The block each window is on at each grid point. -/
theorem maps : ∀ t : Fin cfg0.N, win0_0.index t = ![t.val, 0] ∧ win0_1.index t = ![t.val, 0]
    ∧ win0_2.index t = ![t.val, 0] :=
  (by decide +kernel : ∀ t : Fin grid0.N, _)

theorem point_lt (t : Fin cfg0.N) : t.val < 16 := t.isLt

/-- The positions. -/
abbrev pos (c : Dev nD) : IVec S4x4096 32 := m ((c : Thread nD τ).loc main_arg0)

/-- The positions as the kernel takes them: one column of floats. -/
theorem column (c : Dev nD) : (V m c main_v1 : FVec Ideal S16384x1 .f32)
    = (sitofp (F := Ideal) .f32 (shapeCast S16384x1 (pos m c) shapeCasts_S4x4096_S16384x1) : FVec Ideal S16384x1 .f32) := by
  unfold V
  after_results <;> rfl

/-- The column at an index. -/
theorem column_apply (p : IVec S4x4096 32) (i : S16384x1.Idx) (x : S4x4096.Idx)
    (h0 : (x 0).val = (i 0).val / 4096) (h1 : (x 1).val = (i 0).val % 4096) :
    sitofp (F := Ideal) .f32 (shapeCast S16384x1 p shapeCasts_S4x4096_S16384x1) i = FloatOps.sitofp (F := Ideal) .f32 (p x) := by
  have hi0 : (i 0).val < 16384 := (i 0).isLt
  have hi1 : (i 1).val < 1 := (i 1).isLt
  pointwise []
  refine congrArg (fun x => FloatOps.sitofp (F := Ideal) .f32 (p x)) ?_
  funext a
  fin_cases a
  · exact Fin.ext h0.symm
  · exact Fin.ext h1.symm

/-- The positions' block. -/
theorem blk (c : Dev nD) (t : Fin cfg0.N) (r : Fin 1024) (x : S4x4096.Idx)
    (h0 : (x 0).val = (1024 * t.val + r.val) / 4096) (h1 : (x 1).val = (1024 * t.val + r.val) % 4096) :
    (iblk m c 0 t (ix2 r 0) : EReal) = (FloatOps.sitofp (F := Ideal) .f32 (pos m c x) : EReal) := by
  have ht := point_lt t
  have hr : r.val < 1024 := r.isLt
  have e : ((cfg0.win 0).blk t).view.emb (ix2 r 0 : S1024x1.Idx) = (ix2 ⟨1024 * t.val + r.val, by omega⟩ 0 : S16384x1.Idx) := by
    blk_ext [maps t]
  show V m c main_v1 (((cfg0.win 0).blk t).view.emb (ix2 r 0 : S1024x1.Idx)) = _
  rw [e]
  exact (congrFun (column m c) _).trans (column_apply _ _ x h0 h1)

/-- The angle a grid point computes. -/
theorem stored (c : Dev nD) (t : Fin cfg0.N) (y : S1024x128.Idx) (z : S16384x128.Idx) (h0 : (z 0).val = 1024 * t.val + (y 0).val)
    (h1 : (z 1).val = (y 1).val) : k0_pay1 (iblk m c 0 t) y = angles (pos m c) z := by
  have ht := point_lt t
  rw [angles_apply, h1]
  exact pay _ y _ (blk m c t (y 0) _ (by show (z 0).val / 4096 = _; rw [h0]) (by show (z 0).val % 4096 = _; rw [h0]))

/-- The cosines after the whole grid. -/
theorem result_cos (c : Dev nD) : (dats m 0 c).arrAt 1 cfg0.N = Host.cos (angles (pos m c)) := by
  refine (dats m 0 c).arrAt_eq_of_covers 1 _ (by decide +kernel) fun t _ y => ?_
  blk_simp
  rw [after0_1]
  frame_out
  have ht := point_lt t
  have y0 : (y 0).val < 1024 := (y 0).isLt
  have e : ((cfg0.win 1).blk t).view.emb y = (ix2 ⟨1024 * t.val + (y 0).val, by omega⟩ (y 1) : S16384x128.Idx) := by
    blk_ext [maps t]
  exact congrArg Ideal.cos (stored m c t y (((cfg0.win 1).blk t).view.emb y) (by rw [e]; rfl) (by rw [e]; rfl))

/-- The sines after the whole grid. -/
theorem result_sin (c : Dev nD) : (dats m 0 c).arrAt 2 cfg0.N = Host.sin (angles (pos m c)) := by
  refine (dats m 0 c).arrAt_eq_of_covers 2 _ (by decide +kernel) fun t _ y => ?_
  blk_simp
  rw [after0_2]
  frame_out
  have ht := point_lt t
  have y0 : (y 0).val < 1024 := (y 0).isLt
  have e : ((cfg0.win 2).blk t).view.emb y = (ix2 ⟨1024 * t.val + (y 0).val, by omega⟩ (y 1) : S16384x128.Idx) := by
    blk_ext [maps t]
  exact congrArg Ideal.sin (stored m c t y (((cfg0.win 2).blk t).view.emb y) (by rw [e]; rfl) (by rw [e]; rfl))

end Cert.RopeCIdeal.Calc

end
-- ==== Proof.RopeDValue.lean ====
module

public import proofs.«01_k».proof.Proof.Gen.RopeDIdeal.Value
public import proofs.«01_k».proof.Proof.Gen.RopeDRefIdeal.Run
public import Idealize.ShloMosaic.Lib.Pipeline.ValueKit
public import Idealize.ShloMosaic.Lib.Pointwise
public import Idealize.ShloMosaic.Lib.IdealHost
public import Idealize.ShloMosaic.Lib.Claim

/-! The tables of cosines and sines with 128 frequencies: the arrays the grid leaves are the cosines and the sines of
the reference's angles. -/

@[expose] public section

set_option maxRecDepth 16384

noncomputable section

namespace Cert.RopeDIdeal.Calc

open Cert.RopeDIdeal Cert.RopeDIdeal.Gen Idealize.ShloMosaic Idealize.ShloMosaic.TcCoe Idealize.SL.Sem
open Idealize.ShloMosaic.Pipeline (Dat)

/-- The reference's angles, as it computes them. -/
abbrev angles (p : IVec S4x4096 32) : FVec Ideal S16384x128 .f32 :=
  shapeCast _ (mulf
    (broadcastInDim Cert.RopeDRefIdeal.S4x4096x128 ![0, 1, 2] Cert.RopeDRefIdeal.Gen.bcast_S4x4096x1_S4x4096x128_0_1_2
      (broadcastInDim Cert.RopeDRefIdeal.S4x4096x1 ![0, 1] Cert.RopeDRefIdeal.Gen.bcast_S4x4096_S4x4096x1_0_1 (sitofp .f32 p)))
    (broadcastInDim Cert.RopeDRefIdeal.S4x4096x128 ![0, 1, 2] Cert.RopeDRefIdeal.Gen.bcast_S1x1x128_S4x4096x128_0_1_2
      (broadcastInDim Cert.RopeDRefIdeal.S1x1x128 ![2] Cert.RopeDRefIdeal.Gen.bcast_S128_S1x1x128_2 (Host.exp (Host.divf
        (mulf (broadcastInDim Cert.RopeDRefIdeal.S128 ![] Cert.RopeDRefIdeal.Gen.bcast_S_S128 (constant Cert.RopeDRefIdeal.S_ .f32 0xC1135D8E#32))
          (sitofp .f32 (iotaInDim Cert.RopeDRefIdeal.S128 32 0)))
        (broadcastInDim Cert.RopeDRefIdeal.S128 ![] Cert.RopeDRefIdeal.Gen.bcast_S_S128 (constant Cert.RopeDRefIdeal.S_ .f32 0x43000000#32)))))))
    Cert.RopeDRefIdeal.Gen.shapeCasts_S4x4096x128_S16384x128

/-- The words of a lane's number, as the kernel computes it: the remainder of the lane by 128. -/
theorem lane : ∀ j : Fin 128, Scalar.select
      (IntOp.andi
        (IntOp.xori (IntOp.cmpi .slt (IntOp.remsi ArithUnit.vector (BitVec.ofNat 32 j.val)
            (Scalar.select (Scalar.cmpi .eq 128#32 0#32) 1#32 128#32)) 0#32)
          (Scalar.cmpi .slt (Scalar.select (Scalar.cmpi .eq 128#32 0#32) 1#32 128#32) 0#32))
        (IntOp.cmpi .ne (IntOp.remsi ArithUnit.vector (BitVec.ofNat 32 j.val)
            (Scalar.select (Scalar.cmpi .eq 128#32 0#32) 1#32 128#32)) 0#32))
      (IntOp.addi (IntOp.remsi ArithUnit.vector (BitVec.ofNat 32 j.val)
          (Scalar.select (Scalar.cmpi .eq 128#32 0#32) 1#32 128#32))
        (Scalar.select (Scalar.cmpi .eq 128#32 0#32) 1#32 128#32))
      (IntOp.remsi ArithUnit.vector (BitVec.ofNat 32 j.val)
        (Scalar.select (Scalar.cmpi .eq 128#32 0#32) 1#32 128#32))
    = BitVec.ofNat 32 (j.val % 128) := by decide +kernel

/-- The logarithm of the base, negated, in f32. -/
theorem log_word : Ideal.ofBits .f32 0xC1135D8E#32 = ((-(9657742 / 1048576 : ℝ) : ℝ) : EReal) := by
  simp [Ideal.ofBits, Ideal.ieee, -EReal.coe_mul, -EReal.coe_neg]; norm_num

/-- The number of frequencies, in f32. -/
theorem half_word : Ideal.ofBits .f32 0x43000000#32 = ((128 : ℝ) : EReal) := by
  simp [Ideal.ofBits, Ideal.ieee, -EReal.coe_mul]; norm_num

/-- The kernel's one factor: the negated logarithm over the number of frequencies, exact in f32. -/
theorem factor_word : Ideal.ofBits .f32 0xBD935D8E#32 = ((-(9657742 / (1048576 * 128) : ℝ) : ℝ) : EReal) := by
  simp [Ideal.ofBits, Ideal.ieee, -EReal.coe_mul, -EReal.coe_neg]; norm_num

/-- The exponents agree. -/
theorem exponent (x : ℝ) : (x : EReal) * Ideal.ofBits .f32 0xBD935D8E#32
    = Ideal.div (Ideal.ofBits .f32 0xC1135D8E#32 * (x : EReal)) (Ideal.ofBits .f32 0x43000000#32) := by
  rw [log_word, half_word, factor_word, Ideal.div_coe (by norm_num), ← EReal.coe_mul, ← EReal.coe_mul, ← EReal.coe_mul]
  congr 1
  ring

/-- An angle from a position and a lane. -/
def angle (p : BitVec 32) (j : ℕ) : EReal :=
  (FloatOps.sitofp (F := Ideal) .f32 p : EReal) * Ideal.exp (Ideal.div
    (Ideal.ofBits .f32 0xC1135D8E#32 * (FloatOps.sitofp (F := Ideal) .f32 (BitVec.ofNat 32 (j % 128)) : EReal))
    (Ideal.ofBits .f32 0x43000000#32))

/-- The reference's angle at an index. -/
theorem angles_apply (p : IVec S4x4096 32) (y : S16384x128.Idx) :
    angles p y = angle (p (ix2 ⟨(y 0).val / 4096, by have h : (y 0).val < 16384 := (y 0).isLt; omega⟩
      ⟨(y 0).val % 4096, Nat.mod_lt _ (by decide)⟩)) (y 1).val := by
  have h0 : (y 0).val < 16384 := (y 0).isLt
  have h1 : (y 1).val < 128 := (y 1).isLt
  unfold angle
  pointwise [angles]
  rw [Nat.mod_eq_of_lt h1]

/-- The kernel's angle at an index of its block. -/
theorem pay (v : Vec Ideal S1024x1 .f32) (y : S1024x128.Idx) (p : BitVec 32)
    (hp : (v (ix2 (y 0) 0) : EReal) = (FloatOps.sitofp (F := Ideal) .f32 p : EReal)) :
    k0_pay1 v y = angle p (y 1).val := by
  unfold angle
  pointwise [k0_pay1]
  rw [lane (y 1), hp]
  exact congrArg (fun e => (FloatOps.sitofp (F := Ideal) .f32 p : EReal) * Ideal.exp e) (exponent _)

variable (m : (ℓ : Loc nD τ sig) → Buf (Elt Ideal) ℓ)

/-- The block each window is on at each grid point. -/
theorem maps : ∀ t : Fin cfg0.N, win0_0.index t = ![t.val, 0] ∧ win0_1.index t = ![t.val, 0]
    ∧ win0_2.index t = ![t.val, 0] :=
  (by decide +kernel : ∀ t : Fin grid0.N, _)

theorem point_lt (t : Fin cfg0.N) : t.val < 16 := t.isLt

/-- The positions. -/
abbrev pos (c : Dev nD) : IVec S4x4096 32 := m ((c : Thread nD τ).loc main_arg0)

/-- The positions as the kernel takes them: one column of floats. -/
theorem column (c : Dev nD) : (V m c main_v1 : FVec Ideal S16384x1 .f32)
    = (sitofp (F := Ideal) .f32 (shapeCast S16384x1 (pos m c) shapeCasts_S4x4096_S16384x1) : FVec Ideal S16384x1 .f32) := by
  unfold V
  after_results <;> rfl

/-- The column at an index. -/
theorem column_apply (p : IVec S4x4096 32) (i : S16384x1.Idx) (x : S4x4096.Idx)
    (h0 : (x 0).val = (i 0).val / 4096) (h1 : (x 1).val = (i 0).val % 4096) :
    sitofp (F := Ideal) .f32 (shapeCast S16384x1 p shapeCasts_S4x4096_S16384x1) i = FloatOps.sitofp (F := Ideal) .f32 (p x) := by
  have hi0 : (i 0).val < 16384 := (i 0).isLt
  have hi1 : (i 1).val < 1 := (i 1).isLt
  pointwise []
  refine congrArg (fun x => FloatOps.sitofp (F := Ideal) .f32 (p x)) ?_
  funext a
  fin_cases a
  · exact Fin.ext h0.symm
  · exact Fin.ext h1.symm

/-- The positions' block. -/
theorem blk (c : Dev nD) (t : Fin cfg0.N) (r : Fin 1024) (x : S4x4096.Idx)
    (h0 : (x 0).val = (1024 * t.val + r.val) / 4096) (h1 : (x 1).val = (1024 * t.val + r.val) % 4096) :
    (iblk m c 0 t (ix2 r 0) : EReal) = (FloatOps.sitofp (F := Ideal) .f32 (pos m c x) : EReal) := by
  have ht := point_lt t
  have hr : r.val < 1024 := r.isLt
  have e : ((cfg0.win 0).blk t).view.emb (ix2 r 0 : S1024x1.Idx) = (ix2 ⟨1024 * t.val + r.val, by omega⟩ 0 : S16384x1.Idx) := by
    blk_ext [maps t]
  show V m c main_v1 (((cfg0.win 0).blk t).view.emb (ix2 r 0 : S1024x1.Idx)) = _
  rw [e]
  exact (congrFun (column m c) _).trans (column_apply _ _ x h0 h1)

/-- The angle a grid point computes. -/
theorem stored (c : Dev nD) (t : Fin cfg0.N) (y : S1024x128.Idx) (z : S16384x128.Idx) (h0 : (z 0).val = 1024 * t.val + (y 0).val)
    (h1 : (z 1).val = (y 1).val) : k0_pay1 (iblk m c 0 t) y = angles (pos m c) z := by
  have ht := point_lt t
  rw [angles_apply, h1]
  exact pay _ y _ (blk m c t (y 0) _ (by show (z 0).val / 4096 = _; rw [h0]) (by show (z 0).val % 4096 = _; rw [h0]))

/-- The cosines after the whole grid. -/
theorem result_cos (c : Dev nD) : (dats m 0 c).arrAt 1 cfg0.N = Host.cos (angles (pos m c)) := by
  refine (dats m 0 c).arrAt_eq_of_covers 1 _ (by decide +kernel) fun t _ y => ?_
  blk_simp
  rw [after0_1]
  frame_out
  have ht := point_lt t
  have y0 : (y 0).val < 1024 := (y 0).isLt
  have e : ((cfg0.win 1).blk t).view.emb y = (ix2 ⟨1024 * t.val + (y 0).val, by omega⟩ (y 1) : S16384x128.Idx) := by
    blk_ext [maps t]
  exact congrArg Ideal.cos (stored m c t y (((cfg0.win 1).blk t).view.emb y) (by rw [e]; rfl) (by rw [e]; rfl))

/-- The sines after the whole grid. -/
theorem result_sin (c : Dev nD) : (dats m 0 c).arrAt 2 cfg0.N = Host.sin (angles (pos m c)) := by
  refine (dats m 0 c).arrAt_eq_of_covers 2 _ (by decide +kernel) fun t _ y => ?_
  blk_simp
  rw [after0_2]
  frame_out
  have ht := point_lt t
  have y0 : (y 0).val < 1024 := (y 0).isLt
  have e : ((cfg0.win 2).blk t).view.emb y = (ix2 ⟨1024 * t.val + (y 0).val, by omega⟩ (y 1) : S16384x128.Idx) := by
    blk_ext [maps t]
  exact congrArg Ideal.sin (stored m c t y (((cfg0.win 2).blk t).view.emb y) (by rw [e]; rfl) (by rw [e]; rfl))

end Cert.RopeDIdeal.Calc

end
-- ==== Proof.lean ====
module

public import proofs.«01_k».proof.Defs
public import proofs.«01_k».proof.Proof.Gen.Attn
public import proofs.«01_k».proof.Proof.Gen.Attn.Skeleton
public import proofs.«01_k».proof.Proof.Gen.Attn.Loops
public import proofs.«01_k».proof.Proof.Gen.Attn.Launch
public import proofs.«01_k».proof.Proof.Gen.Attn.Points
public import proofs.«01_k».proof.Proof.Gen.Attn.Frame
public import proofs.«01_k».proof.Proof.Gen.AttnIdeal
public import proofs.«01_k».proof.Proof.Gen.AttnIdeal.Skeleton
public import proofs.«01_k».proof.Proof.Gen.AttnIdeal.Loops
public import proofs.«01_k».proof.Proof.Gen.AttnIdeal.Launch
public import proofs.«01_k».proof.Proof.Gen.AttnIdeal.Points
public import proofs.«01_k».proof.Proof.Gen.AttnIdeal.Frame
public import proofs.«01_k».proof.Proof.Gen.AttnRefIdeal
public import proofs.«01_k».proof.Proof.Gen.ProjA
public import proofs.«01_k».proof.Proof.Gen.ProjA.Skeleton
public import proofs.«01_k».proof.Proof.Gen.ProjA.Launch
public import proofs.«01_k».proof.Proof.Gen.ProjA.Points
public import proofs.«01_k».proof.Proof.Gen.ProjA.Frame
public import proofs.«01_k».proof.Proof.Gen.ProjAIdeal
public import proofs.«01_k».proof.Proof.Gen.ProjAIdeal.Skeleton
public import proofs.«01_k».proof.Proof.Gen.ProjAIdeal.Launch
public import proofs.«01_k».proof.Proof.Gen.ProjAIdeal.Points
public import proofs.«01_k».proof.Proof.Gen.ProjAIdeal.Frame
public import proofs.«01_k».proof.Proof.Gen.ProjARefIdeal
public import proofs.«01_k».proof.Proof.Gen.ProjC
public import proofs.«01_k».proof.Proof.Gen.ProjC.Skeleton
public import proofs.«01_k».proof.Proof.Gen.ProjC.Launch
public import proofs.«01_k».proof.Proof.Gen.ProjC.Points
public import proofs.«01_k».proof.Proof.Gen.ProjC.Frame
public import proofs.«01_k».proof.Proof.Gen.ProjCIdeal
public import proofs.«01_k».proof.Proof.Gen.ProjCIdeal.Skeleton
public import proofs.«01_k».proof.Proof.Gen.ProjCIdeal.Launch
public import proofs.«01_k».proof.Proof.Gen.ProjCIdeal.Points
public import proofs.«01_k».proof.Proof.Gen.ProjCIdeal.Frame
public import proofs.«01_k».proof.Proof.Gen.ProjCRefIdeal
public import proofs.«01_k».proof.Proof.Gen.ProjD
public import proofs.«01_k».proof.Proof.Gen.ProjD.Skeleton
public import proofs.«01_k».proof.Proof.Gen.ProjD.Launch
public import proofs.«01_k».proof.Proof.Gen.ProjD.Points
public import proofs.«01_k».proof.Proof.Gen.ProjD.Frame
public import proofs.«01_k».proof.Proof.Gen.ProjDIdeal
public import proofs.«01_k».proof.Proof.Gen.ProjDIdeal.Skeleton
public import proofs.«01_k».proof.Proof.Gen.ProjDIdeal.Launch
public import proofs.«01_k».proof.Proof.Gen.ProjDIdeal.Points
public import proofs.«01_k».proof.Proof.Gen.ProjDIdeal.Frame
public import proofs.«01_k».proof.Proof.Gen.ProjDRefIdeal
public import proofs.«01_k».proof.Proof.Gen.OutA
public import proofs.«01_k».proof.Proof.Gen.OutA.Skeleton
public import proofs.«01_k».proof.Proof.Gen.OutA.Launch
public import proofs.«01_k».proof.Proof.Gen.OutA.Points
public import proofs.«01_k».proof.Proof.Gen.OutA.Frame
public import proofs.«01_k».proof.Proof.Gen.OutAIdeal
public import proofs.«01_k».proof.Proof.Gen.OutAIdeal.Skeleton
public import proofs.«01_k».proof.Proof.Gen.OutAIdeal.Launch
public import proofs.«01_k».proof.Proof.Gen.OutAIdeal.Points
public import proofs.«01_k».proof.Proof.Gen.OutAIdeal.Frame
public import proofs.«01_k».proof.Proof.Gen.OutARefIdeal
public import proofs.«01_k».proof.Proof.Gen.OutD
public import proofs.«01_k».proof.Proof.Gen.OutD.Skeleton
public import proofs.«01_k».proof.Proof.Gen.OutD.Launch
public import proofs.«01_k».proof.Proof.Gen.OutD.Points
public import proofs.«01_k».proof.Proof.Gen.OutD.Frame
public import proofs.«01_k».proof.Proof.Gen.OutDIdeal
public import proofs.«01_k».proof.Proof.Gen.OutDIdeal.Skeleton
public import proofs.«01_k».proof.Proof.Gen.OutDIdeal.Launch
public import proofs.«01_k».proof.Proof.Gen.OutDIdeal.Points
public import proofs.«01_k».proof.Proof.Gen.OutDIdeal.Frame
public import proofs.«01_k».proof.Proof.Gen.OutDRefIdeal
public import proofs.«01_k».proof.Proof.Gen.AttnIdeal.Value
public import proofs.«01_k».proof.Proof.Gen.AttnRefIdeal.Run
public import proofs.«01_k».proof.Proof.Gen.ProjAIdeal.Value
public import proofs.«01_k».proof.Proof.Gen.ProjARefIdeal.Run
public import proofs.«01_k».proof.Proof.Gen.ProjCIdeal.Value
public import proofs.«01_k».proof.Proof.Gen.ProjCRefIdeal.Run
public import proofs.«01_k».proof.Proof.Gen.ProjDIdeal.Value
public import proofs.«01_k».proof.Proof.Gen.ProjDRefIdeal.Run
public import proofs.«01_k».proof.Proof.Gen.OutAIdeal.Value
public import proofs.«01_k».proof.Proof.Gen.OutARefIdeal.Run
public import proofs.«01_k».proof.Proof.Gen.OutDIdeal.Value
public import proofs.«01_k».proof.Proof.Gen.OutDRefIdeal.Run
public import proofs.«01_k».proof.Proof.Gen.Conv
public import proofs.«01_k».proof.Proof.Gen.Conv.Skeleton
public import proofs.«01_k».proof.Proof.Gen.Conv.Launch
public import proofs.«01_k».proof.Proof.Gen.Conv.Points
public import proofs.«01_k».proof.Proof.Gen.Conv.Frame
public import proofs.«01_k».proof.Proof.Gen.ConvIdeal
public import proofs.«01_k».proof.Proof.Gen.ConvIdeal.Skeleton
public import proofs.«01_k».proof.Proof.Gen.ConvIdeal.Launch
public import proofs.«01_k».proof.Proof.Gen.ConvIdeal.Points
public import proofs.«01_k».proof.Proof.Gen.ConvIdeal.Frame
public import proofs.«01_k».proof.Proof.Gen.ConvRefIdeal
public import proofs.«01_k».proof.Proof.Gen.ConvIdeal.Value
public import proofs.«01_k».proof.Proof.Gen.ConvRefIdeal.Run
public import proofs.«01_k».proof.Proof.Gen.Sb
public import proofs.«01_k».proof.Proof.Gen.Sb.Skeleton
public import proofs.«01_k».proof.Proof.Gen.Sb.Launch
public import proofs.«01_k».proof.Proof.Gen.Sb.Points
public import proofs.«01_k».proof.Proof.Gen.SbIdeal
public import proofs.«01_k».proof.Proof.Gen.SbIdeal.Skeleton
public import proofs.«01_k».proof.Proof.Gen.SbIdeal.Launch
public import proofs.«01_k».proof.Proof.Gen.SbIdeal.Points
public import proofs.«01_k».proof.Proof.Gen.SbRefIdeal
public import proofs.«01_k».proof.Proof.Gen.SbRefIdeal.Run
public import proofs.«01_k».proof.Proof.Gen.Pre_finite_h

public import proofs.«01_k».proof.Pre_finite_queries_keys
public import Idealize.ShloMosaic.Lib.Claim
public import proofs.«01_k».proof.Proof.AttnValue
public import proofs.«01_k».proof.Proof.ProjAValue
public import proofs.«01_k».proof.Proof.ProjCValue
public import proofs.«01_k».proof.Proof.ProjDValue
public import proofs.«01_k».proof.Proof.OutAValue
public import proofs.«01_k».proof.Proof.OutDValue
public import proofs.«01_k».proof.Proof.SbBody
public import proofs.«01_k».proof.Proof.SbIdealBody
public import proofs.«01_k».proof.Proof.ConvValue
public import proofs.«01_k».proof.Proof.SbValue
public import proofs.«01_k».proof.Proof.RopeCValue
public import proofs.«01_k».proof.Proof.RopeDValue
public import proofs.«01_k».proof.Proof.Gen.RopeC
public import proofs.«01_k».proof.Proof.Gen.RopeC.Frame
public import proofs.«01_k».proof.Proof.Gen.RopeD
public import proofs.«01_k».proof.Proof.Gen.RopeD.Frame
public import Idealize.ShloMosaic.Adequacy
public import Idealize.ShloMosaic.Init

@[expose] public section

noncomputable section

namespace Cert.Proof

open Idealize.ShloMosaic Idealize.ShloMosaic.TcCoe Idealize.SL.Sem

/-- The shape fact the precondition of the attention names. -/
theorem pre_facts : Cert.Pre_finite_queries_keys.Facts := ⟨by decide⟩

attribute [local instance] pre_facts

/-- The reference of the attention runs, keeps its arguments and leaves every semaphore at zero. -/
theorem attn_reference_frame : Cert.quiescent_AttnRefIdeal := fun m ρ _ =>
  (θ_run Cert.AttnRefIdeal.defs _ _).mono (fun r h => ⟨fun c => (h c).2, sem_eq_zero_of_no_sems (by decide) r.2⟩)
    (Cert.AttnRefIdeal.Value.run (F := Ideal) m ρ)

/-- The attention: the kernel and its reference end with equal results. -/
theorem attn_value : Cert.algebraic_AttnIdeal_AttnRefIdeal_pre_finite_queries_keys := by
  pair_intro
  · run_from Cert.AttnIdeal.Gen.run_main m g
  · run_from Cert.AttnRefIdeal.Value.run (F := Ideal) m' g'
    rw [Cert.AttnRefIdeal.Calc.res_target, (hagree c).1, (hagree c).2.1, (hagree c).2.2.1, (hagree c).2.2.2]
    exact (Cert.AttnIdeal.Calc.result m c (Cert.AttnIdeal.Calc.finite_of_mask _ (hpre c).1)
      (Cert.AttnIdeal.Calc.finite_of_mask _ (hpre c).2)).symm

/-- The reference of the projection to 8192 columns runs, keeps its arguments and leaves every semaphore at zero. -/
theorem projA_reference_frame : Cert.quiescent_ProjARefIdeal := fun m ρ _ =>
  (θ_run Cert.ProjARefIdeal.defs _ _).mono (fun r h => ⟨fun c => (h c).2, sem_eq_zero_of_no_sems (by decide) r.2⟩)
    (Cert.ProjARefIdeal.Value.run (F := Ideal) m ρ)

/-- The projection to 8192 columns: the kernel and its reference end with equal results. -/
theorem projA_value : Cert.algebraic_ProjAIdeal_ProjARefIdeal := by
  pair_intro
  · run_from Cert.ProjAIdeal.Gen.run_main m g
  · hlo_run
    exact (Cert.ProjAIdeal.Calc.result m c).symm

/-- The reference of the projection to 3072 columns runs, keeps its arguments and leaves every semaphore at zero. -/
theorem projC_reference_frame : Cert.quiescent_ProjCRefIdeal := fun m ρ _ =>
  (θ_run Cert.ProjCRefIdeal.defs _ _).mono (fun r h => ⟨fun c => (h c).2, sem_eq_zero_of_no_sems (by decide) r.2⟩)
    (Cert.ProjCRefIdeal.Value.run (F := Ideal) m ρ)

/-- The projection to 3072 columns: the kernel and its reference end with equal results. -/
theorem projC_value : Cert.algebraic_ProjCIdeal_ProjCRefIdeal := by
  pair_intro
  · run_from Cert.ProjCIdeal.Gen.run_main m g
  · hlo_run
    exact (Cert.ProjCIdeal.Calc.result m c).symm

/-- The reference of the projection to 12288 columns runs, keeps its arguments and leaves every semaphore at zero. -/
theorem projD_reference_frame : Cert.quiescent_ProjDRefIdeal := fun m ρ _ =>
  (θ_run Cert.ProjDRefIdeal.defs _ _).mono (fun r h => ⟨fun c => (h c).2, sem_eq_zero_of_no_sems (by decide) r.2⟩)
    (Cert.ProjDRefIdeal.Value.run (F := Ideal) m ρ)

/-- The projection to 12288 columns: the kernel and its reference end with equal results. -/
theorem projD_value : Cert.algebraic_ProjDIdeal_ProjDRefIdeal := by
  pair_intro
  · run_from Cert.ProjDIdeal.Gen.run_main m g
  · hlo_run
    exact (Cert.ProjDIdeal.Calc.result m c).symm

/-- The reference of the output projection from 2048 columns runs, keeps its arguments and leaves every semaphore at zero. -/
theorem outA_reference_frame : Cert.quiescent_OutARefIdeal := fun m ρ _ =>
  (θ_run Cert.OutARefIdeal.defs _ _).mono (fun r h => ⟨fun c => (h c).2, sem_eq_zero_of_no_sems (by decide) r.2⟩)
    (Cert.OutARefIdeal.Value.run (F := Ideal) m ρ)

/-- The output projection from 2048 columns: the kernel and its reference end with equal results. -/
theorem outA_value : Cert.algebraic_OutAIdeal_OutARefIdeal := by
  pair_intro
  · run_from Cert.OutAIdeal.Gen.run_main m g
  · hlo_run
    exact (Cert.OutAIdeal.Calc.result m c).symm

/-- The reference of the output projection from 4096 columns runs, keeps its arguments and leaves every semaphore at zero. -/
theorem outD_reference_frame : Cert.quiescent_OutDRefIdeal := fun m ρ _ =>
  (θ_run Cert.OutDRefIdeal.defs _ _).mono (fun r h => ⟨fun c => (h c).2, sem_eq_zero_of_no_sems (by decide) r.2⟩)
    (Cert.OutDRefIdeal.Value.run (F := Ideal) m ρ)

/-- The output projection from 4096 columns: the kernel and its reference end with equal results. -/
theorem outD_value : Cert.algebraic_OutDIdeal_OutDRefIdeal := by
  pair_intro
  · run_from Cert.OutDIdeal.Gen.run_main m g
  · hlo_run
    exact (Cert.OutDIdeal.Calc.result m c).symm

/-- The reference of the short convolution runs, keeps its arguments and leaves every semaphore at zero. -/
theorem conv_reference_frame : Cert.quiescent_ConvRefIdeal := fun m ρ _ =>
  (θ_run Cert.ConvRefIdeal.defs _ _).mono (fun r h => ⟨fun c => (h c).2, sem_eq_zero_of_no_sems (by decide) r.2⟩)
    (Cert.ConvRefIdeal.Value.run (F := Ideal) m ρ)

/-- The short convolution: the kernel and its reference end with equal results. -/
theorem conv_value : Cert.algebraic_ConvIdeal_ConvRefIdeal := by
  pair_intro
  · run_from Cert.ConvIdeal.Gen.run_main m g
  · hlo_run
    exact (Cert.ConvRefIdeal.Calc.res_target _ _ _).trans (Cert.ConvIdeal.Calc.result m c).symm

/-- The reference of the stick-breaking attention runs, keeps its arguments and leaves every semaphore at zero. -/
theorem sb_reference_frame : Cert.quiescent_SbRefIdeal := fun m ρ _ =>
  (θ_run Cert.SbRefIdeal.defs _ _).mono (fun r h => ⟨fun c => (h c).2, sem_eq_zero_of_no_sems (by decide) r.2⟩)
    (Cert.SbRefIdeal.Value.run (F := Ideal) m ρ)

/-- The stick-breaking attention: the kernel and its reference end with equal results. -/
theorem sb_value : Cert.algebraic_SbIdeal_SbRefIdeal_pre_finite_h := by
  pair_intro
  · run_from Cert.SbIdeal.Body.run_main m g
  · run_from Cert.SbRefIdeal.Value.run (F := Ideal) m' g'
    have hf := Cert.SbIdeal.Calc.finite_of_mask _ (hpre c)
    rw [Cert.SbRefIdeal.Calc.res_target m' c (by rw [hagree c]; exact hf), hagree c]
    exact (Cert.SbIdeal.Calc.result m c hf).symm

/-- The reference of the tables of cosines and sines of period 32 runs, keeps its arguments and leaves every semaphore at zero. -/
theorem ropeC_reference_frame : Cert.quiescent_RopeCRefIdeal := fun m ρ _ =>
  (θ_run Cert.RopeCRefIdeal.defs _ _).mono (fun r h => ⟨fun c => (h c).2.2, sem_eq_zero_of_no_sems (by decide) r.2⟩)
    (Cert.RopeCRefIdeal.Value.run (F := Ideal) m ρ)

/-- The tables of cosines and sines of period 32: the kernel and its reference end with equal results. -/
theorem ropeC_value : Cert.algebraic_RopeCIdeal_RopeCRefIdeal := by
  pair_intro
  · run_from Cert.RopeCIdeal.Gen.run_main m g
  · hlo_run
    · exact (Cert.RopeCIdeal.Calc.result_cos m c).symm
    · exact (Cert.RopeCIdeal.Calc.result_sin m c).symm

/-- The reference of the tables of cosines and sines of 128 columns runs, keeps its arguments and leaves every semaphore at zero. -/
theorem ropeD_reference_frame : Cert.quiescent_RopeDRefIdeal := fun m ρ _ =>
  (θ_run Cert.RopeDRefIdeal.defs _ _).mono (fun r h => ⟨fun c => (h c).2.2, sem_eq_zero_of_no_sems (by decide) r.2⟩)
    (Cert.RopeDRefIdeal.Value.run (F := Ideal) m ρ)

/-- The tables of cosines and sines of 128 columns: the kernel and its reference end with equal results. -/
theorem ropeD_value : Cert.algebraic_RopeDIdeal_RopeDRefIdeal := by
  pair_intro
  · run_from Cert.RopeDIdeal.Gen.run_main m g
  · hlo_run
    · exact (Cert.RopeDIdeal.Calc.result_cos m c).symm
    · exact (Cert.RopeDIdeal.Calc.result_sin m c).symm

/-- All the claims together. -/
theorem claim : Cert.Claim := ⟨Cert.Attn.Gen.facts,
  Cert.AttnIdeal.Gen.facts,
  Cert.AttnRefIdeal.Gen.facts,
  Cert.ProjA.Gen.facts,
  Cert.ProjAIdeal.Gen.facts,
  Cert.ProjARefIdeal.Gen.facts,
  Cert.ProjC.Gen.facts,
  Cert.ProjCIdeal.Gen.facts,
  Cert.ProjCRefIdeal.Gen.facts,
  Cert.ProjD.Gen.facts,
  Cert.ProjDIdeal.Gen.facts,
  Cert.ProjDRefIdeal.Gen.facts,
  Cert.OutA.Gen.facts,
  Cert.OutAIdeal.Gen.facts,
  Cert.OutARefIdeal.Gen.facts,
  Cert.OutD.Gen.facts,
  Cert.OutDIdeal.Gen.facts,
  Cert.OutDRefIdeal.Gen.facts,
  Cert.Conv.Gen.facts,
  Cert.ConvIdeal.Gen.facts,
  Cert.ConvRefIdeal.Gen.facts,
  Cert.Sb.Gen.facts,
  Cert.SbIdeal.Gen.facts,
  Cert.SbRefIdeal.Gen.facts,
  Cert.RopeC.Gen.facts,
  Cert.RopeCIdeal.Gen.facts,
  Cert.RopeCRefIdeal.Gen.facts,
  Cert.RopeD.Gen.facts,
  Cert.RopeDIdeal.Gen.facts,
  Cert.RopeDRefIdeal.Gen.facts,
  pre_facts,
  Cert.Pre_finite_h.Gen.facts,
  fun m ρ _ => Cert.Attn.Gen.frame m ρ,
  fun m ρ _ => Cert.AttnIdeal.Gen.frame m ρ,
  fun m ρ _ => Cert.AttnIdeal.Gen.frame m ρ,
  attn_reference_frame,
  fun m ρ _ => attn_reference_frame m ρ trivial,
  fun m ρ _ => Cert.ProjA.Gen.frame m ρ,
  fun m ρ _ => Cert.ProjAIdeal.Gen.frame m ρ,
  projA_reference_frame,
  fun m ρ _ => Cert.ProjC.Gen.frame m ρ,
  fun m ρ _ => Cert.ProjCIdeal.Gen.frame m ρ,
  projC_reference_frame,
  fun m ρ _ => Cert.ProjD.Gen.frame m ρ,
  fun m ρ _ => Cert.ProjDIdeal.Gen.frame m ρ,
  projD_reference_frame,
  fun m ρ _ => Cert.OutA.Gen.frame m ρ,
  fun m ρ _ => Cert.OutAIdeal.Gen.frame m ρ,
  outA_reference_frame,
  fun m ρ _ => Cert.OutD.Gen.frame m ρ,
  fun m ρ _ => Cert.OutDIdeal.Gen.frame m ρ,
  outD_reference_frame,
  fun m ρ _ => Cert.Conv.Gen.frame m ρ,
  fun m ρ _ => Cert.ConvIdeal.Gen.frame m ρ,
  conv_reference_frame,
  fun m ρ _ => Cert.Sb.Body.frame m ρ,
  fun m ρ _ => Cert.SbIdeal.Body.frame m ρ,
  fun m ρ _ => Cert.SbIdeal.Body.frame m ρ,
  sb_reference_frame,
  fun m ρ _ => sb_reference_frame m ρ trivial,
  fun m ρ _ => Cert.RopeC.Gen.frame m ρ,
  fun m ρ _ => Cert.RopeCIdeal.Gen.frame m ρ,
  ropeC_reference_frame,
  fun m ρ _ => Cert.RopeD.Gen.frame m ρ,
  fun m ρ _ => Cert.RopeDIdeal.Gen.frame m ρ,
  ropeD_reference_frame,
  trivial,
  attn_value,
  trivial,
  projA_value,
  trivial,
  projC_value,
  trivial,
  projD_value,
  trivial,
  outA_value,
  trivial,
  outD_value,
  trivial,
  conv_value,
  IdealRules.named_const.statement _ _ _ _ _ rfl,
  sb_value,
  trivial,
  ropeC_value,
  trivial,
  ropeD_value⟩

end Cert.Proof

end
